-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def preserves_Kernel_KernelIdeal : Prop :=
  IdealRules.named_const.Statement Cert.KernelIdeal.κ "scale_log2e" .f32 0x3DD53B95#32 (((Real.sqrt 192)⁻¹ * (Real.log 2)⁻¹ : ℝ) : EReal)
  ∧ IdealRules.named_const.Statement Cert.KernelIdeal.κ "scale" .f32 0x3D93CD3A#32 (((Real.sqrt 192)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v50_0)) (v1 : (c : Dev Cert.KernelIdeal.nD) → Buf (Elt Ideal) ((c.tc : Thread Cert.KernelIdeal.nD Cert.KernelIdeal.τ).loc Cert.KernelIdeal.main_v50_1)) (v2 : (c : Dev Cert.KernelIdeal.nD) → Buf (Elt Ideal) ((c.tc : Thread Cert.KernelIdeal.nD Cert.KernelIdeal.τ).loc Cert.KernelIdeal.main_v50_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50_0) = v0 c
          ∧ r.2.mem ((c.tc : Thread Cert.KernelIdeal.nD Cert.KernelIdeal.τ).loc Cert.KernelIdeal.main_v50_1) = v1 c
          ∧ r.2.mem ((c.tc : Thread Cert.KernelIdeal.nD Cert.KernelIdeal.τ).loc Cert.KernelIdeal.main_v50_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_v4) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v10) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v9)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v9) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v12) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_v10) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v4_0)) (v1 : (c : Dev Cert.Kernel13Ideal.nD) → Buf (Elt Ideal) ((c.tc : Thread Cert.Kernel13Ideal.nD Cert.Kernel13Ideal.τ).loc Cert.Kernel13Ideal.main_v4_1)) (v2 : (c : Dev Cert.Kernel13Ideal.nD) → Buf (Elt Ideal) ((c.tc : Thread Cert.Kernel13Ideal.nD Cert.Kernel13Ideal.τ).loc Cert.Kernel13Ideal.main_v4_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4_0) = v0 c
          ∧ r.2.mem ((c.tc : Thread Cert.Kernel13Ideal.nD Cert.Kernel13Ideal.τ).loc Cert.Kernel13Ideal.main_v4_1) = v1 c
          ∧ r.2.mem ((c.tc : Thread Cert.Kernel13Ideal.nD Cert.Kernel13Ideal.τ).loc Cert.Kernel13Ideal.main_v4_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v24) = v0 c
          ∧ r.2.mem ((c.tc : Thread Cert.Reference13Ideal.nD Cert.Reference13Ideal.τ).loc Cert.Reference13Ideal.main_v25) = v1 c
          ∧ r.2.mem ((c.tc : Thread Cert.Reference13Ideal.nD Cert.Reference13Ideal.τ).loc Cert.Reference13Ideal.main_v26) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v4_0)) (v1 : (c : Dev Cert.Kernel17Ideal.nD) → Buf (Elt Ideal) ((c.tc : Thread Cert.Kernel17Ideal.nD Cert.Kernel17Ideal.τ).loc Cert.Kernel17Ideal.main_v4_1)) (v2 : (c : Dev Cert.Kernel17Ideal.nD) → Buf (Elt Ideal) ((c.tc : Thread Cert.Kernel17Ideal.nD Cert.Kernel17Ideal.τ).loc Cert.Kernel17Ideal.main_v4_2)) (v3 : (c : Dev Cert.Kernel17Ideal.nD) → Buf (Elt Ideal) ((c.tc : Thread Cert.Kernel17Ideal.nD Cert.Kernel17Ideal.τ).loc Cert.Kernel17Ideal.main_v4_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v4_0) = v0 c
          ∧ r.2.mem ((c.tc : Thread Cert.Kernel17Ideal.nD Cert.Kernel17Ideal.τ).loc Cert.Kernel17Ideal.main_v4_1) = v1 c
          ∧ r.2.mem ((c.tc : Thread Cert.Kernel17Ideal.nD Cert.Kernel17Ideal.τ).loc Cert.Kernel17Ideal.main_v4_2) = v2 c
          ∧ r.2.mem ((c.tc : Thread Cert.Kernel17Ideal.nD Cert.Kernel17Ideal.τ).loc Cert.Kernel17Ideal.main_v4_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v11) = v0 c
          ∧ r.2.mem ((c.tc : Thread Cert.Reference17Ideal.nD Cert.Reference17Ideal.τ).loc Cert.Reference17Ideal.main_v13) = v1 c
          ∧ r.2.mem ((c.tc : Thread Cert.Reference17Ideal.nD Cert.Reference17Ideal.τ).loc Cert.Reference17Ideal.main_v5) = v2 c
          ∧ r.2.mem ((c.tc : Thread Cert.Reference17Ideal.nD Cert.Reference17Ideal.τ).loc Cert.Reference17Ideal.main_v15) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v6_0)) (v1 : (c : Dev Cert.Kernel19Ideal.nD) → Buf (Elt Ideal) ((c.tc : Thread Cert.Kernel19Ideal.nD Cert.Kernel19Ideal.τ).loc Cert.Kernel19Ideal.main_v6_1)) (v2 : (c : Dev Cert.Kernel19Ideal.nD) → Buf (Elt Ideal) ((c.tc : Thread Cert.Kernel19Ideal.nD Cert.Kernel19Ideal.τ).loc Cert.Kernel19Ideal.main_v6_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v6_0) = v0 c
          ∧ r.2.mem ((c.tc : Thread Cert.Kernel19Ideal.nD Cert.Kernel19Ideal.τ).loc Cert.Kernel19Ideal.main_v6_1) = v1 c
          ∧ r.2.mem ((c.tc : Thread Cert.Kernel19Ideal.nD Cert.Kernel19Ideal.τ).loc Cert.Kernel19Ideal.main_v6_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v26) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel19 : Cert.Kernel19.Facts) (hKernel19Ideal : Cert.Kernel19Ideal.Facts) (hReference19Ideal : Cert.Reference19Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel19_Kernel19Ideal
    ∧ algebraic_Kernel19Ideal_Reference19Ideal (hKernel19Ideal := hKernel19Ideal) (hReference19Ideal := hReference19Ideal)
-- ==== Pre_finite.lean ====
abbrev S8192x8x192 : Shape := ⟨3, ![8192, 8, 192]⟩
abbrev S8192x8x128 : Shape := ⟨3, ![8192, 8, 128]⟩
abbrev S8192x64 : Shape := ⟨2, ![8192, 64]⟩
abbrev S8192x1024 : Shape := ⟨2, ![8192, 1024]⟩
abbrev S_ : Shape := ⟨0, ![]⟩

class Facts : Prop where
  bcast_S_S8192x8x192 : S_.BroadcastsInDim S8192x8x192 (![] : Fin 0 → Fin S8192x8x192.rank)
  reducesTo_S8192x8x192_S_d0_1_2 : S8192x8x192.ReducesTo [0, 1, 2] S_
  h_S_ : 0 < S_.numel
  bcast_S_S8192x8x128 : S_.BroadcastsInDim S8192x8x128 (![] : Fin 0 → Fin S8192x8x128.rank)
  reducesTo_S8192x8x128_S_d0_1_2 : S8192x8x128.ReducesTo [0, 1, 2] S_
  bcast_S_S8192x64 : S_.BroadcastsInDim S8192x64 (![] : Fin 0 → Fin S8192x64.rank)
  reducesTo_S8192x64_S_d0_1 : S8192x64.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_arg4 : FVec F S8192x1024 .f32) (main_v13 : IVec S_ 1) (main_v16 : IVec S8192x8x128 1) : IVec S_ 1 :=
  let main_c_5 : IVec S_ 1 := constantI S_ 1 1#1
  let main_v17 : IVec S_ 1 := (fun x v => Host.reduce IntOp.andi x v reducesTo_S8192x8x128_S_d0_1_2 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  main_v23

def fn {F : FTy → Type} [FloatOps F] (main_arg0 : FVec F S8192x8x192 .f32) (main_arg1 : FVec F S8192x8x128 .f32) (main_arg2 : FVec F S8192x64 .f32) (main_arg3 : FVec F S8192x8x128 .f32) (main_arg4 : FVec F S8192x1024 .f32) : IVec S_ 1 :=
  let main_v0 : FVec F S8192x8x192 .f32 := Host.absf main_arg0
  let main_cst : FVec F S_ .f32 := constant S_ .f32 0x7F800000#32
  let main_v1 : FVec F S8192x8x192 .f32 := broadcastInDim S8192x8x192 ![] bcast_S_S8192x8x192 main_cst
  let main_v2 : IVec S8192x8x192 1 := cmpf .olt main_v0 main_v1
  let main_c : IVec S_ 1 := constantI S_ 1 1#1
  let main_v3 : IVec S_ 1 := (fun x v => Host.reduce IntOp.andi x v reducesTo_S8192x8x192_S_d0_1_2 h_S_) main_v2 main_c
  let main_v4 : FVec F S8192x8x128 .f32 := Host.absf main_arg1
  let main_cst_0 : FVec F S_ .f32 := constant S_ .f32 0x7F800000#32
  let main_v5 : FVec F S8192x8x128 .f32 := broadcastInDim S8192x8x128 ![] bcast_S_S8192x8x128 main_cst_0
  let main_v6 : IVec S8192x8x128 1 := cmpf .olt main_v4 main_v5
  let main_c_1 : IVec S_ 1 := constantI S_ 1 1#1
  let main_v7 : IVec S_ 1 := (fun x v => Host.reduce IntOp.andi x v reducesTo_S8192x8x128_S_d0_1_2 h_S_) main_v6 main_c_1
  let main_v8 : IVec S_ 1 := andi main_v3 main_v7
  let main_v9 : FVec F S8192x64 .f32 := Host.absf main_arg2
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  let main_c_3 : IVec S_ 1 := constantI S_ 1 1#1
  let main_v12 : IVec S_ 1 := (fun x v => Host.reduce IntOp.andi x v reducesTo_S8192x64_S_d0_1 h_S_) main_v11 main_c_3
  let main_v13 : IVec S_ 1 := andi main_v8 main_v12
  let main_v14 : FVec F S8192x8x128 .f32 := Host.absf main_arg3
  let main_cst_4 : FVec F S_ .f32 := constant S_ .f32 0x7F800000#32
  let main_v15 : FVec F S8192x8x128 .f32 := broadcastInDim S8192x8x128 ![] bcast_S_S8192x8x128 main_cst_4
  let main_v16 : IVec S8192x8x128 1 := cmpf .olt main_v14 main_v15
  fn_part1 (F := F) main_arg4 main_v13 main_v16
-- ==== Kernel.lean ====
abbrev S8192x8x192 : Shape := ⟨3, ![8192, 8, 192]⟩
abbrev S8192x8x128 : Shape := ⟨3, ![8192, 8, 128]⟩
abbrev S8192x64 : Shape := ⟨2, ![8192, 64]⟩
abbrev S8192x1024 : Shape := ⟨2, ![8192, 1024]⟩
abbrev S8192x1x64 : Shape := ⟨3, ![8192, 1, 64]⟩
abbrev S8192x8x64 : Shape := ⟨3, ![8192, 8, 64]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x128x8192 : Shape := ⟨3, ![8, 128, 8192]⟩
abbrev S8192x8 : Shape := ⟨2, ![8192, 8]⟩
abbrev S8192x8x256 : Shape := ⟨3, ![8192, 8, 256]⟩
abbrev S8x8192x256 : Shape := ⟨3, ![8, 8192, 256]⟩
abbrev S8x256x8192 : Shape := ⟨3, ![8, 256, 8192]⟩
abbrev S8x1x8192 : Shape := ⟨3, ![8, 1, 8192]⟩
abbrev S1x1024x256 : Shape := ⟨3, ![1, 1024, 256]⟩
abbrev S1x256x1024 : Shape := ⟨3, ![1, 256, 1024]⟩
abbrev S1x1024x128 : Shape := ⟨3, ![1, 1024, 128]⟩
abbrev S1x8192x256 : Shape := ⟨3, ![1, 8192, 256]⟩
abbrev S8192x128 : Shape := ⟨2, ![8192, 128]⟩
abbrev S1x128x8192 : Shape := ⟨3, ![1, 128, 8192]⟩
abbrev S1x1x8192 : Shape := ⟨3, ![1, 1, 8192]⟩
abbrev S1x256x8192 : Shape := ⟨3, ![1, 256, 8192]⟩
abbrev S1x128x1024 : Shape := ⟨3, ![1, 128, 1024]⟩
abbrev S256x8192 : Shape := ⟨2, ![256, 8192]⟩
abbrev S1024x256 : Shape := ⟨2, ![1024, 256]⟩
abbrev S256x1024 : Shape := ⟨2, ![256, 1024]⟩
abbrev S1024x128 : Shape := ⟨2, ![1024, 128]⟩
abbrev S128x1024 : Shape := ⟨2, ![128, 1024]⟩
abbrev S1x512x256 : Shape := ⟨3, ![1, 512, 256]⟩
abbrev S512x256 : Shape := ⟨2, ![512, 256]⟩
abbrev S512x128 : Shape := ⟨2, ![512, 128]⟩
abbrev S1024x512 : Shape := ⟨2, ![1024, 512]⟩
abbrev S1x1x512 : Shape := ⟨3, ![1, 1, 512]⟩
abbrev S1x512 : Shape := ⟨2, ![1, 512]⟩
abbrev S1x128x512 : Shape := ⟨3, ![1, 128, 512]⟩
abbrev S128x512 : Shape := ⟨2, ![128, 512]⟩
abbrev S1x256x512 : Shape := ⟨3, ![1, 256, 512]⟩
abbrev S256x512 : Shape := ⟨2, ![256, 512]⟩

abbrev nBuf : Space → Nat
  | .hbm => 65
  | .vmem => 22
  | .smem => 0
  | _ => 0

abbrev bufTy : (tb : Table) → Fin (tcTables nBuf tb) → BufTy
  | .hbm, ⟨0, _⟩ => ⟨S8192x8x192, .f32⟩
  | .hbm, ⟨1, _⟩ => ⟨S8192x8x128, .f32⟩
  | .hbm, ⟨2, _⟩ => ⟨S8192x64, .f32⟩
  | .hbm, ⟨3, _⟩ => ⟨S8192x8x128, .f32⟩
  | .hbm, ⟨4, _⟩ => ⟨S8192x1024, .f32⟩
  | .hbm, ⟨5, _⟩ => ⟨S8192x1x64, .f32⟩
  | .hbm, ⟨6, _⟩ => ⟨S8192x8x64, .f32⟩
  | .hbm, ⟨7, _⟩ => ⟨S8192x8x128, .f32⟩
  | .hbm, ⟨8, _⟩ => ⟨S8x8192x8192, .f32⟩
  | .hbm, ⟨9, _⟩ => ⟨S8192x8x64, .f32⟩
  | .hbm, ⟨10, _⟩ => ⟨S8x8192x8192, .f32⟩
  | .hbm, ⟨11, _⟩ => ⟨S8x8192x8192, .f32⟩
  | .hbm, ⟨12, _⟩ => ⟨S_, .f32⟩
  | .hbm, ⟨13, _⟩ => ⟨S_, .f32⟩
  | .hbm, ⟨14, _⟩ => ⟨S8x8192x8192, .f32⟩
  | .hbm, ⟨15, _⟩ => ⟨S8x8192x8192, .f32⟩
  | .hbm, ⟨16, _⟩ => ⟨S_, .f32⟩
  | .hbm, ⟨17, _⟩ => ⟨S8x8192, .f32⟩
  | .hbm, ⟨18, _⟩ => ⟨S8x8192x1, .f32⟩
  | .hbm, ⟨19, _⟩ => ⟨S8x8192x8192, .f32⟩
  | .hbm, ⟨20, _⟩ => ⟨S8x8192x8192, .f32⟩
  | .hbm, ⟨21, _⟩ => ⟨S8x8192x8192, .f32⟩
  | .hbm, ⟨22, _⟩ => ⟨S_, .f32⟩
  | .hbm, ⟨23, _⟩ => ⟨S8x8192, .f32⟩
  | .hbm, ⟨24, _⟩ => ⟨S8x8192x1, .f32⟩
  | .hbm, ⟨25, _⟩ => ⟨S8x8192x8192, .f32⟩
  | .hbm, ⟨26, _⟩ => ⟨S8x8192x8192, .f32⟩
  | .hbm, ⟨27, _⟩ => ⟨S8x128x8192, .f32⟩
  | .hbm, ⟨28, _⟩ => ⟨S8192x8x128, .f32⟩
  | .hbm, ⟨29, _⟩ => ⟨S8192x1024, .f32⟩
  | .hbm, ⟨30, _⟩ => ⟨S8x8192x1, .f32⟩
  | .hbm, ⟨31, _⟩ => ⟨S8x8192x1, .f32⟩
  | .hbm, ⟨32, _⟩ => ⟨S_, .f32⟩
  | .hbm, ⟨33, _⟩ => ⟨S_, .f32⟩
  | .hbm, ⟨34, _⟩ => ⟨S8x8192x1, .f32⟩
  | .hbm, ⟨35, _⟩ => ⟨S8x8192x1, .f32⟩
  | .hbm, ⟨36, _⟩ => ⟨S8192x1024, .f32⟩
  | .hbm, ⟨37, _⟩ => ⟨S8192x8x128, .f32⟩
  | .hbm, ⟨38, _⟩ => ⟨S_, .f32⟩
  | .hbm, ⟨39, _⟩ => ⟨S8192x8, .f32⟩
  | .hbm, ⟨40, _⟩ => ⟨S_, .bf16⟩
  | .hbm, ⟨41, _⟩ => ⟨S8192x8x64, .bf16⟩
  | .hbm, ⟨42, _⟩ => ⟨S8192x8x192, .bf16⟩
  | .hbm, ⟨43, _⟩ => ⟨S8192x8x256, .bf16⟩
  | .hbm, ⟨44, _⟩ => ⟨S8x8192x256, .bf16⟩
  | .hbm, ⟨45, _⟩ => ⟨S8192x8x128, .bf16⟩
  | .hbm, ⟨46, _⟩ => ⟨S8192x8x64, .bf16⟩
  | .hbm, ⟨47, _⟩ => ⟨S8192x8x256, .bf16⟩
  | .hbm, ⟨48, _⟩ => ⟨S8192x8x128, .bf16⟩
  | .hbm, ⟨49, _⟩ => ⟨S_, .bf16⟩
  | .hbm, ⟨50, _⟩ => ⟨S8192x8x128, .bf16⟩
  | .hbm, ⟨51, _⟩ => ⟨S8192x8x256, .bf16⟩
  | .hbm, ⟨52, _⟩ => ⟨S8x8192x256, .bf16⟩
  | .hbm, ⟨53, _⟩ => ⟨S8192x1024, .bf16⟩
  | .hbm, ⟨54, _⟩ => ⟨S8192x8x128, .f32⟩
  | .hbm, ⟨55, _⟩ => ⟨S8x128x8192, .f32⟩
  | .hbm, ⟨56, _⟩ => ⟨S8x128x8192, .bf16⟩
  | .hbm, ⟨57, _⟩ => ⟨S8x8192x256, .bf16⟩
  | .hbm, ⟨58, _⟩ => ⟨S8x256x8192, .bf16⟩
  | .hbm, ⟨59, _⟩ => ⟨S8x1x8192, .f32⟩
  | .hbm, ⟨60, _⟩ => ⟨S8x8192, .f32⟩
  | .hbm, ⟨61, _⟩ => ⟨S8x1x8192, .f32⟩
  | .hbm, ⟨62, _⟩ => ⟨S8x256x8192, .f32⟩
  | .hbm, ⟨63, _⟩ => ⟨S8x8192x256, .f32⟩
  | .hbm, ⟨64, _⟩ => ⟨S8x128x8192, .f32⟩
  | .local _ .vmem, ⟨0, _⟩ => ⟨S1x1024x256, .bf16⟩
  | .local _ .vmem, ⟨1, _⟩ => ⟨S1x1024x256, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x1024x128, .bf16⟩
  | .local _ .vmem, ⟨5, _⟩ => ⟨S1x1024x128, .bf16⟩
  | .local _ .vmem, ⟨6, _⟩ => ⟨S1x8192x256, .bf16⟩
  | .local _ .vmem, ⟨7, _⟩ => ⟨S1x8192x256, .bf16⟩
  | .local _ .vmem, ⟨8, _⟩ => ⟨S8192x128, .bf16⟩
  | .local _ .vmem, ⟨9, _⟩ => ⟨S8192x128, .bf16⟩
  | .local _ .vmem, ⟨10, _⟩ => ⟨S1x128x8192, .bf16⟩
  | .local _ .vmem, ⟨11, _⟩ => ⟨S1x128x8192, .bf16⟩
  | .local _ .vmem, ⟨12, _⟩ => ⟨S1x1x8192, .f32⟩
  | .local _ .vmem, ⟨13, _⟩ => ⟨S1x1x8192, .f32⟩
  | .local _ .vmem, ⟨14, _⟩ => ⟨S1x1x8192, .f32⟩
  | .local _ .vmem, ⟨15, _⟩ => ⟨S1x1x8192, .f32⟩
  | .local _ .vmem, ⟨16, _⟩ => ⟨S1x256x8192, .f32⟩
  | .local _ .vmem, ⟨17, _⟩ => ⟨S1x256x8192, .f32⟩
  | .local _ .vmem, ⟨18, _⟩ => ⟨S1x1024x256, .f32⟩
  | .local _ .vmem, ⟨19, _⟩ => ⟨S1x1024x256, .f32⟩
  | .local _ .vmem, ⟨20, _⟩ => ⟨S1x128x1024, .f32⟩
  | .local _ .vmem, ⟨21, _⟩ => ⟨S1x128x1024, .f32⟩
  | _, _ => ⟨S8192x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50_0 : Ref sig .tc := ⟨.hbm, 62, rfl⟩
abbrev main_v50_1 : Ref sig .tc := ⟨.hbm, 63, rfl⟩
abbrev main_v50_2 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 8], ![false, false]⟩

def k0_mult1 : BitVec 32 :=
  let c0_i32_10 : BitVec 32 := 0#32
  let c16_i32 : BitVec 32 := 16#32
  let v11 : BitVec 32 := Scalar.muli c0_i32_10 c16_i32
  let c0_i32_11 : BitVec 32 := 0#32
  let v12 : BitVec 32 := Scalar.addi v11 c0_i32_11
  let c512_i32 : BitVec 32 := 512#32
  let v13 : BitVec 32 := Scalar.muli v12 c512_i32
  v13
def k0_off1 (c0_i32_11 : BitVec 32) : Fin 3 → Nat :=
  let c0_12 : Index := 0#32
  let c0_i32_10 : BitVec 32 := 0#32
  let c16_i32 : BitVec 32 := 16#32
  let v11 : BitVec 32 := Scalar.muli c0_i32_10 c16_i32
  let v12 : BitVec 32 := Scalar.addi v11 c0_i32_11
  let c512_i32 : BitVec 32 := 512#32
  let v13 : BitVec 32 := Scalar.muli v12 c512_i32
  let v14 : BitVec 32 := v13
  let v15 : Index := Scalar.indexCast v14
  let c0_13 : Index := 0#32
  ![0, v15.toNat, 0]
def k0_off2 (c0_i32_11 : BitVec 32) : Fin 2 → Nat :=
  let c0_i32_10 : BitVec 32 := 0#32
  let c16_i32 : BitVec 32 := 16#32
  let v11 : BitVec 32 := Scalar.muli c0_i32_10 c16_i32
  let v12 : BitVec 32 := Scalar.addi v11 c0_i32_11
  let c512_i32 : BitVec 32 := 512#32
  let v13 : BitVec 32 := Scalar.muli v12 c512_i32
  let v14 : BitVec 32 := v13
  let v18 : Index := Scalar.indexCast v14
  let c0_14 : Index := 0#32
  ![v18.toNat, 0]
def k0_off3 (c0_i32_11 : BitVec 32) : Fin 3 → Nat :=
  let c0_17 : Index := 0#32
  let c0_18 : Index := 0#32
  let c0_i32_10 : BitVec 32 := 0#32
  let c16_i32 : BitVec 32 := 16#32
  let v11 : BitVec 32 := Scalar.muli c0_i32_10 c16_i32
  let v12 : BitVec 32 := Scalar.addi v11 c0_i32_11
  let c512_i32 : BitVec 32 := 512#32
  let v13 : BitVec 32 := Scalar.muli v12 c512_i32
  let v14 : BitVec 32 := v13
  let v24 : Index := Scalar.indexCast v14
  ![0, 0, v24.toNat]
def k0_off4 (c0_i32_11 : BitVec 32) : Fin 3 → Nat :=
  let c0_19 : Index := 0#32
  let c0_20 : Index := 0#32
  let c0_i32_10 : BitVec 32 := 0#32
  let c16_i32 : BitVec 32 := 16#32
  let v11 : BitVec 32 := Scalar.muli c0_i32_10 c16_i32
  let v12 : BitVec 32 := Scalar.addi v11 c0_i32_11
  let c512_i32 : BitVec 32 := 512#32
  let v13 : BitVec 32 := Scalar.muli v12 c512_i32
  let v14 : BitVec 32 := v13
  let v30 : Index := Scalar.indexCast v14
  ![0, 0, v30.toNat]
def k0_off5 (c0_i32_11 : BitVec 32) : Fin 3 → Nat :=
  let c0_27 : Index := 0#32
  let c0_28 : Index := 0#32
  let c0_i32_10 : BitVec 32 := 0#32
  let c16_i32 : BitVec 32 := 16#32
  let v11 : BitVec 32 := Scalar.muli c0_i32_10 c16_i32
  let v12 : BitVec 32 := Scalar.addi v11 c0_i32_11
  let c512_i32 : BitVec 32 := 512#32
  let v13 : BitVec 32 := Scalar.muli v12 c512_i32
  let v14 : BitVec 32 := v13
  let v48 : Index := Scalar.indexCast v14
  ![0, 0, v48.toNat]
def k0_mult2 : BitVec 32 :=
  let c0_i32_10 : BitVec 32 := 0#32
  let c16_i32_32 : BitVec 32 := 16#32
  let v57 : BitVec 32 := Scalar.muli c0_i32_10 c16_i32_32
  let c1_i32 : BitVec 32 := 1#32
  let v58 : BitVec 32 := Scalar.addi v57 c1_i32
  let c512_i32_33 : BitVec 32 := 512#32
  let v59 : BitVec 32 := Scalar.muli v58 c512_i32_33
  v59
def k0_mult3 : BitVec 32 :=
  let c0_i32_10 : BitVec 32 := 0#32
  let c16_i32_54 : BitVec 32 := 16#32
  let v103 : BitVec 32 := Scalar.muli c0_i32_10 c16_i32_54
  let c2_i32 : BitVec 32 := 2#32
  let v104 : BitVec 32 := Scalar.addi v103 c2_i32
  let c512_i32_55 : BitVec 32 := 512#32
  let v105 : BitVec 32 := Scalar.muli v104 c512_i32_55
  v105
def k0_mult4 : BitVec 32 :=
  let c0_i32_10 : BitVec 32 := 0#32
  let c16_i32_76 : BitVec 32 := 16#32
  let v149 : BitVec 32 := Scalar.muli c0_i32_10 c16_i32_76
  let c3_i32 : BitVec 32 := 3#32
  let v150 : BitVec 32 := Scalar.addi v149 c3_i32
  let c512_i32_77 : BitVec 32 := 512#32
  let v151 : BitVec 32 := Scalar.muli v150 c512_i32_77
  v151
def k0_mult5 : BitVec 32 :=
  let c0_i32_10 : BitVec 32 := 0#32
  let c16_i32_98 : BitVec 32 := 16#32
  let v195 : BitVec 32 := Scalar.muli c0_i32_10 c16_i32_98
  let c4_i32 : BitVec 32 := 4#32
  let v196 : BitVec 32 := Scalar.addi v195 c4_i32
  let c512_i32_99 : BitVec 32 := 512#32
  let v197 : BitVec 32 := Scalar.muli v196 c512_i32_99
  v197
def k0_mult6 : BitVec 32 :=
  let c0_i32_10 : BitVec 32 := 0#32
  let c16_i32_120 : BitVec 32 := 16#32
  let v241 : BitVec 32 := Scalar.muli c0_i32_10 c16_i32_120
  let c5_i32 : BitVec 32 := 5#32
  let v242 : BitVec 32 := Scalar.addi v241 c5_i32
  let c512_i32_121 : BitVec 32 := 512#32
  let v243 : BitVec 32 := Scalar.muli v242 c512_i32_121
  v243
def k0_mult7 : BitVec 32 :=
  let c0_i32_10 : BitVec 32 := 0#32
  let c16_i32_142 : BitVec 32 := 16#32
  let v287 : BitVec 32 := Scalar.muli c0_i32_10 c16_i32_142
  let c6_i32 : BitVec 32 := 6#32
  let v288 : BitVec 32 := Scalar.addi v287 c6_i32
  let c512_i32_143 : BitVec 32 := 512#32
  let v289 : BitVec 32 := Scalar.muli v288 c512_i32_143
  v289
def k0_mult8 : BitVec 32 :=
  let c0_i32_10 : BitVec 32 := 0#32
  let c16_i32_164 : BitVec 32 := 16#32
  let v333 : BitVec 32 := Scalar.muli c0_i32_10 c16_i32_164
  let c7_i32 : BitVec 32 := 7#32
  let v334 : BitVec 32 := Scalar.addi v333 c7_i32
  let c512_i32_165 : BitVec 32 := 512#32
  let v335 : BitVec 32 := Scalar.muli v334 c512_i32_165
  v335
def k0_mult9 : BitVec 32 :=
  let c0_i32_10 : BitVec 32 := 0#32
  let c16_i32_186 : BitVec 32 := 16#32
  let v379 : BitVec 32 := Scalar.muli c0_i32_10 c16_i32_186
  let c8_i32 : BitVec 32 := 8#32
  let v380 : BitVec 32 := Scalar.addi v379 c8_i32
  let c512_i32_187 : BitVec 32 := 512#32
  let v381 : BitVec 32 := Scalar.muli v380 c512_i32_187
  v381
def k0_mult10 : BitVec 32 :=
  let c0_i32_10 : BitVec 32 := 0#32
  let c16_i32_208 : BitVec 32 := 16#32
  let v425 : BitVec 32 := Scalar.muli c0_i32_10 c16_i32_208
  let c9_i32 : BitVec 32 := 9#32
  let v426 : BitVec 32 := Scalar.addi v425 c9_i32
  let c512_i32_209 : BitVec 32 := 512#32
  let v427 : BitVec 32 := Scalar.muli v426 c512_i32_209
  v427
def k0_mult11 : BitVec 32 :=
  let c0_i32_10 : BitVec 32 := 0#32
  let c16_i32_230 : BitVec 32 := 16#32
  let v471 : BitVec 32 := Scalar.muli c0_i32_10 c16_i32_230
  let c10_i32 : BitVec 32 := 10#32
  let v472 : BitVec 32 := Scalar.addi v471 c10_i32
  let c512_i32_231 : BitVec 32 := 512#32
  let v473 : BitVec 32 := Scalar.muli v472 c512_i32_231
  v473
def k0_mult12 : BitVec 32 :=
  let c0_i32_10 : BitVec 32 := 0#32
  let c16_i32_252 : BitVec 32 := 16#32
  let v517 : BitVec 32 := Scalar.muli c0_i32_10 c16_i32_252
  let c11_i32 : BitVec 32 := 11#32
  let v518 : BitVec 32 := Scalar.addi v517 c11_i32
  let c512_i32_253 : BitVec 32 := 512#32
  let v519 : BitVec 32 := Scalar.muli v518 c512_i32_253
  v519
def k0_mult13 : BitVec 32 :=
  let c0_i32_10 : BitVec 32 := 0#32
  let c16_i32_274 : BitVec 32 := 16#32
  let v563 : BitVec 32 := Scalar.muli c0_i32_10 c16_i32_274
  let c12_i32 : BitVec 32 := 12#32
  let v564 : BitVec 32 := Scalar.addi v563 c12_i32
  let c512_i32_275 : BitVec 32 := 512#32
  let v565 : BitVec 32 := Scalar.muli v564 c512_i32_275
  v565
def k0_mult14 : BitVec 32 :=
  let c0_i32_10 : BitVec 32 := 0#32
  let c16_i32_296 : BitVec 32 := 16#32
  let v609 : BitVec 32 := Scalar.muli c0_i32_10 c16_i32_296
  let c13_i32 : BitVec 32 := 13#32
  let v610 : BitVec 32 := Scalar.addi v609 c13_i32
  let c512_i32_297 : BitVec 32 := 512#32
  let v611 : BitVec 32 := Scalar.muli v610 c512_i32_297
  v611
def k0_mult15 : BitVec 32 :=
  let c0_i32_10 : BitVec 32 := 0#32
  let c16_i32_318 : BitVec 32 := 16#32
  let v655 : BitVec 32 := Scalar.muli c0_i32_10 c16_i32_318
  let c14_i32 : BitVec 32 := 14#32
  let v656 : BitVec 32 := Scalar.addi v655 c14_i32
  let c512_i32_319 : BitVec 32 := 512#32
  let v657 : BitVec 32 := Scalar.muli v656 c512_i32_319
  v657
def k0_mult16 : BitVec 32 :=
  let c0_i32_10 : BitVec 32 := 0#32
  let c16_i32_340 : BitVec 32 := 16#32
  let v701 : BitVec 32 := Scalar.muli c0_i32_10 c16_i32_340
  let c15_i32 : BitVec 32 := 15#32
  let v702 : BitVec 32 := Scalar.addi v701 c15_i32
  let c512_i32_341 : BitVec 32 := 512#32
  let v703 : BitVec 32 := Scalar.muli v702 c512_i32_341
  v703
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8192x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x8192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256x8192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "scale" => some (((Real.sqrt 192)⁻¹ : ℝ) : EReal)
  | "scale_log2e" => some (((Real.sqrt 192)⁻¹ * (Real.log 2)⁻¹ : ℝ) : EReal)
  | _ => none
-- ==== ReferenceIdeal.lean ====
abbrev S8192x8x192 : Shape := ⟨3, ![8192, 8, 192]⟩
abbrev S8192x8x128 : Shape := ⟨3, ![8192, 8, 128]⟩
abbrev S8192x64 : Shape := ⟨2, ![8192, 64]⟩
abbrev S8192x1024 : Shape := ⟨2, ![8192, 1024]⟩
abbrev S8192x1x64 : Shape := ⟨3, ![8192, 1, 64]⟩
abbrev S8192x8x64 : Shape := ⟨3, ![8192, 8, 64]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x128x8192 : Shape := ⟨3, ![8, 128, 8192]⟩
abbrev S8x8192x64 : Shape := ⟨3, ![8, 8192, 64]⟩
abbrev S8x8192x128 : Shape := ⟨3, ![8, 8192, 128]⟩
abbrev S8x64x8192 : Shape := ⟨3, ![8, 64, 8192]⟩
abbrev S8x192x8192 : Shape := ⟨3, ![8, 192, 8192]⟩
abbrev S8x256x8192 : Shape := ⟨3, ![8, 256, 8192]⟩
abbrev S8192x8x256 : Shape := ⟨3, ![8192, 8, 256]⟩
abbrev S8x8192x256 : Shape := ⟨3, ![8, 8192, 256]⟩

abbrev nBuf : Space → Nat
  | .hbm => 100
  | .vmem => 0
  | .smem => 0
  | _ => 0

abbrev bufTy : (tb : Table) → Fin (tcTables nBuf tb) → BufTy
  | .hbm, ⟨0, _⟩ => ⟨S8192x8x192, .f32⟩
  | .hbm, ⟨1, _⟩ => ⟨S8192x8x128, .f32⟩
  | .hbm, ⟨2, _⟩ => ⟨S8192x64, .f32⟩
  | .hbm, ⟨3, _⟩ => ⟨S8192x8x128, .f32⟩
  | .hbm, ⟨4, _⟩ => ⟨S8192x1024, .f32⟩
  | .hbm, ⟨5, _⟩ => ⟨S8192x1x64, .f32⟩
  | .hbm, ⟨6, _⟩ => ⟨S8192x8x64, .f32⟩
  | .hbm, ⟨7, _⟩ => ⟨S8192x8x128, .f32⟩
  | .hbm, ⟨8, _⟩ => ⟨S8x8192x8192, .f32⟩
  | .hbm, ⟨9, _⟩ => ⟨S8192x8x64, .f32⟩
  | .hbm, ⟨10, _⟩ => ⟨S8x8192x8192, .f32⟩
  | .hbm, ⟨11, _⟩ => ⟨S8x8192x8192, .f32⟩
  | .hbm, ⟨12, _⟩ => ⟨S_, .f32⟩
  | .hbm, ⟨13, _⟩ => ⟨S_, .f32⟩
  | .hbm, ⟨14, _⟩ => ⟨S8x8192x8192, .f32⟩
  | .hbm, ⟨15, _⟩ => ⟨S8x8192x8192, .f32⟩
  | .hbm, ⟨16, _⟩ => ⟨S_, .f32⟩
  | .hbm, ⟨17, _⟩ => ⟨S8x8192, .f32⟩
  | .hbm, ⟨18, _⟩ => ⟨S8x8192x1, .f32⟩
  | .hbm, ⟨19, _⟩ => ⟨S8x8192x8192, .f32⟩
  | .hbm, ⟨20, _⟩ => ⟨S8x8192x8192, .i1⟩
  | .hbm, ⟨21, _⟩ => ⟨S8x8192x8192, .f32⟩
  | .hbm, ⟨22, _⟩ => ⟨S_, .f32⟩
  | .hbm, ⟨23, _⟩ => ⟨S8x8192, .f32⟩
  | .hbm, ⟨24, _⟩ => ⟨S_, .f32⟩
  | .hbm, ⟨25, _⟩ => ⟨S8x8192, .f32⟩
  | .hbm, ⟨26, _⟩ => ⟨S8x8192, .f32⟩
  | .hbm, ⟨27, _⟩ => ⟨S_, .f32⟩
  | .hbm, ⟨28, _⟩ => ⟨S8x8192, .f32⟩
  | .hbm, ⟨29, _⟩ => ⟨S8x8192, .i1⟩
  | .hbm, ⟨30, _⟩ => ⟨S_, .f32⟩
  | .hbm, ⟨31, _⟩ => ⟨S8x8192, .f32⟩
  | .hbm, ⟨32, _⟩ => ⟨S8x8192, .i1⟩
  | .hbm, ⟨33, _⟩ => ⟨S_, .f32⟩
  | .hbm, ⟨34, _⟩ => ⟨S8x8192, .f32⟩
  | .hbm, ⟨35, _⟩ => ⟨S_, .f32⟩
  | .hbm, ⟨36, _⟩ => ⟨S8x8192, .f32⟩
  | .hbm, ⟨37, _⟩ => ⟨S_, .f32⟩
  | .hbm, ⟨38, _⟩ => ⟨S8x8192, .f32⟩
  | .hbm, ⟨39, _⟩ => ⟨S8x8192, .f32⟩
  | .hbm, ⟨40, _⟩ => ⟨S8x8192, .f32⟩
  | .hbm, ⟨41, _⟩ => ⟨S8x8192x1, .f32⟩
  | .hbm, ⟨42, _⟩ => ⟨S8x8192x8192, .f32⟩
  | .hbm, ⟨43, _⟩ => ⟨S8x8192x8192, .f32⟩
  | .hbm, ⟨44, _⟩ => ⟨S8x8192x8192, .f32⟩
  | .hbm, ⟨45, _⟩ => ⟨S_, .f32⟩
  | .hbm, ⟨46, _⟩ => ⟨S8x8192, .f32⟩
  | .hbm, ⟨47, _⟩ => ⟨S8x8192x1, .f32⟩
  | .hbm, ⟨48, _⟩ => ⟨S8x8192x8192, .f32⟩
  | .hbm, ⟨49, _⟩ => ⟨S8x8192x8192, .f32⟩
  | .hbm, ⟨50, _⟩ => ⟨S8x8192x1, .f32⟩
  | .hbm, ⟨51, _⟩ => ⟨S_, .f32⟩
  | .hbm, ⟨52, _⟩ => ⟨S8x8192x1, .f32⟩
  | .hbm, ⟨53, _⟩ => ⟨S8x8192x1, .f32⟩
  | .hbm, ⟨54, _⟩ => ⟨S8x128x8192, .f32⟩
  | .hbm, ⟨55, _⟩ => ⟨S8192x8x128, .f32⟩
  | .hbm, ⟨56, _⟩ => ⟨S8192x1024, .f32⟩
  | .hbm, ⟨57, _⟩ => ⟨S8192x8x128, .f32⟩
  | .hbm, ⟨58, _⟩ => ⟨S8x128x8192, .f32⟩
  | .hbm, ⟨59, _⟩ => ⟨S8x8192x8192, .f32⟩
  | .hbm, ⟨60, _⟩ => ⟨S8x128x8192, .f32⟩
  | .hbm, ⟨61, _⟩ => ⟨S8192x8x128, .f32⟩
  | .hbm, ⟨62, _⟩ => ⟨S8x8192x8192, .f32⟩
  | .hbm, ⟨63, _⟩ => ⟨S8x8192x8192, .f32⟩
  | .hbm, ⟨64, _⟩ => ⟨S8x8192x8192, .f32⟩
  | .hbm, ⟨65, _⟩ => ⟨S_, .f32⟩
  | .hbm, ⟨66, _⟩ => ⟨S8x8192, .f32⟩
  | .hbm, ⟨67, _⟩ => ⟨S8x8192x1, .f32⟩
  | .hbm, ⟨68, _⟩ => ⟨S8x8192x1, .f32⟩
  | .hbm, ⟨69, _⟩ => ⟨S8x8192x8192, .f32⟩
  | .hbm, ⟨70, _⟩ => ⟨S8x8192x8192, .f32⟩
  | .hbm, ⟨71, _⟩ => ⟨S_, .f32⟩
  | .hbm, ⟨72, _⟩ => ⟨S8x8192, .f32⟩
  | .hbm, ⟨73, _⟩ => ⟨S8x8192x8192, .f32⟩
  | .hbm, ⟨74, _⟩ => ⟨S8x8192x8192, .f32⟩
  | .hbm, ⟨75, _⟩ => ⟨S8x8192x8192, .f32⟩
  | .hbm, ⟨76, _⟩ => ⟨S8x8192x8192, .f32⟩
  | .hbm, ⟨77, _⟩ => ⟨S8x8192x8192, .f32⟩
  | .hbm, ⟨78, _⟩ => ⟨S8x8192x64, .f32⟩
  | .hbm, ⟨79, _⟩ => ⟨S8192x8x64, .f32⟩
  | .hbm, ⟨80, _⟩ => ⟨S8x8192x64, .f32⟩
  | .hbm, ⟨81, _⟩ => ⟨S8192x8x64, .f32⟩
  | .hbm, ⟨82, _⟩ => ⟨S_, .f32⟩
  | .hbm, ⟨83, _⟩ => ⟨S8192x8x192, .f32⟩
  | .hbm, ⟨84, _⟩ => ⟨S8x8192x128, .f32⟩
  | .hbm, ⟨85, _⟩ => ⟨S8192x8x128, .f32⟩
  | .hbm, ⟨86, _⟩ => ⟨S8x8192x128, .f32⟩
  | .hbm, ⟨87, _⟩ => ⟨S8192x8x128, .f32⟩
  | .hbm, ⟨88, _⟩ => ⟨S_, .f32⟩
  | .hbm, ⟨89, _⟩ => ⟨S8192x8x192, .f32⟩
  | .hbm, ⟨90, _⟩ => ⟨S8192x8x192, .f32⟩
  | .hbm, ⟨91, _⟩ => ⟨S_, .f32⟩
  | .hbm, ⟨92, _⟩ => ⟨S8x64x8192, .f32⟩
  | .hbm, ⟨93, _⟩ => ⟨S8x192x8192, .f32⟩
  | .hbm, ⟨94, _⟩ => ⟨S8x256x8192, .f32⟩
  | .hbm, ⟨95, _⟩ => ⟨S_, .f32⟩
  | .hbm, ⟨96, _⟩ => ⟨S8192x8x64, .f32⟩
  | .hbm, ⟨97, _⟩ => ⟨S8192x8x256, .f32⟩
  | .hbm, ⟨98, _⟩ => ⟨S8x8192x256, .f32⟩
  | .hbm, ⟨99, _⟩ => ⟨S8x128x8192, .f32⟩
  | _, _ => ⟨S8192x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_10 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_12 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_13 : Ref sig .tc := ⟨.hbm, 88, rfl⟩
abbrev main_v69 : Ref sig .tc := ⟨.hbm, 89, rfl⟩
abbrev main_v70 : Ref sig .tc := ⟨.hbm, 90, rfl⟩
abbrev main_cst_14 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_15 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩

abbrev nD : Nat := 1
abbrev τ : Topo := Topo.v7x

variable {F : FTy → Type} [FloatOps F]
-- ==== Kernel2.lean ====
abbrev S8192x2048 : Shape := ⟨2, ![8192, 2048]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S8192x8192 : Shape := ⟨2, ![8192, 8192]⟩
abbrev S1024x2048 : Shape := ⟨2, ![1024, 2048]⟩
abbrev S1x2048x2048 : Shape := ⟨3, ![1, 2048, 2048]⟩
abbrev S2048x2048 : Shape := ⟨2, ![2048, 2048]⟩

abbrev nBuf : Space → Nat
  | .hbm => 8
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S2048x8192, .bf16⟩
  | .hbm, ⟨3, _⟩ => ⟨S2048x4x2048, .bf16⟩
  | .hbm, ⟨4, _⟩ => ⟨S4x2048x2048, .bf16⟩
  | .hbm, ⟨5, _⟩ => ⟨S8192x2048, .bf16⟩
  | .hbm, ⟨6, _⟩ => ⟨S8192x8192, .bf16⟩
  | .hbm, ⟨7, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S8192x8192, .bf16⟩
  | .hbm, ⟨7, _⟩ => ⟨S8192x8192, .f32⟩
  | .hbm, ⟨8, _⟩ => ⟨S8192x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel3.lean ====
abbrev S8192x8192 : Shape := ⟨2, ![8192, 8192]⟩
abbrev S8192x2048 : Shape := ⟨2, ![8192, 2048]⟩
abbrev S_ : Shape := ⟨0, ![]⟩
abbrev S1024x2048 : Shape := ⟨2, ![1024, 2048]⟩
abbrev S2048x2048 : Shape := ⟨2, ![2048, 2048]⟩

abbrev nBuf : Space → Nat
  | .hbm => 10
  | .vmem => 8
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | .hbm, ⟨3, _⟩ => ⟨S8192x2048, .bf16⟩
  | .hbm, ⟨4, _⟩ => ⟨S8192x2048, .bf16⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S8192x8192, .bf16⟩
  | .hbm, ⟨9, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8192x8192 : Shape := ⟨2, ![8192, 8192]⟩
abbrev S8192x2048 : Shape := ⟨2, ![8192, 2048]⟩
abbrev S_ : Shape := ⟨0, ![]⟩
abbrev S2048x8192 : Shape := ⟨2, ![2048, 8192]⟩

abbrev nBuf : Space → Nat
  | .hbm => 24
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .i1⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x2048, .f32⟩
  | .hbm, ⟨16, _⟩ => ⟨S2048x8192, .f32⟩
  | .hbm, ⟨17, _⟩ => ⟨S8192x2048, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel4.lean ====
abbrev S8192x8192 : Shape := ⟨2, ![8192, 8192]⟩
abbrev S8192x2048 : Shape := ⟨2, ![8192, 2048]⟩
abbrev S_ : Shape := ⟨0, ![]⟩
abbrev S1x8192x2048 : Shape := ⟨3, ![1, 8192, 2048]⟩
abbrev S2048x1024 : Shape := ⟨2, ![2048, 1024]⟩
abbrev S2048x2048 : Shape := ⟨2, ![2048, 2048]⟩
abbrev S1x1024x2048 : Shape := ⟨3, ![1, 1024, 2048]⟩
abbrev S1024x2048 : Shape := ⟨2, ![1024, 2048]⟩

abbrev nBuf : Space → Nat
  | .hbm => 10
  | .vmem => 6
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S8192x8192, .bf16⟩
  | .hbm, ⟨8, _⟩ => ⟨S8192x2048, .bf16⟩
  | .hbm, ⟨9, _⟩ => ⟨S1x8192x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1x1024x2048, .f32⟩
  | .local _ .vmem, ⟨5, _⟩ => ⟨S1x1024x2048, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x8192 : Shape := ⟨2, ![8192, 8192]⟩
abbrev S8192x2048 : Shape := ⟨2, ![8192, 2048]⟩
abbrev S_ : Shape := ⟨0, ![]⟩
abbrev S2048x8192 : Shape := ⟨2, ![2048, 8192]⟩
abbrev S1x8192x2048 : Shape := ⟨3, ![1, 8192, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .i1⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x2048, .f32⟩
  | .hbm, ⟨16, _⟩ => ⟨S2048x8192, .f32⟩
  | .hbm, ⟨17, _⟩ => ⟨S8192x2048, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S1x8192x2048, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel5.lean ====
abbrev S8192x2048 : Shape := ⟨2, ![8192, 2048]⟩
abbrev S2048x8192 : Shape := ⟨2, ![2048, 8192]⟩
abbrev S8192x8192 : Shape := ⟨2, ![8192, 8192]⟩
abbrev S4x2048x2048 : Shape := ⟨3, ![4, 2048, 2048]⟩
abbrev S2048x1024 : Shape := ⟨2, ![2048, 1024]⟩
abbrev S2048x2048 : Shape := ⟨2, ![2048, 2048]⟩
abbrev S1x1024x2048 : Shape := ⟨3, ![1, 1024, 2048]⟩
abbrev S1024x2048 : Shape := ⟨2, ![1024, 2048]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .f32⟩
  | .hbm, ⟨3, _⟩ => ⟨S8192x2048, .bf16⟩
  | .hbm, ⟨4, _⟩ => ⟨S8192x8192, .bf16⟩
  | .hbm, ⟨5, _⟩ => ⟨S4x2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1x1024x2048, .f32⟩
  | .local _ .vmem, ⟨5, _⟩ => ⟨S1x1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2048 : Shape := ⟨2, ![8192, 2048]⟩
abbrev S2048x8192 : Shape := ⟨2, ![2048, 8192]⟩
abbrev S8192x8192 : Shape := ⟨2, ![8192, 8192]⟩
abbrev S2048x4x2048 : Shape := ⟨3, ![2048, 4, 2048]⟩
abbrev S4x2048x2048 : Shape := ⟨3, ![4, 2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .f32⟩
  | .hbm, ⟨3, _⟩ => ⟨S8192x8192, .f32⟩
  | .hbm, ⟨4, _⟩ => ⟨S8192x2048, .f32⟩
  | .hbm, ⟨5, _⟩ => ⟨S2048x8192, .f32⟩
  | .hbm, ⟨6, _⟩ => ⟨S8192x2048, .f32⟩
  | .hbm, ⟨7, _⟩ => ⟨S2048x4x2048, .f32⟩
  | .hbm, ⟨8, _⟩ => ⟨S4x2048x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S8192x2048 : Shape := ⟨2, ![8192, 2048]⟩
abbrev S2048x3136 : Shape := ⟨2, ![2048, 3136]⟩
abbrev S3136x2048 : Shape := ⟨2, ![3136, 2048]⟩
abbrev S1024x2048 : Shape := ⟨2, ![1024, 2048]⟩
abbrev S2048x2048 : Shape := ⟨2, ![2048, 2048]⟩
abbrev S64x2048 : Shape := ⟨2, ![64, 2048]⟩
abbrev S_ : Shape := ⟨0, ![]⟩
abbrev S3200x2048 : Shape := ⟨2, ![3200, 2048]⟩
abbrev S8192x3200 : Shape := ⟨2, ![8192, 3200]⟩
abbrev S256x2048 : Shape := ⟨2, ![256, 2048]⟩
abbrev S256x3200 : Shape := ⟨2, ![256, 3200]⟩

abbrev nBuf : Space → Nat
  | .hbm => 12
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048x3136, .f32⟩
  | .hbm, ⟨2, _⟩ => ⟨S3136x2048, .f32⟩
  | .hbm, ⟨3, _⟩ => ⟨S3136x2048, .bf16⟩
  | .hbm, ⟨4, _⟩ => ⟨S1024x2048, .bf16⟩
  | .hbm, ⟨5, _⟩ => ⟨S2048x2048, .bf16⟩
  | .hbm, ⟨6, _⟩ => ⟨S64x2048, .bf16⟩
  | .hbm, ⟨7, _⟩ => ⟨S_, .bf16⟩
  | .hbm, ⟨8, _⟩ => ⟨S64x2048, .bf16⟩
  | .hbm, ⟨9, _⟩ => ⟨S3200x2048, .bf16⟩
  | .hbm, ⟨10, _⟩ => ⟨S8192x2048, .bf16⟩
  | .hbm, ⟨11, _⟩ => ⟨S8192x3200, .f32⟩
  | .local _ .vmem, ⟨0, _⟩ => ⟨S256x2048, .bf16⟩
  | .local _ .vmem, ⟨1, _⟩ => ⟨S256x2048, .bf16⟩
  | .local _ .vmem, ⟨2, _⟩ => ⟨S3200x2048, .bf16⟩
  | .local _ .vmem, ⟨3, _⟩ => ⟨S256x3200, .f32⟩
  | .local _ .vmem, ⟨4, _⟩ => ⟨S256x3200, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3200x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S8192x2048 : Shape := ⟨2, ![8192, 2048]⟩
abbrev S2048x3136 : Shape := ⟨2, ![2048, 3136]⟩
abbrev S8192x3136 : Shape := ⟨2, ![8192, 3136]⟩
abbrev S8192x1024 : Shape := ⟨2, ![8192, 1024]⟩
abbrev S8192x64 : Shape := ⟨2, ![8192, 64]⟩
abbrev S_ : Shape := ⟨0, ![]⟩
abbrev S8192x3200 : Shape := ⟨2, ![8192, 3200]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x3136, .f32⟩
  | .hbm, ⟨2, _⟩ => ⟨S8192x3136, .f32⟩
  | .hbm, ⟨3, _⟩ => ⟨S8192x1024, .f32⟩
  | .hbm, ⟨4, _⟩ => ⟨S8192x64, .f32⟩
  | .hbm, ⟨5, _⟩ => ⟨S8192x2048, .f32⟩
  | .hbm, ⟨6, _⟩ => ⟨S_, .f32⟩
  | .hbm, ⟨7, _⟩ => ⟨S8192x64, .f32⟩
  | .hbm, ⟨8, _⟩ => ⟨S8192x3200, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S8192x2048 : Shape := ⟨2, ![8192, 2048]⟩
abbrev S2048x3136 : Shape := ⟨2, ![2048, 3136]⟩
abbrev S8192x3136 : Shape := ⟨2, ![8192, 3136]⟩
abbrev S8192x1024 : Shape := ⟨2, ![8192, 1024]⟩
abbrev S8192x64 : Shape := ⟨2, ![8192, 64]⟩
abbrev S_ : Shape := ⟨0, ![]⟩
abbrev S8192x3200 : Shape := ⟨2, ![8192, 3200]⟩
abbrev S1x3200x2048 : Shape := ⟨3, ![1, 3200, 2048]⟩
abbrev S2048x640 : Shape := ⟨2, ![2048, 640]⟩
abbrev S2048x1024 : Shape := ⟨2, ![2048, 1024]⟩
abbrev S1x640x1024 : Shape := ⟨3, ![1, 640, 1024]⟩
abbrev S640x1024 : Shape := ⟨2, ![640, 1024]⟩

abbrev nBuf : Space → Nat
  | .hbm => 12
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x3136, .f32⟩
  | .hbm, ⟨2, _⟩ => ⟨S8192x3136, .f32⟩
  | .hbm, ⟨3, _⟩ => ⟨S8192x1024, .f32⟩
  | .hbm, ⟨4, _⟩ => ⟨S8192x64, .f32⟩
  | .hbm, ⟨5, _⟩ => ⟨S8192x2048, .f32⟩
  | .hbm, ⟨6, _⟩ => ⟨S_, .f32⟩
  | .hbm, ⟨7, _⟩ => ⟨S8192x64, .f32⟩
  | .hbm, ⟨8, _⟩ => ⟨S8192x3200, .f32⟩
  | .hbm, ⟨9, _⟩ => ⟨S8192x3200, .bf16⟩
  | .hbm, ⟨10, _⟩ => ⟨S8192x2048, .bf16⟩
  | .hbm, ⟨11, _⟩ => ⟨S1x3200x2048, .f32⟩
  | .local _ .vmem, ⟨0, _⟩ => ⟨S2048x640, .bf16⟩
  | .local _ .vmem, ⟨1, _⟩ => ⟨S2048x640, .bf16⟩
  | .local _ .vmem, ⟨2, _⟩ => ⟨S2048x1024, .bf16⟩
  | .local _ .vmem, ⟨3, _⟩ => ⟨S2048x1024, .bf16⟩
  | .local _ .vmem, ⟨4, _⟩ => ⟨S1x640x1024, .f32⟩
  | .local _ .vmem, ⟨5, _⟩ => ⟨S1x640x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 2, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2048 : Shape := ⟨2, ![8192, 2048]⟩
abbrev S2048x3136 : Shape := ⟨2, ![2048, 3136]⟩
abbrev S8192x3136 : Shape := ⟨2, ![8192, 3136]⟩
abbrev S3136x2048 : Shape := ⟨2, ![3136, 2048]⟩
abbrev S1024x2048 : Shape := ⟨2, ![1024, 2048]⟩
abbrev S64x2048 : Shape := ⟨2, ![64, 2048]⟩
abbrev S2048x2048 : Shape := ⟨2, ![2048, 2048]⟩
abbrev S_ : Shape := ⟨0, ![]⟩
abbrev S3200x2048 : Shape := ⟨2, ![3200, 2048]⟩
abbrev S1x3200x2048 : Shape := ⟨3, ![1, 3200, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x3136, .f32⟩
  | .hbm, ⟨2, _⟩ => ⟨S8192x3136, .f32⟩
  | .hbm, ⟨3, _⟩ => ⟨S8192x3136, .f32⟩
  | .hbm, ⟨4, _⟩ => ⟨S3136x2048, .f32⟩
  | .hbm, ⟨5, _⟩ => ⟨S2048x3136, .f32⟩
  | .hbm, ⟨6, _⟩ => ⟨S8192x2048, .f32⟩
  | .hbm, ⟨7, _⟩ => ⟨S3136x2048, .f32⟩
  | .hbm, ⟨8, _⟩ => ⟨S1024x2048, .f32⟩
  | .hbm, ⟨9, _⟩ => ⟨S64x2048, .f32⟩
  | .hbm, ⟨10, _⟩ => ⟨S2048x2048, .f32⟩
  | .hbm, ⟨11, _⟩ => ⟨S_, .f32⟩
  | .hbm, ⟨12, _⟩ => ⟨S64x2048, .f32⟩
  | .hbm, ⟨13, _⟩ => ⟨S3200x2048, .f32⟩
  | .hbm, ⟨14, _⟩ => ⟨S1x3200x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel8.lean ====
abbrev S8192x1024 : Shape := ⟨2, ![8192, 1024]⟩
abbrev S1024x2048 : Shape := ⟨2, ![1024, 2048]⟩
abbrev S8192x2048 : Shape := ⟨2, ![8192, 2048]⟩
abbrev S1x1024x2048 : Shape := ⟨3, ![1, 1024, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S8192x1024, .bf16⟩
  | .hbm, ⟨4, _⟩ => ⟨S8192x2048, .bf16⟩
  | .hbm, ⟨5, _⟩ => ⟨S1x1024x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S1024x2048 : Shape := ⟨2, ![1024, 2048]⟩
abbrev S8192x2048 : Shape := ⟨2, ![8192, 2048]⟩
abbrev S2048x1024 : Shape := ⟨2, ![2048, 1024]⟩
abbrev S1x1024x2048 : Shape := ⟨3, ![1, 1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S8192x2048, .f32⟩
  | .hbm, ⟨4, _⟩ => ⟨S2048x1024, .f32⟩
  | .hbm, ⟨5, _⟩ => ⟨S1024x2048, .f32⟩
  | .hbm, ⟨6, _⟩ => ⟨S8192x1024, .f32⟩
  | .hbm, ⟨7, _⟩ => ⟨S1x1024x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S8192x512 : Shape := ⟨2, ![8192, 512]⟩
abbrev S512x1536 : Shape := ⟨2, ![512, 1536]⟩
abbrev S8192x1536 : Shape := ⟨2, ![8192, 1536]⟩
abbrev S8192x8x192 : Shape := ⟨3, ![8192, 8, 192]⟩
abbrev S8192x8x128 : Shape := ⟨3, ![8192, 8, 128]⟩
abbrev S8192x1024 : Shape := ⟨2, ![8192, 1024]⟩
abbrev S8192x8x64 : Shape := ⟨3, ![8192, 8, 64]⟩
abbrev S_ : Shape := ⟨0, ![]⟩
abbrev S8192x2048 : Shape := ⟨2, ![8192, 2048]⟩
abbrev S1x512x2048 : Shape := ⟨3, ![1, 512, 2048]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 15
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x1536, .f32⟩
  | .hbm, ⟨2, _⟩ => ⟨S8192x1536, .f32⟩
  | .hbm, ⟨3, _⟩ => ⟨S8192x8x192, .f32⟩
  | .hbm, ⟨4, _⟩ => ⟨S8192x8x128, .f32⟩
  | .hbm, ⟨5, _⟩ => ⟨S8192x1024, .f32⟩
  | .hbm, ⟨6, _⟩ => ⟨S8192x8x64, .f32⟩
  | .hbm, ⟨7, _⟩ => ⟨S_, .i32⟩
  | .hbm, ⟨8, _⟩ => ⟨S_, .f32⟩
  | .hbm, ⟨9, _⟩ => ⟨S8192x8x128, .f32⟩
  | .hbm, ⟨10, _⟩ => ⟨S8192x1024, .f32⟩
  | .hbm, ⟨11, _⟩ => ⟨S8192x2048, .f32⟩
  | .hbm, ⟨12, _⟩ => ⟨S8192x512, .bf16⟩
  | .hbm, ⟨13, _⟩ => ⟨S8192x2048, .bf16⟩
  | .hbm, ⟨14, _⟩ => ⟨S1x512x2048, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .f32⟩
  | .local _ .vmem, ⟨5, _⟩ => ⟨S1x512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x512 : Shape := ⟨2, ![8192, 512]⟩
abbrev S512x1536 : Shape := ⟨2, ![512, 1536]⟩
abbrev S8192x1536 : Shape := ⟨2, ![8192, 1536]⟩
abbrev S1536x512 : Shape := ⟨2, ![1536, 512]⟩
abbrev S512x8x192 : Shape := ⟨3, ![512, 8, 192]⟩
abbrev S512x8x128 : Shape := ⟨3, ![512, 8, 128]⟩
abbrev S512x8x64 : Shape := ⟨3, ![512, 8, 64]⟩
abbrev S_ : Shape := ⟨0, ![]⟩
abbrev S512x1024 : Shape := ⟨2, ![512, 1024]⟩
abbrev S512x2048 : Shape := ⟨2, ![512, 2048]⟩
abbrev S1x512x2048 : Shape := ⟨3, ![1, 512, 2048]⟩

abbrev nBuf : Space → Nat
  | .hbm => 17
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1536, .f32⟩
  | .hbm, ⟨2, _⟩ => ⟨S8192x1536, .f32⟩
  | .hbm, ⟨3, _⟩ => ⟨S8192x1536, .f32⟩
  | .hbm, ⟨4, _⟩ => ⟨S1536x512, .f32⟩
  | .hbm, ⟨5, _⟩ => ⟨S512x1536, .f32⟩
  | .hbm, ⟨6, _⟩ => ⟨S8192x512, .f32⟩
  | .hbm, ⟨7, _⟩ => ⟨S512x8x192, .f32⟩
  | .hbm, ⟨8, _⟩ => ⟨S512x8x128, .f32⟩
  | .hbm, ⟨9, _⟩ => ⟨S512x8x64, .f32⟩
  | .hbm, ⟨10, _⟩ => ⟨S_, .f32⟩
  | .hbm, ⟨11, _⟩ => ⟨S512x8x64, .f32⟩
  | .hbm, ⟨12, _⟩ => ⟨S512x8x128, .f32⟩
  | .hbm, ⟨13, _⟩ => ⟨S512x1024, .f32⟩
  | .hbm, ⟨14, _⟩ => ⟨S512x1024, .f32⟩
  | .hbm, ⟨15, _⟩ => ⟨S512x2048, .f32⟩
  | .hbm, ⟨16, _⟩ => ⟨S1x512x2048, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel10.lean ====
abbrev S8192x512 : Shape := ⟨2, ![8192, 512]⟩
abbrev S512x1024 : Shape := ⟨2, ![512, 1024]⟩
abbrev S8192x1024 : Shape := ⟨2, ![8192, 1024]⟩
abbrev S4x512x256 : Shape := ⟨3, ![4, 512, 256]⟩
abbrev S2048x512 : Shape := ⟨2, ![2048, 512]⟩
abbrev S2048x256 : Shape := ⟨2, ![2048, 256]⟩
abbrev S1x512x256 : Shape := ⟨3, ![1, 512, 256]⟩
abbrev S512x256 : Shape := ⟨2, ![512, 256]⟩

abbrev nBuf : Space → Nat
  | .hbm => 6
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x512, .bf16⟩
  | .hbm, ⟨4, _⟩ => ⟨S8192x1024, .bf16⟩
  | .hbm, ⟨5, _⟩ => ⟨S4x512x256, .f32⟩
  | .local _ .vmem, ⟨0, _⟩ => ⟨S2048x512, .bf16⟩
  | .local _ .vmem, ⟨1, _⟩ => ⟨S2048x512, .bf16⟩
  | .local _ .vmem, ⟨2, _⟩ => ⟨S2048x256, .bf16⟩
  | .local _ .vmem, ⟨3, _⟩ => ⟨S2048x256, .bf16⟩
  | .local _ .vmem, ⟨4, _⟩ => ⟨S1x512x256, .f32⟩
  | .local _ .vmem, ⟨5, _⟩ => ⟨S1x512x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S512x4x256 : Shape := ⟨3, ![512, 4, 256]⟩
abbrev S4x512x256 : Shape := ⟨3, ![4, 512, 256]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .f32⟩
  | .hbm, ⟨4, _⟩ => ⟨S1024x512, .f32⟩
  | .hbm, ⟨5, _⟩ => ⟨S512x1024, .f32⟩
  | .hbm, ⟨6, _⟩ => ⟨S8192x512, .f32⟩
  | .hbm, ⟨7, _⟩ => ⟨S512x4x256, .f32⟩
  | .hbm, ⟨8, _⟩ => ⟨S4x512x256, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S2048x2048 : Shape := ⟨2, ![2048, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference11Ideal.lean ====
abbrev S2048x2048 : Shape := ⟨2, ![2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel12.lean ====
abbrev S512x2048 : Shape := ⟨2, ![512, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference12Ideal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S2048x784 : Shape := ⟨2, ![2048, 784]⟩
abbrev S784x2048 : Shape := ⟨2, ![784, 2048]⟩
abbrev S112x2048 : Shape := ⟨2, ![112, 2048]⟩

abbrev nBuf : Space → Nat
  | .hbm => 11
  | .vmem => 14
  | .smem => 0
  | _ => 0

abbrev bufTy : (tb : Table) → Fin (tcTables nBuf tb) → BufTy
  | .hbm, ⟨0, _⟩ => ⟨S2048x784, .f32⟩
  | .hbm, ⟨1, _⟩ => ⟨S2048x784, .f32⟩
  | .hbm, ⟨2, _⟩ => ⟨S2048x784, .f32⟩
  | .hbm, ⟨3, _⟩ => ⟨S2048x784, .f32⟩
  | .hbm, ⟨4, _⟩ => ⟨S784x2048, .f32⟩
  | .hbm, ⟨5, _⟩ => ⟨S784x2048, .f32⟩
  | .hbm, ⟨6, _⟩ => ⟨S784x2048, .f32⟩
  | .hbm, ⟨7, _⟩ => ⟨S784x2048, .f32⟩
  | .hbm, ⟨8, _⟩ => ⟨S784x2048, .f32⟩
  | .hbm, ⟨9, _⟩ => ⟨S784x2048, .f32⟩
  | .hbm, ⟨10, _⟩ => ⟨S784x2048, .f32⟩
  | .local _ .vmem, ⟨0, _⟩ => ⟨S112x2048, .f32⟩
  | .local _ .vmem, ⟨1, _⟩ => ⟨S112x2048, .f32⟩
  | .local _ .vmem, ⟨2, _⟩ => ⟨S112x2048, .f32⟩
  | .local _ .vmem, ⟨3, _⟩ => ⟨S112x2048, .f32⟩
  | .local _ .vmem, ⟨4, _⟩ => ⟨S112x2048, .f32⟩
  | .local _ .vmem, ⟨5, _⟩ => ⟨S112x2048, .f32⟩
  | .local _ .vmem, ⟨6, _⟩ => ⟨S112x2048, .f32⟩
  | .local _ .vmem, ⟨7, _⟩ => ⟨S112x2048, .f32⟩
  | .local _ .vmem, ⟨8, _⟩ => ⟨S112x2048, .f32⟩
  | .local _ .vmem, ⟨9, _⟩ => ⟨S112x2048, .f32⟩
  | .local _ .vmem, ⟨10, _⟩ => ⟨S112x2048, .f32⟩
  | .local _ .vmem, ⟨11, _⟩ => ⟨S112x2048, .f32⟩
  | .local _ .vmem, ⟨12, _⟩ => ⟨S112x2048, .f32⟩
  | .local _ .vmem, ⟨13, _⟩ => ⟨S112x2048, .f32⟩
  | _, _ => ⟨S2048x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S112x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S112x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S112x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S112x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S112x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S112x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S112x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S2048x784 : Shape := ⟨2, ![2048, 784]⟩
abbrev S_ : Shape := ⟨0, ![]⟩
abbrev S784x2048 : Shape := ⟨2, ![784, 2048]⟩

abbrev nBuf : Space → Nat
  | .hbm => 40
  | .vmem => 0
  | .smem => 0
  | _ => 0

abbrev bufTy : (tb : Table) → Fin (tcTables nBuf tb) → BufTy
  | .hbm, ⟨0, _⟩ => ⟨S2048x784, .f32⟩
  | .hbm, ⟨1, _⟩ => ⟨S2048x784, .f32⟩
  | .hbm, ⟨2, _⟩ => ⟨S2048x784, .f32⟩
  | .hbm, ⟨3, _⟩ => ⟨S2048x784, .f32⟩
  | .hbm, ⟨4, _⟩ => ⟨S_, .f32⟩
  | .hbm, ⟨5, _⟩ => ⟨S2048x784, .f32⟩
  | .hbm, ⟨6, _⟩ => ⟨S2048x784, .f32⟩
  | .hbm, ⟨7, _⟩ => ⟨S_, .f32⟩
  | .hbm, ⟨8, _⟩ => ⟨S2048x784, .f32⟩
  | .hbm, ⟨9, _⟩ => ⟨S2048x784, .f32⟩
  | .hbm, ⟨10, _⟩ => ⟨S2048x784, .f32⟩
  | .hbm, ⟨11, _⟩ => ⟨S_, .f32⟩
  | .hbm, ⟨12, _⟩ => ⟨S2048x784, .f32⟩
  | .hbm, ⟨13, _⟩ => ⟨S2048x784, .f32⟩
  | .hbm, ⟨14, _⟩ => ⟨S2048x784, .f32⟩
  | .hbm, ⟨15, _⟩ => ⟨S_, .f32⟩
  | .hbm, ⟨16, _⟩ => ⟨S2048x784, .f32⟩
  | .hbm, ⟨17, _⟩ => ⟨S2048x784, .f32⟩
  | .hbm, ⟨18, _⟩ => ⟨S2048x784, .f32⟩
  | .hbm, ⟨19, _⟩ => ⟨S_, .f32⟩
  | .hbm, ⟨20, _⟩ => ⟨S2048x784, .f32⟩
  | .hbm, ⟨21, _⟩ => ⟨S2048x784, .f32⟩
  | .hbm, ⟨22, _⟩ => ⟨S_, .f32⟩
  | .hbm, ⟨23, _⟩ => ⟨S2048x784, .f32⟩
  | .hbm, ⟨24, _⟩ => ⟨S2048x784, .f32⟩
  | .hbm, ⟨25, _⟩ => ⟨S2048x784, .f32⟩
  | .hbm, ⟨26, _⟩ => ⟨S_, .f32⟩
  | .hbm, ⟨27, _⟩ => ⟨S2048x784, .f32⟩
  | .hbm, ⟨28, _⟩ => ⟨S2048x784, .f32⟩
  | .hbm, ⟨29, _⟩ => ⟨S2048x784, .f32⟩
  | .hbm, ⟨30, _⟩ => ⟨S_, .f32⟩
  | .hbm, ⟨31, _⟩ => ⟨S2048x784, .f32⟩
  | .hbm, ⟨32, _⟩ => ⟨S2048x784, .f32⟩
  | .hbm, ⟨33, _⟩ => ⟨S2048x784, .f32⟩
  | .hbm, ⟨34, _⟩ => ⟨S_, .f32⟩
  | .hbm, ⟨35, _⟩ => ⟨S2048x784, .f32⟩
  | .hbm, ⟨36, _⟩ => ⟨S2048x784, .f32⟩
  | .hbm, ⟨37, _⟩ => ⟨S784x2048, .f32⟩
  | .hbm, ⟨38, _⟩ => ⟨S784x2048, .f32⟩
  | .hbm, ⟨39, _⟩ => ⟨S784x2048, .f32⟩
  | _, _ => ⟨S2048x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel14.lean ====
abbrev S512x384 : Shape := ⟨2, ![512, 384]⟩

abbrev nBuf : Space → Nat
  | .hbm => 7
  | .vmem => 7
  | .smem => 0
  | _ => 0

abbrev bufTy : (tb : Table) → Fin (tcTables nBuf tb) → BufTy
  | .hbm, ⟨0, _⟩ => ⟨S512x384, .f32⟩
  | .hbm, ⟨1, _⟩ => ⟨S512x384, .f32⟩
  | .hbm, ⟨2, _⟩ => ⟨S512x384, .f32⟩
  | .hbm, ⟨3, _⟩ => ⟨S512x384, .f32⟩
  | .hbm, ⟨4, _⟩ => ⟨S512x384, .f32⟩
  | .hbm, ⟨5, _⟩ => ⟨S512x384, .f32⟩
  | .hbm, ⟨6, _⟩ => ⟨S512x384, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | _, _ => ⟨S512x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference14Ideal.lean ====
abbrev S512x384 : Shape := ⟨2, ![512, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x384, .f32⟩
  | .hbm, ⟨1, _⟩ => ⟨S512x384, .f32⟩
  | .hbm, ⟨2, _⟩ => ⟨S512x384, .f32⟩
  | .hbm, ⟨3, _⟩ => ⟨S512x384, .f32⟩
  | .hbm, ⟨4, _⟩ => ⟨S_, .f32⟩
  | .hbm, ⟨5, _⟩ => ⟨S512x384, .f32⟩
  | .hbm, ⟨6, _⟩ => ⟨S512x384, .f32⟩
  | .hbm, ⟨7, _⟩ => ⟨S_, .f32⟩
  | .hbm, ⟨8, _⟩ => ⟨S512x384, .f32⟩
  | .hbm, ⟨9, _⟩ => ⟨S512x384, .f32⟩
  | .hbm, ⟨10, _⟩ => ⟨S512x384, .f32⟩
  | .hbm, ⟨11, _⟩ => ⟨S_, .f32⟩
  | .hbm, ⟨12, _⟩ => ⟨S512x384, .f32⟩
  | .hbm, ⟨13, _⟩ => ⟨S512x384, .f32⟩
  | .hbm, ⟨14, _⟩ => ⟨S512x384, .f32⟩
  | .hbm, ⟨15, _⟩ => ⟨S_, .f32⟩
  | .hbm, ⟨16, _⟩ => ⟨S512x384, .f32⟩
  | .hbm, ⟨17, _⟩ => ⟨S512x384, .f32⟩
  | .hbm, ⟨18, _⟩ => ⟨S512x384, .f32⟩
  | .hbm, ⟨19, _⟩ => ⟨S_, .f32⟩
  | .hbm, ⟨20, _⟩ => ⟨S512x384, .f32⟩
  | .hbm, ⟨21, _⟩ => ⟨S512x384, .f32⟩
  | .hbm, ⟨22, _⟩ => ⟨S_, .f32⟩
  | .hbm, ⟨23, _⟩ => ⟨S512x384, .f32⟩
  | .hbm, ⟨24, _⟩ => ⟨S512x384, .f32⟩
  | .hbm, ⟨25, _⟩ => ⟨S512x384, .f32⟩
  | .hbm, ⟨26, _⟩ => ⟨S_, .f32⟩
  | .hbm, ⟨27, _⟩ => ⟨S512x384, .f32⟩
  | .hbm, ⟨28, _⟩ => ⟨S512x384, .f32⟩
  | .hbm, ⟨29, _⟩ => ⟨S512x384, .f32⟩
  | .hbm, ⟨30, _⟩ => ⟨S_, .f32⟩
  | .hbm, ⟨31, _⟩ => ⟨S512x384, .f32⟩
  | .hbm, ⟨32, _⟩ => ⟨S512x384, .f32⟩
  | .hbm, ⟨33, _⟩ => ⟨S512x384, .f32⟩
  | .hbm, ⟨34, _⟩ => ⟨S_, .f32⟩
  | .hbm, ⟨35, _⟩ => ⟨S512x384, .f32⟩
  | .hbm, ⟨36, _⟩ => ⟨S512x384, .f32⟩
  | _, _ => ⟨S512x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S512x256 : Shape := ⟨2, ![512, 256]⟩

abbrev nBuf : Space → Nat
  | .hbm => 7
  | .vmem => 7
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference15Ideal.lean ====
abbrev S512x256 : Shape := ⟨2, ![512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S_, .f32⟩
  | .hbm, ⟨5, _⟩ => ⟨S512x256, .f32⟩
  | .hbm, ⟨6, _⟩ => ⟨S512x256, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S_, .f32⟩
  | .hbm, ⟨12, _⟩ => ⟨S512x256, .f32⟩
  | .hbm, ⟨13, _⟩ => ⟨S512x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S512x256, .f32⟩
  | .hbm, ⟨19, _⟩ => ⟨S_, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S_, .f32⟩
  | .hbm, ⟨27, _⟩ => ⟨S512x256, .f32⟩
  | .hbm, ⟨28, _⟩ => ⟨S512x256, .f32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .f32⟩
  | .hbm, ⟨33, _⟩ => ⟨S512x256, .f32⟩
  | .hbm, ⟨34, _⟩ => ⟨S_, .f32⟩
  | .hbm, ⟨35, _⟩ => ⟨S512x256, .f32⟩
  | .hbm, ⟨36, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S31x256 : Shape := ⟨2, ![31, 256]⟩

abbrev nBuf : Space → Nat
  | .hbm => 7
  | .vmem => 7
  | .smem => 0
  | _ => 0

abbrev bufTy : (tb : Table) → Fin (tcTables nBuf tb) → BufTy
  | .hbm, ⟨0, _⟩ => ⟨S31x256, .f32⟩
  | .hbm, ⟨1, _⟩ => ⟨S31x256, .f32⟩
  | .hbm, ⟨2, _⟩ => ⟨S31x256, .f32⟩
  | .hbm, ⟨3, _⟩ => ⟨S31x256, .f32⟩
  | .hbm, ⟨4, _⟩ => ⟨S31x256, .f32⟩
  | .hbm, ⟨5, _⟩ => ⟨S31x256, .f32⟩
  | .hbm, ⟨6, _⟩ => ⟨S31x256, .f32⟩
  | .local _ .vmem, ⟨0, _⟩ => ⟨S31x256, .f32⟩
  | .local _ .vmem, ⟨1, _⟩ => ⟨S31x256, .f32⟩
  | .local _ .vmem, ⟨2, _⟩ => ⟨S31x256, .f32⟩
  | .local _ .vmem, ⟨3, _⟩ => ⟨S31x256, .f32⟩
  | .local _ .vmem, ⟨4, _⟩ => ⟨S31x256, .f32⟩
  | .local _ .vmem, ⟨5, _⟩ => ⟨S31x256, .f32⟩
  | .local _ .vmem, ⟨6, _⟩ => ⟨S31x256, .f32⟩
  | _, _ => ⟨S31x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S31x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S31x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S31x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S31x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S31x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S31x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S31x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference16Ideal.lean ====
abbrev S31x256 : Shape := ⟨2, ![31, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S31x256, .f32⟩
  | .hbm, ⟨1, _⟩ => ⟨S31x256, .f32⟩
  | .hbm, ⟨2, _⟩ => ⟨S31x256, .f32⟩
  | .hbm, ⟨3, _⟩ => ⟨S31x256, .f32⟩
  | .hbm, ⟨4, _⟩ => ⟨S_, .f32⟩
  | .hbm, ⟨5, _⟩ => ⟨S31x256, .f32⟩
  | .hbm, ⟨6, _⟩ => ⟨S31x256, .f32⟩
  | .hbm, ⟨7, _⟩ => ⟨S_, .f32⟩
  | .hbm, ⟨8, _⟩ => ⟨S31x256, .f32⟩
  | .hbm, ⟨9, _⟩ => ⟨S31x256, .f32⟩
  | .hbm, ⟨10, _⟩ => ⟨S31x256, .f32⟩
  | .hbm, ⟨11, _⟩ => ⟨S_, .f32⟩
  | .hbm, ⟨12, _⟩ => ⟨S31x256, .f32⟩
  | .hbm, ⟨13, _⟩ => ⟨S31x256, .f32⟩
  | .hbm, ⟨14, _⟩ => ⟨S31x256, .f32⟩
  | .hbm, ⟨15, _⟩ => ⟨S_, .f32⟩
  | .hbm, ⟨16, _⟩ => ⟨S31x256, .f32⟩
  | .hbm, ⟨17, _⟩ => ⟨S31x256, .f32⟩
  | .hbm, ⟨18, _⟩ => ⟨S31x256, .f32⟩
  | .hbm, ⟨19, _⟩ => ⟨S_, .f32⟩
  | .hbm, ⟨20, _⟩ => ⟨S31x256, .f32⟩
  | .hbm, ⟨21, _⟩ => ⟨S31x256, .f32⟩
  | .hbm, ⟨22, _⟩ => ⟨S_, .f32⟩
  | .hbm, ⟨23, _⟩ => ⟨S31x256, .f32⟩
  | .hbm, ⟨24, _⟩ => ⟨S31x256, .f32⟩
  | .hbm, ⟨25, _⟩ => ⟨S31x256, .f32⟩
  | .hbm, ⟨26, _⟩ => ⟨S_, .f32⟩
  | .hbm, ⟨27, _⟩ => ⟨S31x256, .f32⟩
  | .hbm, ⟨28, _⟩ => ⟨S31x256, .f32⟩
  | .hbm, ⟨29, _⟩ => ⟨S31x256, .f32⟩
  | .hbm, ⟨30, _⟩ => ⟨S_, .f32⟩
  | .hbm, ⟨31, _⟩ => ⟨S31x256, .f32⟩
  | .hbm, ⟨32, _⟩ => ⟨S31x256, .f32⟩
  | .hbm, ⟨33, _⟩ => ⟨S31x256, .f32⟩
  | .hbm, ⟨34, _⟩ => ⟨S_, .f32⟩
  | .hbm, ⟨35, _⟩ => ⟨S31x256, .f32⟩
  | .hbm, ⟨36, _⟩ => ⟨S31x256, .f32⟩
  | _, _ => ⟨S31x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S8192x2048 : Shape := ⟨2, ![8192, 2048]⟩
abbrev S2048x2048 : Shape := ⟨2, ![2048, 2048]⟩
abbrev S8192x1024 : Shape := ⟨2, ![8192, 1024]⟩
abbrev S8x128x8192 : Shape := ⟨3, ![8, 128, 8192]⟩
abbrev S8x1x8192 : Shape := ⟨3, ![8, 1, 8192]⟩
abbrev S256x2048 : Shape := ⟨2, ![256, 2048]⟩
abbrev S256x1024 : Shape := ⟨2, ![256, 1024]⟩
abbrev S8x128x256 : Shape := ⟨3, ![8, 128, 256]⟩
abbrev S8x1x256 : Shape := ⟨3, ![8, 1, 256]⟩
abbrev S256x128 : Shape := ⟨2, ![256, 128]⟩
abbrev S256 : Shape := ⟨1, ![256]⟩
abbrev S256x1 : Shape := ⟨2, ![256, 1]⟩
abbrev S128x256 : Shape := ⟨2, ![128, 256]⟩
abbrev S1x256 : Shape := ⟨2, ![1, 256]⟩
abbrev S1x1x256 : Shape := ⟨3, ![1, 1, 256]⟩
abbrev S1x128x256 : Shape := ⟨3, ![1, 128, 256]⟩

abbrev nBuf : Space → Nat
  | .hbm => 11
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S2048x2048, .bf16⟩
  | .hbm, ⟨5, _⟩ => ⟨S2048x2048, .bf16⟩
  | .hbm, ⟨6, _⟩ => ⟨S8192x1024, .f32⟩
  | .hbm, ⟨7, _⟩ => ⟨S8192x1024, .bf16⟩
  | .hbm, ⟨8, _⟩ => ⟨S8x128x8192, .bf16⟩
  | .hbm, ⟨9, _⟩ => ⟨S8192x1024, .f32⟩
  | .hbm, ⟨10, _⟩ => ⟨S8x1x8192, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x1024, .f32⟩
  | .local _ .vmem, ⟨4, _⟩ => ⟨S256x1024, .f32⟩
  | .local _ .vmem, ⟨5, _⟩ => ⟨S256x1024, .bf16⟩
  | .local _ .vmem, ⟨6, _⟩ => ⟨S256x1024, .bf16⟩
  | .local _ .vmem, ⟨7, _⟩ => ⟨S8x128x256, .bf16⟩
  | .local _ .vmem, ⟨8, _⟩ => ⟨S8x128x256, .bf16⟩
  | .local _ .vmem, ⟨9, _⟩ => ⟨S256x1024, .f32⟩
  | .local _ .vmem, ⟨10, _⟩ => ⟨S256x1024, .f32⟩
  | .local _ .vmem, ⟨11, _⟩ => ⟨S8x1x256, .f32⟩
  | .local _ .vmem, ⟨12, _⟩ => ⟨S8x1x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S8192x2048 : Shape := ⟨2, ![8192, 2048]⟩
abbrev S2048x2048 : Shape := ⟨2, ![2048, 2048]⟩
abbrev S8192x1024 : Shape := ⟨2, ![8192, 1024]⟩
abbrev S8192x8x128 : Shape := ⟨3, ![8192, 8, 128]⟩
abbrev S_ : Shape := ⟨0, ![]⟩
abbrev S8192x8 : Shape := ⟨2, ![8192, 8]⟩
abbrev S8x128x8192 : Shape := ⟨3, ![8, 128, 8192]⟩
abbrev S8x8192 : Shape := ⟨2, ![8, 8192]⟩
abbrev S8x1x8192 : Shape := ⟨3, ![8, 1, 8192]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S2048x2048, .f32⟩
  | .hbm, ⟨6, _⟩ => ⟨S8192x2048, .f32⟩
  | .hbm, ⟨7, _⟩ => ⟨S8192x1024, .f32⟩
  | .hbm, ⟨8, _⟩ => ⟨S8192x1024, .f32⟩
  | .hbm, ⟨9, _⟩ => ⟨S8192x8x128, .f32⟩
  | .hbm, ⟨10, _⟩ => ⟨S8192x1024, .f32⟩
  | .hbm, ⟨11, _⟩ => ⟨S8192x8x128, .f32⟩
  | .hbm, ⟨12, _⟩ => ⟨S8192x8x128, .f32⟩
  | .hbm, ⟨13, _⟩ => ⟨S_, .f32⟩
  | .hbm, ⟨14, _⟩ => ⟨S8192x8, .f32⟩
  | .hbm, ⟨15, _⟩ => ⟨S8192x1024, .bf16⟩
  | .hbm, ⟨16, _⟩ => ⟨S8x128x8192, .f32⟩
  | .hbm, ⟨17, _⟩ => ⟨S8x128x8192, .bf16⟩
  | .hbm, ⟨18, _⟩ => ⟨S8x8192, .f32⟩
  | .hbm, ⟨19, _⟩ => ⟨S8x1x8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Kernel19.lean ====
abbrev S8192x2048 : Shape := ⟨2, ![8192, 2048]⟩
abbrev S2048x2048 : Shape := ⟨2, ![2048, 2048]⟩
abbrev S2048 : Shape := ⟨1, ![2048]⟩
abbrev S8192x1024 : Shape := ⟨2, ![8192, 1024]⟩
abbrev S1x2048 : Shape := ⟨2, ![1, 2048]⟩
abbrev S256x1024 : Shape := ⟨2, ![256, 1024]⟩
abbrev S256x2048 : Shape := ⟨2, ![256, 2048]⟩
abbrev S1024x2048 : Shape := ⟨2, ![1024, 2048]⟩
abbrev S128x2048 : Shape := ⟨2, ![128, 2048]⟩
abbrev S128 : Shape := ⟨1, ![128]⟩
abbrev S128x1 : Shape := ⟨2, ![128, 1]⟩

abbrev nBuf : Space → Nat
  | .hbm => 14
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S8192x2048, .bf16⟩
  | .hbm, ⟨6, _⟩ => ⟨S8192x1024, .bf16⟩
  | .hbm, ⟨7, _⟩ => ⟨S8192x1024, .bf16⟩
  | .hbm, ⟨8, _⟩ => ⟨S2048x2048, .bf16⟩
  | .hbm, ⟨9, _⟩ => ⟨S1x2048, .f32⟩
  | .hbm, ⟨10, _⟩ => ⟨S1x2048, .f32⟩
  | .hbm, ⟨11, _⟩ => ⟨S8192x2048, .f32⟩
  | .hbm, ⟨12, _⟩ => ⟨S8192x2048, .f32⟩
  | .hbm, ⟨13, _⟩ => ⟨S8192x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S2048x2048, .bf16⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | .local _ .vmem, ⟨14, _⟩ => ⟨S256x2048, .bf16⟩
  | .local _ .vmem, ⟨15, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c2_i32 : BitVec 32 := 2#32
  let v18 : BitVec 32 := Scalar.addi c0_i32 c2_i32
  let c1_i32 : BitVec 32 := 1#32
  ⟨c0_i32, v18, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c128_i32 : BitVec 32 := 128#32
  let v19 : BitVec 32 := Scalar.muli arg11 c128_i32
  v19
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v19 : BitVec 32 := Scalar.muli arg11 c128_i32
  let v20 : BitVec 32 := v19
  let v21 : Index := Scalar.indexCast v20
  let c0_14 : Index := 0#32
  ![v21.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference19Ideal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x2048, .f32⟩
  | .hbm, ⟨30, _⟩ => ⟨S8192x2048, .f32⟩
  | .hbm, ⟨31, _⟩ => ⟨S1x2048, .f32⟩
  | .hbm, ⟨32, _⟩ => ⟨S8192x2048, .f32⟩
  | .hbm, ⟨33, _⟩ => ⟨S8192x2048, .f32⟩
  | .hbm, ⟨34, _⟩ => ⟨S1x2048, .f32⟩
  | .hbm, ⟨35, _⟩ => ⟨S8192x2048, .f32⟩
  | .hbm, ⟨36, _⟩ => ⟨S8192x2048, .f32⟩
  | .hbm, ⟨37, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Proof.OutBwd.lean ====
module

public import proofs.«01_k».proof.Proof.Gen.Kernel17Ideal.Value
public import proofs.«01_k».proof.Defs
public import proofs.«01_k».proof.Proof.Gen.Reference17Ideal.Run
public import proofs.«01_k».proof.Proof.Gen.Reference17Ideal.Read
public import Idealize.ShloMosaic.Adequacy
public import Idealize.ShloMosaic.Init
public import Idealize.ShloMosaic.Lib.Pipeline.ValueKit
public import Idealize.ShloMosaic.Lib.Pipeline.ReadBack
public import Idealize.ShloMosaic.Lib.Pointwise
public import Idealize.ShloMosaic.Lib.ValueIdx

@[expose] public section

set_option maxRecDepth 16384

noncomputable section

/-! The output projection's backward call: the call's arrays and the reference's, at an index. -/

namespace Cert.Kernel17Ideal.OutBwd

open Cert.Kernel17Ideal Cert.Kernel17Ideal.Gen Idealize.ShloMosaic Idealize.ShloMosaic.TcCoe Idealize.SL.Sem

/-- A block of the product. -/
theorem pay5 (a : Vec Ideal S256x2048 .bf16) (w : Vec Ideal S2048x2048 .bf16) (i : Fin 256) (j : Fin 2048) :
    k0_pay5 a w (ix2 i j) = ∑ d : Fin 2048, a (ix2 i d) * w (ix2 d j) := by
  unfold k0_pay5
  pointwise

/-- What a point leaves in this output's block, as the body's value. -/
theorem out3 (a : Vec Ideal S256x2048 .bf16) (w : Vec Ideal S2048x2048 .bf16) (o : Vec Ideal S256x1024 .f32) : out0_3 a w o = k0_pay7 a w := by
  frame_out

/-- What a point leaves in this output's block, as the body's value. -/
theorem out5 (a : Vec Ideal S256x2048 .bf16) (w : Vec Ideal S2048x2048 .bf16) (o : Vec Ideal S256x1024 .f32) : out0_5 a w o = k0_pay8 a w := by
  frame_out

/-- The body's value at an index: one half of the product's columns. -/
theorem pay7 (a : Vec Ideal S256x2048 .bf16) (w : Vec Ideal S2048x2048 .bf16) (i : Fin 256) (j : Fin 1024) :
    k0_pay7 a w (ix2 i j) = ∑ d : Fin 2048, a (ix2 i d) * w (ix2 d ⟨j.val, by omega⟩) := by
  unfold k0_pay7 k0_pay6 k0_pay5
  pointwise

/-- The body's value at an index: one half of the product's columns. -/
theorem pay8 (a : Vec Ideal S256x2048 .bf16) (w : Vec Ideal S2048x2048 .bf16) (i : Fin 256) (j : Fin 1024) :
    k0_pay8 a w (ix2 i j) = ∑ d : Fin 2048, a (ix2 i d) * w (ix2 d ⟨1024 + j.val, by omega⟩) := by
  unfold k0_pay8 k0_pay5
  pointwise

/-- A block of the attention's gradient. -/
theorem pay6 (a : Vec Ideal S256x2048 .bf16) (w : Vec Ideal S2048x2048 .bf16) (i : Fin 256) (j : Fin 1024) :
    k0_pay6 a w (ix2 i j) = ∑ d : Fin 2048, a (ix2 i d) * w (ix2 d ⟨j.val, by omega⟩) := by
  unfold k0_pay6 k0_pay5
  pointwise

/-- Its product with the attention's output, element by element. -/
theorem pay9 (a : Vec Ideal S256x2048 .bf16) (w : Vec Ideal S2048x2048 .bf16) (o : Vec Ideal S256x1024 .f32) (i : Fin 256) (j : Fin 1024) :
    k0_pay9 a w o (ix2 i j) = k0_pay6 a w (ix2 i j) * o (ix2 i j) := by
  unfold k0_pay9
  generalize k0_pay6 a w = v
  pointwise

/-- Lane `e` of head `h`. -/
abbrev lane (h : Fin 8) (e : Fin 128) : Fin 1024 := ⟨h.val * 128 + e.val, by omega⟩

/-- An array's block transposed by heads. -/
def tr (v : Vec Ideal S256x1024 .f32) : Vec Ideal S8x128x256 .bf16 := fun y => v (ix2 (y 2) (lane (y 0) (y 1)))

/-- An array's block summed over the lanes of each head. -/
def sm (v : Vec Ideal S256x1024 .f32) : Vec Ideal S8x1x256 .f32 := fun y => ∑ e : Fin 128, v (ix2 (y 2) (lane (y 0) e))

/-- An index in terms of its coordinates. -/
theorem ixA (x : S1x128x256.Idx) : x = ix3 (0 : Fin 1) (x 1 : Fin 128) (x 2 : Fin 256) := by
  funext k
  fin_cases k
  · exact Fin.ext (by have h : (x 0).val < 1 := (x 0).isLt; show (x 0).val = 0; omega)
  · rfl
  · rfl
/-- An index in terms of its coordinates. -/
theorem ixB (x : S1x1x256.Idx) : x = ix3 (0 : Fin 1) (0 : Fin 1) (x 2 : Fin 256) := by
  funext k
  fin_cases k
  · exact Fin.ext (by have h : (x 0).val < 1 := (x 0).isLt; show (x 0).val = 0; omega)
  · exact Fin.ext (by have h : (x 1).val < 1 := (x 1).isLt; show (x 1).val = 0; omega)
  · rfl
/-- An index in terms of its coordinates. -/
theorem ixC (y : S8x1x8192.Idx) : y = ix3 (y 0 : Fin 8) (0 : Fin 1) (y 2 : Fin 8192) := by
  funext k
  fin_cases k
  · rfl
  · exact Fin.ext (by have h : (y 1).val < 1 := (y 1).isLt; show (y 1).val = 0; omega)
  · rfl
/-- Where a head's piece lies in the block. -/
theorem eA (h : Fin 8) (inb : ∀ a, (![h.val, 0, 0] : Fin 3 → Nat) a + S1x128x256.size a ≤ S8x128x256.size a) (d : Fin 128) (r : Fin 256) :
    (Rect.unit (s := S8x128x256) ![h.val, 0, 0] S1x128x256.size inb).emb (ix3 (0 : Fin 1) d r) = ix3 h d r := by
  funext k
  fin_cases k
  · exact Fin.ext (by show h.val + 1 * 0 = h.val; omega)
  · exact Fin.ext (by show 0 + 1 * d.val = d.val; omega)
  · exact Fin.ext (by show 0 + 1 * r.val = r.val; omega)
/-- Where a head's piece lies in the block. -/
theorem eB (h : Fin 8) (inb : ∀ a, (![h.val, 0, 0] : Fin 3 → Nat) a + S1x1x256.size a ≤ S8x1x256.size a) (r : Fin 256) :
    (Rect.unit (s := S8x1x256) ![h.val, 0, 0] S1x1x256.size inb).emb (ix3 (0 : Fin 1) (0 : Fin 1) r) = ix3 h (0 : Fin 1) r := by
  funext k
  fin_cases k
  · exact Fin.ext (by show h.val + 1 * 0 = h.val; omega)
  · rfl
  · exact Fin.ext (by show 0 + 1 * r.val = r.val; omega)
/-- Head 0's transposed store is its piece of the whole transposed block. -/
theorem t0 (a : Vec Ideal S256x2048 .bf16) (w : Vec Ideal S2048x2048 .bf16) (x : S1x128x256.Idx) : k0_pay11 (F := Ideal) a w x = tr (k0_pay6 a w) (r0_4.emb x) := by
  obtain ⟨d, r, rfl⟩ : ∃ (d : Fin 128) (r : Fin 256), x = ix3 (0 : Fin 1) d r := ⟨x 1, x 2, ixA x⟩
  rw [show r0_4.emb (ix3 (0 : Fin 1) d r) = (ix3 (0 : Fin 8) d r : S8x128x256.Idx) from eA 0 _ d r]
  unfold k0_pay11
  generalize k0_pay6 a w = v
  show _ = v (ix2 r (lane 0 d))
  pointwise
  exact congrArg (fun k => v (ix2 r k)) (Fin.ext (by show d.val = 0 * 128 + d.val; omega))
/-- Head 1's transposed store is its piece of the whole transposed block. -/
theorem t1 (v : Vec Ideal S256x1024 .f32) (x : S1x128x256.Idx) : k0_pay14 (F := Ideal) v x = tr v (r0_6.emb x) := by
  obtain ⟨d, r, rfl⟩ : ∃ (d : Fin 128) (r : Fin 256), x = ix3 (0 : Fin 1) d r := ⟨x 1, x 2, ixA x⟩
  rw [show r0_6.emb (ix3 (0 : Fin 1) d r) = (ix3 (1 : Fin 8) d r : S8x128x256.Idx) from eA 1 _ d r]
  unfold k0_pay14
  show _ = v (ix2 r (lane 1 d))
  pointwise
  rfl
/-- Head 2's transposed store is its piece of the whole transposed block. -/
theorem t2 (v : Vec Ideal S256x1024 .f32) (x : S1x128x256.Idx) : k0_pay16 (F := Ideal) v x = tr v (r0_8.emb x) := by
  obtain ⟨d, r, rfl⟩ : ∃ (d : Fin 128) (r : Fin 256), x = ix3 (0 : Fin 1) d r := ⟨x 1, x 2, ixA x⟩
  rw [show r0_8.emb (ix3 (0 : Fin 1) d r) = (ix3 (2 : Fin 8) d r : S8x128x256.Idx) from eA 2 _ d r]
  unfold k0_pay16
  show _ = v (ix2 r (lane 2 d))
  pointwise
  rfl
/-- Head 3's transposed store is its piece of the whole transposed block. -/
theorem t3 (v : Vec Ideal S256x1024 .f32) (x : S1x128x256.Idx) : k0_pay19 (F := Ideal) (k0_pay18 v) x = tr v (r0_10.emb x) := by
  obtain ⟨d, r, rfl⟩ : ∃ (d : Fin 128) (r : Fin 256), x = ix3 (0 : Fin 1) d r := ⟨x 1, x 2, ixA x⟩
  rw [show r0_10.emb (ix3 (0 : Fin 1) d r) = (ix3 (3 : Fin 8) d r : S8x128x256.Idx) from eA 3 _ d r]
  unfold k0_pay19 k0_pay18
  show _ = v (ix2 r (lane 3 d))
  pointwise
  rfl
/-- Head 4's transposed store is its piece of the whole transposed block. -/
theorem t4 (v : Vec Ideal S256x1024 .f32) (x : S1x128x256.Idx) : k0_pay21 (F := Ideal) v x = tr v (r0_12.emb x) := by
  obtain ⟨d, r, rfl⟩ : ∃ (d : Fin 128) (r : Fin 256), x = ix3 (0 : Fin 1) d r := ⟨x 1, x 2, ixA x⟩
  rw [show r0_12.emb (ix3 (0 : Fin 1) d r) = (ix3 (4 : Fin 8) d r : S8x128x256.Idx) from eA 4 _ d r]
  unfold k0_pay21
  show _ = v (ix2 r (lane 4 d))
  pointwise
  rfl
/-- Head 5's transposed store is its piece of the whole transposed block. -/
theorem t5 (v : Vec Ideal S256x1024 .f32) (x : S1x128x256.Idx) : k0_pay23 (F := Ideal) v x = tr v (r0_14.emb x) := by
  obtain ⟨d, r, rfl⟩ : ∃ (d : Fin 128) (r : Fin 256), x = ix3 (0 : Fin 1) d r := ⟨x 1, x 2, ixA x⟩
  rw [show r0_14.emb (ix3 (0 : Fin 1) d r) = (ix3 (5 : Fin 8) d r : S8x128x256.Idx) from eA 5 _ d r]
  unfold k0_pay23
  show _ = v (ix2 r (lane 5 d))
  pointwise
  rfl
/-- Head 6's transposed store is its piece of the whole transposed block. -/
theorem t6 (v : Vec Ideal S256x1024 .f32) (x : S1x128x256.Idx) : k0_pay2 (F := Ideal) v x = tr v (r0_16.emb x) := by
  obtain ⟨d, r, rfl⟩ : ∃ (d : Fin 128) (r : Fin 256), x = ix3 (0 : Fin 1) d r := ⟨x 1, x 2, ixA x⟩
  rw [show r0_16.emb (ix3 (0 : Fin 1) d r) = (ix3 (6 : Fin 8) d r : S8x128x256.Idx) from eA 6 _ d r]
  unfold k0_pay2
  show _ = v (ix2 r (lane 6 d))
  pointwise
  rfl
/-- Head 7's transposed store is its piece of the whole transposed block. -/
theorem t7 (v : Vec Ideal S256x1024 .f32) (x : S1x128x256.Idx) : k0_pay4 (F := Ideal) v x = tr v (r0_18.emb x) := by
  obtain ⟨d, r, rfl⟩ : ∃ (d : Fin 128) (r : Fin 256), x = ix3 (0 : Fin 1) d r := ⟨x 1, x 2, ixA x⟩
  rw [show r0_18.emb (ix3 (0 : Fin 1) d r) = (ix3 (7 : Fin 8) d r : S8x128x256.Idx) from eA 7 _ d r]
  unfold k0_pay4
  show _ = v (ix2 r (lane 7 d))
  pointwise
  rfl
/-- Head 0's stored row sums are their piece of the whole block of row sums. -/
theorem s0 (a : Vec Ideal S256x2048 .bf16) (w : Vec Ideal S2048x2048 .bf16) (o : Vec Ideal S256x1024 .f32) (x : S1x1x256.Idx) : k0_pay10 (F := Ideal) a w o x = sm (k0_pay9 a w o) (r0_3.emb x) := by
  obtain ⟨r, rfl⟩ : ∃ r : Fin 256, x = ix3 (0 : Fin 1) (0 : Fin 1) r := ⟨x 2, ixB x⟩
  rw [show r0_3.emb (ix3 (0 : Fin 1) (0 : Fin 1) r) = (ix3 (0 : Fin 8) (0 : Fin 1) r : S8x1x256.Idx) from eB 0 _ r]
  unfold k0_pay10
  generalize k0_pay9 a w o = v
  show _ = ∑ e : Fin 128, v (ix2 r (lane 0 e))
  pointwise <;> rfl
/-- Head 1's stored row sums are their piece of the whole block of row sums. -/
theorem s1 (a : Vec Ideal S256x2048 .bf16) (w : Vec Ideal S2048x2048 .bf16) (o : Vec Ideal S256x1024 .f32) (x : S1x1x256.Idx) : k0_pay13 (F := Ideal) (k0_pay12 a w o) x = sm (k0_pay9 a w o) (r0_5.emb x) := by
  obtain ⟨r, rfl⟩ : ∃ r : Fin 256, x = ix3 (0 : Fin 1) (0 : Fin 1) r := ⟨x 2, ixB x⟩
  rw [show r0_5.emb (ix3 (0 : Fin 1) (0 : Fin 1) r) = (ix3 (1 : Fin 8) (0 : Fin 1) r : S8x1x256.Idx) from eB 1 _ r]
  unfold k0_pay13 k0_pay12
  generalize k0_pay9 a w o = v
  show _ = ∑ e : Fin 128, v (ix2 r (lane 1 e))
  pointwise <;> rfl
/-- Head 2's stored row sums are their piece of the whole block of row sums. -/
theorem s2 (v : Vec Ideal S256x1024 .f32) (x : S1x1x256.Idx) : k0_pay15 (F := Ideal) v x = sm v (r0_7.emb x) := by
  obtain ⟨r, rfl⟩ : ∃ r : Fin 256, x = ix3 (0 : Fin 1) (0 : Fin 1) r := ⟨x 2, ixB x⟩
  rw [show r0_7.emb (ix3 (0 : Fin 1) (0 : Fin 1) r) = (ix3 (2 : Fin 8) (0 : Fin 1) r : S8x1x256.Idx) from eB 2 _ r]
  unfold k0_pay15
  show _ = ∑ e : Fin 128, v (ix2 r (lane 2 e))
  pointwise <;> rfl
/-- Head 3's stored row sums are their piece of the whole block of row sums. -/
theorem s3 (v : Vec Ideal S256x1024 .f32) (x : S1x1x256.Idx) : k0_pay17 (F := Ideal) v x = sm v (r0_9.emb x) := by
  obtain ⟨r, rfl⟩ : ∃ r : Fin 256, x = ix3 (0 : Fin 1) (0 : Fin 1) r := ⟨x 2, ixB x⟩
  rw [show r0_9.emb (ix3 (0 : Fin 1) (0 : Fin 1) r) = (ix3 (3 : Fin 8) (0 : Fin 1) r : S8x1x256.Idx) from eB 3 _ r]
  unfold k0_pay17
  show _ = ∑ e : Fin 128, v (ix2 r (lane 3 e))
  pointwise <;> rfl
/-- Head 4's stored row sums are their piece of the whole block of row sums. -/
theorem s4 (v : Vec Ideal S256x1024 .f32) (x : S1x1x256.Idx) : k0_pay20 (F := Ideal) v x = sm v (r0_11.emb x) := by
  obtain ⟨r, rfl⟩ : ∃ r : Fin 256, x = ix3 (0 : Fin 1) (0 : Fin 1) r := ⟨x 2, ixB x⟩
  rw [show r0_11.emb (ix3 (0 : Fin 1) (0 : Fin 1) r) = (ix3 (4 : Fin 8) (0 : Fin 1) r : S8x1x256.Idx) from eB 4 _ r]
  unfold k0_pay20
  show _ = ∑ e : Fin 128, v (ix2 r (lane 4 e))
  pointwise <;> rfl
/-- Head 5's stored row sums are their piece of the whole block of row sums. -/
theorem s5 (v : Vec Ideal S256x1024 .f32) (x : S1x1x256.Idx) : k0_pay22 (F := Ideal) v x = sm v (r0_13.emb x) := by
  obtain ⟨r, rfl⟩ : ∃ r : Fin 256, x = ix3 (0 : Fin 1) (0 : Fin 1) r := ⟨x 2, ixB x⟩
  rw [show r0_13.emb (ix3 (0 : Fin 1) (0 : Fin 1) r) = (ix3 (5 : Fin 8) (0 : Fin 1) r : S8x1x256.Idx) from eB 5 _ r]
  unfold k0_pay22
  show _ = ∑ e : Fin 128, v (ix2 r (lane 5 e))
  pointwise <;> rfl
/-- Head 6's stored row sums are their piece of the whole block of row sums. -/
theorem s6 (v : Vec Ideal S256x1024 .f32) (x : S1x1x256.Idx) : k0_pay1 (F := Ideal) (k0_pay24 v) x = sm v (r0_15.emb x) := by
  obtain ⟨r, rfl⟩ : ∃ r : Fin 256, x = ix3 (0 : Fin 1) (0 : Fin 1) r := ⟨x 2, ixB x⟩
  rw [show r0_15.emb (ix3 (0 : Fin 1) (0 : Fin 1) r) = (ix3 (6 : Fin 8) (0 : Fin 1) r : S8x1x256.Idx) from eB 6 _ r]
  unfold k0_pay1 k0_pay24
  show _ = ∑ e : Fin 128, v (ix2 r (lane 6 e))
  pointwise <;> rfl
/-- Head 7's stored row sums are their piece of the whole block of row sums. -/
theorem s7 (v : Vec Ideal S256x1024 .f32) (x : S1x1x256.Idx) : k0_pay3 (F := Ideal) v x = sm v (r0_17.emb x) := by
  obtain ⟨r, rfl⟩ : ∃ r : Fin 256, x = ix3 (0 : Fin 1) (0 : Fin 1) r := ⟨x 2, ixB x⟩
  rw [show r0_17.emb (ix3 (0 : Fin 1) (0 : Fin 1) r) = (ix3 (7 : Fin 8) (0 : Fin 1) r : S8x1x256.Idx) from eB 7 _ r]
  unfold k0_pay3
  show _ = ∑ e : Fin 128, v (ix2 r (lane 7 e))
  pointwise <;> rfl

/-- What a point leaves of the gradient transposed by heads. -/
theorem out4 (a : Vec Ideal S256x2048 .bf16) (w : Vec Ideal S2048x2048 .bf16) (o : Vec Ideal S256x1024 .f32) : out0_4 a w o = tr (k0_pay6 a w) := by
  have e : k0_pay25 a w o = k0_pay6 a w := by
    unfold k0_pay25
    frame_out
  frame_out
  rw [e]
  refine funext fun y => View.canon_apply_of_pieces (Val := Elt Ideal) (S := S8x128x256) (e := .bf16) (tr (k0_pay6 a w)) _ ?_ y (cover0_4 _ _ _ _ _ _ _ _ y)
  intro p hp
  simp only [List.mem_cons, List.not_mem_nil, or_false] at hp
  rcases hp with rfl | rfl | rfl | rfl | rfl | rfl | rfl | rfl
  · exact fun x => t7 (k0_pay6 a w) x
  · exact fun x => t6 (k0_pay6 a w) x
  · exact fun x => t5 (k0_pay6 a w) x
  · exact fun x => t4 (k0_pay6 a w) x
  · exact fun x => t3 (k0_pay6 a w) x
  · exact fun x => t2 (k0_pay6 a w) x
  · exact fun x => t1 (k0_pay6 a w) x
  · exact fun x => t0 a w x

/-- What a point leaves of the sums over lanes. -/
theorem out6 (a : Vec Ideal S256x2048 .bf16) (w : Vec Ideal S2048x2048 .bf16) (o : Vec Ideal S256x1024 .f32) : out0_6 a w o = sm (k0_pay9 a w o) := by
  have e : k0_pay26 a w o = k0_pay9 a w o := by
    unfold k0_pay26
    frame_out
  frame_out
  rw [e]
  refine funext fun y => View.canon_apply_of_pieces (Val := Elt Ideal) (S := S8x1x256) (e := .f32) (sm (k0_pay9 a w o)) _ ?_ y (cover0_6 _ _ _ _ _ _ _ _ y)
  intro p hp
  simp only [List.mem_cons, List.not_mem_nil, or_false] at hp
  rcases hp with rfl | rfl | rfl | rfl | rfl | rfl | rfl | rfl
  · exact fun x => s7 (k0_pay9 a w o) x
  · exact fun x => s6 (k0_pay9 a w o) x
  · exact fun x => s5 (k0_pay9 a w o) x
  · exact fun x => s4 (k0_pay9 a w o) x
  · exact fun x => s3 (k0_pay9 a w o) x
  · exact fun x => s2 (k0_pay9 a w o) x
  · exact fun x => s1 a w o x
  · exact fun x => s0 a w o x

variable (m : (ℓ : Loc nD τ sig) → Buf (Elt Ideal) ℓ) (c : Dev nD)

/-- The attention's output, heads then convolution. -/
abbrev a0 : (⟨S8192x2048, .f32⟩ : BufTy).Contents (Elt Ideal) := m ((c.tc : Thread nD τ).loc main_arg0)
/-- The weights. -/
abbrev a1 : (⟨S2048x2048, .f32⟩ : BufTy).Contents (Elt Ideal) := m ((c.tc : Thread nD τ).loc main_arg1)
/-- The gradient of the product. -/
abbrev a2 : (⟨S8192x2048, .f32⟩ : BufTy).Contents (Elt Ideal) := m ((c.tc : Thread nD τ).loc main_arg2)

/-- What the array that goes into the call holds after the host's lines. -/
theorem V0 : V m c main_v0 = (truncf (F := Ideal) (φ := .f32) .bf16 (a2 m c) bitsLt_bf16_f32) := by
  show StableHlo.after hostOps0 _ main_v0 = _
  after_results_simp <;> rfl
/-- What the array that goes into the call holds after the host's lines. -/
theorem V2 : (V m c main_v2 : Vec Ideal S2048x2048 .bf16) = transpose S2048x2048 [1, 0] (truncf (F := Ideal) (φ := .f32) .bf16 (a1 m c) bitsLt_bf16_f32) transposes_S2048x2048_S2048x2048_1_0 := by
  show StableHlo.after hostOps0 _ main_v2 = _
  after_results_simp <;> rfl
/-- What the array that goes into the call holds after the host's lines. -/
theorem V3 : (V m c main_v3 : Vec Ideal S8192x1024 .f32) = extractStridedSlice S8192x1024 ![0, 0] (a0 m c) slices_S8192x2048_S8192x1024_0_0 := by
  show StableHlo.after hostOps0 _ main_v3 = _
  after_results_simp <;> rfl

/-- The block each window is at. -/
theorem idx : ∀ t : Fin cfg0.N, win0_0.index t = ![t.val, 0] ∧ win0_1.index t = ![0, 0] ∧ win0_2.index t = ![t.val, 0] ∧ win0_3.index t = ![t.val, 0] ∧ win0_4.index t = ![0, 0, t.val] ∧ win0_5.index t = ![t.val, 0] ∧ win0_6.index t = ![0, 0, t.val] :=
  (by decide +kernel : ∀ t : Fin grid0.N, _)

/-- The bound on the number of grid points. -/
theorem ltN (t : Fin cfg0.N) : t.val < 32 := t.isLt

/-- Row `r` of a point's block. -/
abbrev row (t : Fin cfg0.N) (r : Fin 256) : Fin 8192 := ⟨t.val * 256 + r.val, by have := ltN t; omega⟩

/-- What block 0 of a point holds, in terms of the arguments. -/
theorem blk0 (t : Fin cfg0.N) (r : Fin 256) (j : Fin 2048) : (iblk m c 0 t : Vec Ideal S256x2048 .bf16) (ix2 r j) = a2 m c (ix2 (row t r) j) := by
  have h : (iblk m c 0 t : Vec Ideal S256x2048 .bf16) (ix2 r j) = (V m c main_v0 : Vec Ideal S8192x2048 .bf16) (ix2 (row t r) j) := by blk_ext [iblk, idx t]
  rw [h, V0]
  generalize a2 m c = a
  pointwise
/-- What block 1 of a point holds, in terms of the arguments. -/
theorem blk1 (t : Fin cfg0.N) (d j : Fin 2048) : (iblk m c 1 t : Vec Ideal S2048x2048 .bf16) (ix2 d j) = a1 m c (ix2 j d) := by
  have h : (iblk m c 1 t : Vec Ideal S2048x2048 .bf16) (ix2 d j) = (V m c main_v2 : Vec Ideal S2048x2048 .bf16) (ix2 d j) := by blk_ext [iblk, idx t]
  rw [h, V2]
  generalize a1 m c = a
  pointwise
/-- What block 2 of a point holds, in terms of the arguments. -/
theorem blk2 (t : Fin cfg0.N) (r : Fin 256) (j : Fin 1024) : (iblk m c 2 t : Vec Ideal S256x1024 .f32) (ix2 r j) = a0 m c (ix2 (row t r) ⟨j.val, by omega⟩) := by
  have h : (iblk m c 2 t : Vec Ideal S256x1024 .f32) (ix2 r j) = (V m c main_v3 : Vec Ideal S8192x1024 .f32) (ix2 (row t r) j) := by blk_ext [iblk, idx t]
  rw [h, V3]
  generalize a0 m c = a
  pointwise

/-- The reference's gradient of the attention's output, at an index. -/
theorem ref3 (w : Vec Ideal S2048x2048 .f32) (ct : Vec Ideal S8192x2048 .f32) (i : Fin 8192) (j : Fin 2048) :
    Cert.Reference17Ideal.Read.val_main_v3 w ct (ix2 i j) = ∑ d : Fin 2048, ct (ix2 i d) * w (ix2 j d) := by
  unfold Cert.Reference17Ideal.Read.val_main_v3
  pointwise

/-- The reference's first result at an index. -/
theorem ref11 (w : Vec Ideal S2048x2048 .f32) (ct : Vec Ideal S8192x2048 .f32) (i : Fin 8192) (j : Fin 1024) :
    Cert.Reference17Ideal.Read.val_main_v11 w ct (ix2 i j) = Cert.Reference17Ideal.Read.val_main_v3 w ct (ix2 i ⟨j.val, by omega⟩) := by
  unfold Cert.Reference17Ideal.Read.val_main_v11 Cert.Reference17Ideal.Read.val_main_v4
  generalize Cert.Reference17Ideal.Read.val_main_v3 w ct = v
  pointwise

/-- The reference's third result at an index. -/
theorem ref5 (w : Vec Ideal S2048x2048 .f32) (ct : Vec Ideal S8192x2048 .f32) (i : Fin 8192) (j : Fin 1024) :
    Cert.Reference17Ideal.Read.val_main_v5 w ct (ix2 i j) = Cert.Reference17Ideal.Read.val_main_v3 w ct (ix2 i ⟨1024 + j.val, by omega⟩) := by
  unfold Cert.Reference17Ideal.Read.val_main_v5
  generalize Cert.Reference17Ideal.Read.val_main_v3 w ct = v
  pointwise

/-- The reference's second result at an index. -/
theorem ref13 (w : Vec Ideal S2048x2048 .f32) (ct : Vec Ideal S8192x2048 .f32) (h : Fin 8) (e : Fin 128) (i : Fin 8192) :
    Cert.Reference17Ideal.Read.val_main_v13 w ct (ix3 h e i) = Cert.Reference17Ideal.Read.val_main_v3 w ct (ix2 i ⟨h.val * 128 + e.val, by omega⟩) := by
  unfold Cert.Reference17Ideal.Read.val_main_v13 Cert.Reference17Ideal.Read.val_main_v12 Cert.Reference17Ideal.Read.val_main_v6 Cert.Reference17Ideal.Read.val_main_v4
  generalize Cert.Reference17Ideal.Read.val_main_v3 w ct = v
  pointwise

/-- The reference's row sums at an index. -/
theorem ref15 (a : Vec Ideal S8192x2048 .f32) (w : Vec Ideal S2048x2048 .f32) (ct : Vec Ideal S8192x2048 .f32) (h : Fin 8) (i : Fin 8192) :
    Cert.Reference17Ideal.Read.val_main_v15 a w ct (ix3 h (0 : Fin 1) i) = ∑ e : Fin 128, Cert.Reference17Ideal.Read.val_main_v3 w ct (ix2 i ⟨h.val * 128 + e.val, by omega⟩) * a (ix2 i ⟨h.val * 128 + e.val, by omega⟩) := by
  unfold Cert.Reference17Ideal.Read.val_main_v15 Cert.Reference17Ideal.Read.val_main_v14 Cert.Reference17Ideal.Read.val_main_v10 Cert.Reference17Ideal.Read.val_main_cst Cert.Reference17Ideal.Read.val_main_v9 Cert.Reference17Ideal.Read.val_main_v8 Cert.Reference17Ideal.Read.val_main_v7 Cert.Reference17Ideal.Read.val_main_v6 Cert.Reference17Ideal.Read.val_main_v4
  generalize Cert.Reference17Ideal.Read.val_main_v3 w ct = v
  pointwise

/-- A point's product is the reference's rows. -/
theorem prod (t : Fin cfg0.N) (r : Fin 256) (j : Fin 2048) (a : Vec Ideal S256x2048 .bf16) (w : Vec Ideal S2048x2048 .bf16) (ha : a = iblk m c 0 t) (hw : w = iblk m c 1 t) :
    (∑ d : Fin 2048, a (ix2 r d) * w (ix2 d j) : EReal) = Cert.Reference17Ideal.Read.val_main_v3 (a1 m c) (a2 m c) (ix2 (row t r) j) := by
  rw [ref3]
  refine Finset.sum_congr (M := EReal) rfl fun d _ => ?_
  have h0 : a (ix2 r d) = a2 m c (ix2 (row t r) d) := by rw [ha]; exact blk0 m c t r d
  have h1 : w (ix2 d j) = a1 m c (ix2 j d) := by rw [hw]; exact blk1 m c t d j
  rw [h0, h1]

/-- The point of a row. -/
abbrev pt (i : Fin 8192) : Fin cfg0.N := ⟨i.val / 256, by show _ < 32; omega⟩
/-- A row's place in its block. -/
abbrev wi (i : Fin 8192) : Fin 256 := ⟨i.val % 256, Nat.mod_lt _ (by decide)⟩
/-- A row is the one its point and its place in the block say. -/
theorem row_pt (i : Fin 8192) : row (pt i) (wi i) = i := Fin.ext (by show i.val / 256 * 256 + i.val % 256 = i.val; omega)

/-- The call's array is the reference's. -/
theorem res3 : ((dats m 0 c).arrAt 3 cfg0.N : Vec Ideal S8192x1024 .bf16) = Cert.Reference17Ideal.Read.val_main_v11 (a1 m c) (a2 m c) := by
  refine funext fun y => ?_
  obtain ⟨i, j, rfl⟩ : ∃ (i : Fin 8192) (j : Fin 1024), y = ix2 i j := ⟨y 0, y 1, by funext a; fin_cases a <;> rfl⟩
  have hb := congrFun (Value.blocks3 m c (pt i) (flush0_3 (pt i))) (ix2 (wi i) j)
  rw [Value.flushed3, out3] at hb
  have ho := (pay7 (iblk m c 0 (pt i)) (iblk m c 1 (pt i)) (wi i) j).trans (prod m c (pt i) (wi i) ⟨j.val, by omega⟩ _ _ rfl rfl)
  rw [row_pt] at ho
  rw [ref11, ← ho]
  refine Eq.trans ?_ hb
  blk_ext [idx (pt i)]

/-- The call's array is the reference's. -/
theorem res5 : ((dats m 0 c).arrAt 5 cfg0.N : Vec Ideal S8192x1024 .f32) = Cert.Reference17Ideal.Read.val_main_v5 (a1 m c) (a2 m c) := by
  refine funext fun y => ?_
  obtain ⟨i, j, rfl⟩ : ∃ (i : Fin 8192) (j : Fin 1024), y = ix2 i j := ⟨y 0, y 1, by funext a; fin_cases a <;> rfl⟩
  have hb := congrFun (Value.blocks5 m c (pt i) (flush0_5 (pt i))) (ix2 (wi i) j)
  rw [Value.flushed5, out5] at hb
  have ho := (pay8 (iblk m c 0 (pt i)) (iblk m c 1 (pt i)) (wi i) j).trans (prod m c (pt i) (wi i) ⟨1024 + j.val, by omega⟩ _ _ rfl rfl)
  rw [row_pt] at ho
  rw [ref5, ← ho]
  refine Eq.trans ?_ hb
  blk_ext [idx (pt i)]

/-- The call's array is the reference's. -/
theorem res4 : ((dats m 0 c).arrAt 4 cfg0.N : Vec Ideal S8x128x8192 .bf16) = Cert.Reference17Ideal.Read.val_main_v13 (a1 m c) (a2 m c) := by
  refine funext fun y => ?_
  obtain ⟨h, e, i, rfl⟩ : ∃ (h : Fin 8) (e : Fin 128) (i : Fin 8192), y = ix3 h e i := ⟨y 0, y 1, y 2, by funext a; fin_cases a <;> rfl⟩
  have hb := congrFun (Value.blocks4 m c (pt i) (flush0_4 (pt i))) (ix3 h e (wi i))
  rw [Value.flushed4, out4] at hb
  have ho := (pay6 (iblk m c 0 (pt i)) (iblk m c 1 (pt i)) (wi i) (lane h e)).trans (prod m c (pt i) (wi i) ⟨h.val * 128 + e.val, by omega⟩ _ _ rfl rfl)
  rw [row_pt] at ho
  rw [ref13, ← ho]
  refine Eq.trans ?_ hb
  blk_ext [idx (pt i)]

/-- The call's array is the reference's. -/
theorem res6 : ((dats m 0 c).arrAt 6 cfg0.N : Vec Ideal S8x1x8192 .f32) = Cert.Reference17Ideal.Read.val_main_v15 (a0 m c) (a1 m c) (a2 m c) := by
  refine funext fun y => ?_
  obtain ⟨h, i, rfl⟩ : ∃ (h : Fin 8) (i : Fin 8192), y = ix3 h (0 : Fin 1) i := ⟨y 0, y 2, ixC y⟩
  have hb := congrFun (Value.blocks6 m c (pt i) (flush0_6 (pt i))) (ix3 h (0 : Fin 1) (wi i))
  rw [Value.flushed6, out6] at hb
  have ho : sm (k0_pay9 (iblk m c 0 (pt i)) (iblk m c 1 (pt i)) (iblk m c 2 (pt i))) (ix3 h (0 : Fin 1) (wi i)) = Cert.Reference17Ideal.Read.val_main_v15 (a0 m c) (a1 m c) (a2 m c) (ix3 h (0 : Fin 1) i) := by
    rw [ref15]
    refine Finset.sum_congr (M := EReal) rfl fun e _ => ?_
    have hp := (pay6 (iblk m c 0 (pt i)) (iblk m c 1 (pt i)) (wi i) (lane h e)).trans (prod m c (pt i) (wi i) ⟨h.val * 128 + e.val, by omega⟩ _ _ rfl rfl)
    rw [row_pt] at hp
    have hq := blk2 m c (pt i) (wi i) (lane h e)
    rw [row_pt] at hq
    refine (pay9 (iblk m c 0 (pt i)) (iblk m c 1 (pt i)) (iblk m c 2 (pt i)) (wi i) (lane h e)).trans ?_
    exact congrArg₂ (fun p q : EReal => p * q) hp hq
  rw [← ho]
  refine Eq.trans ?_ hb
  blk_ext [idx (pt i)]

/-- From arguments that agree, the call and the reference both run and return the same arrays. -/
theorem algebraic : @Cert.algebraic_Kernel17Ideal_Reference17Ideal Cert.Kernel17Ideal.Gen.facts Cert.Reference17Ideal.Gen.facts := by
  intro m g m' g' _ ha
  refine ⟨fun c => (dats m 0 c).arrAt 3 cfg0.N, fun c => (dats m 0 c).arrAt 4 cfg0.N, fun c => (dats m 0 c).arrAt 5 cfg0.N, fun c => (dats m 0 c).arrAt 6 cfg0.N, Value.run_blocks m g, ?_⟩
  refine (θ_run _ _ _).mono (fun r h c => ?_) (Cert.Reference17Ideal.Value.run m' g')
  obtain ⟨h0, h1, h2, h3, hk⟩ := h c
  obtain ⟨e0, e1, e2⟩ := ha c
  refine ⟨h0.trans ?_, h1.trans ?_, h2.trans ?_, h3.trans ?_, hk⟩
  · rw [Cert.Reference17Ideal.Read.val_main_v11_eq, e1, e2]
    exact (res3 m c).symm
  · rw [Cert.Reference17Ideal.Read.val_main_v13_eq, e1, e2]
    exact (res4 m c).symm
  · rw [Cert.Reference17Ideal.Read.val_main_v5_eq, e1, e2]
    exact (res5 m c).symm
  · rw [Cert.Reference17Ideal.Read.val_main_v15_eq, e0, e1, e2]
    exact (res6 m c).symm

/-- The reference keeps its arguments and leaves its counters at zero: it has none. -/
theorem reference_frame : @Cert.quiescent_Reference17Ideal Cert.Reference17Ideal.Gen.facts := by
  intro m ρ _
  exact (θ_run _ _ _).mono (fun r h => ⟨fun c => (h c).2.2.2.2, sem_eq_zero_of_no_sems (by decide) r.2⟩) (Cert.Reference17Ideal.Value.run m ρ)

end Cert.Kernel17Ideal.OutBwd

end
-- ==== Proof.OutProj.lean ====
module

public import proofs.«01_k».proof.Proof.Gen.Kernel19Ideal.Value
public import proofs.«01_k».proof.Defs
public import proofs.«01_k».proof.Proof.Gen.Reference19Ideal.Run
public import proofs.«01_k».proof.Proof.Gen.Reference19Ideal.Read
public import Idealize.ShloMosaic.Adequacy
public import Idealize.ShloMosaic.Init
public import Idealize.ShloMosaic.Lib.Pipeline.ValueKit
public import Idealize.ShloMosaic.Lib.Pipeline.ReadBack
public import Idealize.ShloMosaic.Lib.Pointwise
public import Idealize.ShloMosaic.Lib.ValueIdx

@[expose] public section

set_option maxRecDepth 16384

noncomputable section

/-! The output projection with the first layer norm: the call's arrays and the reference's, at an index. -/

namespace Cert.Kernel19Ideal.OutProj

open Cert.Kernel19Ideal Cert.Kernel19Ideal.Gen Idealize.ShloMosaic Idealize.ShloMosaic.TcCoe Idealize.SL.Sem

/-- The residual's factor. -/
abbrev al : EReal := Ideal.ofBits FTy.f32 1066940400#32

/-- The mean of a row. -/
def mean (w : Fin 2048 → EReal) : EReal := Ideal.div (∑ x, w x) (Ideal.ofBits FTy.f32 1157627904#32)

/-- A row's layer norm at lane `j`. -/
def lnv (w : Fin 2048 → EReal) (g b : EReal) (j : Fin 2048) : EReal :=
  (w j - mean w) * Ideal.rsqrt (mean (fun x => (w x - mean w) * (w x - mean w)) + Ideal.ofBits FTy.f32 925353388#32) * g + b

/-- The product, as its two halves. -/
theorem pay1 (a : Vec Ideal S256x1024 .bf16) (u : Vec Ideal S1024x2048 .bf16) (b : Vec Ideal S256x1024 .bf16) (v : Vec Ideal S1024x2048 .bf16) (r : Fin 256) (j : Fin 2048) :
    k0_pay1 (F := Ideal) a u b v (ix2 r j) = (∑ x : Fin 1024, a (ix2 r x) * u (ix2 x j) + ∑ x : Fin 1024, b (ix2 r x) * v (ix2 x j) : EReal) := by
  unfold k0_pay1
  pointwise

/-- The residual. -/
theorem pay2 (u v : Vec Ideal S128x2048 .f32) (r : Fin 128) (j : Fin 2048) : k0_pay2 (F := Ideal) u v (ix2 r j) = (al * u (ix2 r j) + v (ix2 r j) : EReal) := by
  unfold k0_pay2
  pointwise

/-- Its layer norm. -/
theorem pay3 (g b : Vec Ideal S1x2048 .f32) (u v : Vec Ideal S128x2048 .f32) (r : Fin 128) (j : Fin 2048) :
    k0_pay3 (F := Ideal) g b u v (ix2 r j) = lnv (fun k => k0_pay2 (F := Ideal) u v (ix2 r k)) (g (ix2 0 j)) (b (ix2 0 j)) j := by
  unfold k0_pay3
  generalize k0_pay2 u v = w
  pointwise
  rfl

/-- A block's residuals. -/
def rs (x a : Vec Ideal S256x2048 .f32) : Vec Ideal S256x2048 .f32 := fun y => (al * x y + a y : EReal)

/-- A block's layer norm. -/
def ys (x a : Vec Ideal S256x2048 .f32) (g b : Vec Ideal S1x2048 .f32) : Vec Ideal S256x2048 .f32 := fun y =>
  lnv (fun k => rs x a (ix2 (y 0) k)) (g (ix2 0 (y 1))) (b (ix2 0 (y 1))) (y 1)

/-- The same, as it is stored in the narrow format. -/
def yb (x a : Vec Ideal S256x2048 .f32) (g b : Vec Ideal S1x2048 .f32) : Vec Ideal S256x2048 .bf16 := fun y => ys x a g b y

/-- The product a point computes. -/
def acc (x0 x1 : Vec Ideal S256x1024 .bf16) (x2 : Vec Ideal S2048x2048 .bf16) : Vec Ideal S256x2048 .f32 :=
  k0_pay1 (F := Ideal) x0 (View.ld x2 (Rect.unit ![0, 0] ![1024, 2048] inb_S2048x2048_S1024x2048_0_0)) x1 (View.ld x2 (Rect.unit ![1024, 0] ![1024, 2048] inb_S2048x2048_S1024x2048_1024_0))

/-- A trip's rows. -/
abbrev rk (k : Fin k0_t1_loop.trips) : Rect S256x2048 := Rect.unit (s := S256x2048) (k0_off1 k) S128x2048.size (k0_off1_inb k)

/-- All lanes of a chunk's row lie in the same row of the block. -/
theorem row_emb (k : Fin k0_t1_loop.trips) (r : Fin 128) (j l : Fin 2048) :
    (rk k).emb (ix2 r l) = (ix2 ((rk k).emb (ix2 r j) 0) l : S256x2048.Idx) := by
  funext a
  fin_cases a
  · rfl
  · exact Fin.ext (by show 0 + 1 * l.val = l.val; omega)

/-- A chunk keeps the lanes. -/
theorem lane_emb (k : Fin k0_t1_loop.trips) (r : Fin 128) (j : Fin 2048) : (rk k).emb (ix2 r j) 1 = j :=
  Fin.ext (by show 0 + 1 * j.val = j.val; omega)

/-- What a trip stores of the residuals. -/
theorem st6 (k : Fin k0_t1_loop.trips) (x a : Vec Ideal S256x2048 .f32) (y : S128x2048.Idx) :
    k0_pay2 (F := Ideal) (View.ld x (rk k)) (View.ld a (rk k)) y = rs x a ((rk k).emb y) := by
  obtain ⟨r, j, rfl⟩ : ∃ (r : Fin 128) (j : Fin 2048), y = ix2 r j := ⟨y 0, y 1, by funext a; fin_cases a <;> rfl⟩
  rw [pay2]
  rfl

/-- What a trip stores of their layer norm. -/
theorem st7 (k : Fin k0_t1_loop.trips) (x a : Vec Ideal S256x2048 .f32) (g b : Vec Ideal S1x2048 .f32) (y : S128x2048.Idx) :
    k0_pay3 (F := Ideal) g b (View.ld x (rk k)) (View.ld a (rk k)) y = ys x a g b ((rk k).emb y) := by
  obtain ⟨r, j, rfl⟩ : ∃ (r : Fin 128) (j : Fin 2048), y = ix2 r j := ⟨y 0, y 1, by funext a; fin_cases a <;> rfl⟩
  rw [pay3]
  have h : (fun l => k0_pay2 (F := Ideal) (View.ld x (rk k)) (View.ld a (rk k)) (ix2 r l)) = fun l => rs x a (ix2 ((rk k).emb (ix2 r j) 0) l) :=
    funext fun l => (st6 k x a (ix2 r l)).trans (by rw [row_emb k r j l])
  unfold ys
  rw [h, lane_emb]

/-- The chunk stored in the third output's block, at an index. -/
theorem st8 (k : Fin k0_t1_loop.trips) (x a : Vec Ideal S256x2048 .f32) (g b : Vec Ideal S1x2048 .f32) (y : S128x2048.Idx) :
    k0_pay4 (F := Ideal) g b (View.ld x (rk k)) (View.ld a (rk k)) y = yb x a g b ((rk k).emb y) := by
  refine Eq.trans ?_ (st7 k x a g b y)
  unfold k0_pay4
  rfl

/-- What a point leaves in output 6's block. -/
theorem out6 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S2048x2048 .bf16) (harg3 : arg3.IsWhole) (arg4 : Memref sig .tc .vmem S256x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .f32) (harg8 : arg8.IsWhole) (arg9 : Memref sig .tc .vmem S256x2048 .bf16) (harg9 : arg9.IsWhole) (arg10 : Memref sig .tc .vmem S256x2048 .f32) (harg10 : arg10.IsWhole)
    (x0 x1 : Vec Ideal S256x1024 .bf16) (x2 : Vec Ideal S2048x2048 .bf16) (x3 : Vec Ideal S256x2048 .f32) (x4 x5 : Vec Ideal S1x2048 .f32) (y : S256x2048.Idx) :
    out0_A_6 c i arg1 harg1 arg2 harg2 arg3 harg3 arg4 harg4 arg5 harg5 arg6 harg6 arg7 harg7 arg8 harg8 arg9 harg9 arg10 harg10 x0 x1 x2 x3 x4 x5 y = (rs x3 (acc x0 x1 x2)) y := by
  have h := View.read_writes_eq_canon VO0_6 VO0_6.junk _ (cover0_A_6 c i arg1 harg1 arg2 harg2 arg3 harg3 arg4 harg4 arg5 harg5 arg6 harg6 arg7 harg7 arg8 harg8 arg9 harg9 arg10 harg10 x0 x1 x2 x3 x4 x5)
  unfold out0_A_6
  rw [h]
  have hc := cover0_A_6 c i arg1 harg1 arg2 harg2 arg3 harg3 arg4 harg4 arg5 harg5 arg6 harg6 arg7 harg7 arg8 harg8 arg9 harg9 arg10 harg10 x0 x1 x2 x3 x4 x5 y
  rw [← List.append_nil (kernelRun0_A c i arg1 harg1 arg2 harg2 arg3 harg3 arg4 harg4 arg5 harg5 arg6 harg6 arg7 harg7 arg8 harg8 arg9 harg9 arg10 harg10 x0 x1 x2 x3 x4 x5).1]
  refine View.canon_append_of_piecesOf _ _ _ ?_ y hc
  frame_out
  rw [show Scf.trips (0#32) (Scalar.addi 0#32 2#32) 1#32 = 2 from rfl]
  have e1 := fun X4 X10 => pb_k0_t1_succ (F := Ideal) Variants.none c none i arg1 harg1 arg2 harg2 arg3 harg3 arg4 harg4 arg5 harg5 arg6 harg6 arg7 harg7 arg8 harg8 arg9 harg9 arg10 harg10 x4 x5 X4 X10 ⟨1, by decide⟩
  have e0 := fun X4 X10 => pb_k0_t1_succ (F := Ideal) Variants.none c none i arg1 harg1 arg2 harg2 arg3 harg3 arg4 harg4 arg5 harg5 arg6 harg6 arg7 harg7 arg8 harg8 arg9 harg9 arg10 harg10 x4 x5 X4 X10 ⟨0, by decide⟩
  erw [e1, e0]
  unfold tripL_k0_t1 trip_k0_t1 pb_k0_t1
  frame_out
  exact ⟨fun x => st6 ⟨1, by decide⟩ x3 (acc x0 x1 x2) x, fun x => st6 ⟨0, by decide⟩ x3 (acc x0 x1 x2) x, trivial⟩

/-- What a point leaves in output 7's block. -/
theorem out7 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S2048x2048 .bf16) (harg3 : arg3.IsWhole) (arg4 : Memref sig .tc .vmem S256x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .f32) (harg8 : arg8.IsWhole) (arg9 : Memref sig .tc .vmem S256x2048 .bf16) (harg9 : arg9.IsWhole) (arg10 : Memref sig .tc .vmem S256x2048 .f32) (harg10 : arg10.IsWhole)
    (x0 x1 : Vec Ideal S256x1024 .bf16) (x2 : Vec Ideal S2048x2048 .bf16) (x3 : Vec Ideal S256x2048 .f32) (x4 x5 : Vec Ideal S1x2048 .f32) (y : S256x2048.Idx) :
    out0_A_7 c i arg1 harg1 arg2 harg2 arg3 harg3 arg4 harg4 arg5 harg5 arg6 harg6 arg7 harg7 arg8 harg8 arg9 harg9 arg10 harg10 x0 x1 x2 x3 x4 x5 y = (ys x3 (acc x0 x1 x2) x4 x5) y := by
  have h := View.read_writes_eq_canon VO0_7 VO0_7.junk _ (cover0_A_7 c i arg1 harg1 arg2 harg2 arg3 harg3 arg4 harg4 arg5 harg5 arg6 harg6 arg7 harg7 arg8 harg8 arg9 harg9 arg10 harg10 x0 x1 x2 x3 x4 x5)
  unfold out0_A_7
  rw [h]
  have hc := cover0_A_7 c i arg1 harg1 arg2 harg2 arg3 harg3 arg4 harg4 arg5 harg5 arg6 harg6 arg7 harg7 arg8 harg8 arg9 harg9 arg10 harg10 x0 x1 x2 x3 x4 x5 y
  rw [← List.append_nil (kernelRun0_A c i arg1 harg1 arg2 harg2 arg3 harg3 arg4 harg4 arg5 harg5 arg6 harg6 arg7 harg7 arg8 harg8 arg9 harg9 arg10 harg10 x0 x1 x2 x3 x4 x5).2.1]
  refine View.canon_append_of_piecesOf _ _ _ ?_ y hc
  frame_out
  rw [show Scf.trips (0#32) (Scalar.addi 0#32 2#32) 1#32 = 2 from rfl]
  have e1 := fun X4 X10 => pb_k0_t1_succ (F := Ideal) Variants.none c none i arg1 harg1 arg2 harg2 arg3 harg3 arg4 harg4 arg5 harg5 arg6 harg6 arg7 harg7 arg8 harg8 arg9 harg9 arg10 harg10 x4 x5 X4 X10 ⟨1, by decide⟩
  have e0 := fun X4 X10 => pb_k0_t1_succ (F := Ideal) Variants.none c none i arg1 harg1 arg2 harg2 arg3 harg3 arg4 harg4 arg5 harg5 arg6 harg6 arg7 harg7 arg8 harg8 arg9 harg9 arg10 harg10 x4 x5 X4 X10 ⟨0, by decide⟩
  erw [e1, e0]
  unfold tripL_k0_t1 trip_k0_t1 pb_k0_t1
  frame_out
  exact ⟨fun x => st7 ⟨1, by decide⟩ x3 (acc x0 x1 x2) x4 x5 x, fun x => st7 ⟨0, by decide⟩ x3 (acc x0 x1 x2) x4 x5 x, trivial⟩

/-- What a point leaves in output 8's block. -/
theorem out8 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S2048x2048 .bf16) (harg3 : arg3.IsWhole) (arg4 : Memref sig .tc .vmem S256x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .f32) (harg8 : arg8.IsWhole) (arg9 : Memref sig .tc .vmem S256x2048 .bf16) (harg9 : arg9.IsWhole) (arg10 : Memref sig .tc .vmem S256x2048 .f32) (harg10 : arg10.IsWhole)
    (x0 x1 : Vec Ideal S256x1024 .bf16) (x2 : Vec Ideal S2048x2048 .bf16) (x3 : Vec Ideal S256x2048 .f32) (x4 x5 : Vec Ideal S1x2048 .f32) (y : S256x2048.Idx) :
    out0_A_8 c i arg1 harg1 arg2 harg2 arg3 harg3 arg4 harg4 arg5 harg5 arg6 harg6 arg7 harg7 arg8 harg8 arg9 harg9 arg10 harg10 x0 x1 x2 x3 x4 x5 y = (yb x3 (acc x0 x1 x2) x4 x5) y := by
  have h := View.read_writes_eq_canon VO0_8 VO0_8.junk _ (cover0_A_8 c i arg1 harg1 arg2 harg2 arg3 harg3 arg4 harg4 arg5 harg5 arg6 harg6 arg7 harg7 arg8 harg8 arg9 harg9 arg10 harg10 x0 x1 x2 x3 x4 x5)
  unfold out0_A_8
  rw [h]
  have hc := cover0_A_8 c i arg1 harg1 arg2 harg2 arg3 harg3 arg4 harg4 arg5 harg5 arg6 harg6 arg7 harg7 arg8 harg8 arg9 harg9 arg10 harg10 x0 x1 x2 x3 x4 x5 y
  rw [← List.append_nil (kernelRun0_A c i arg1 harg1 arg2 harg2 arg3 harg3 arg4 harg4 arg5 harg5 arg6 harg6 arg7 harg7 arg8 harg8 arg9 harg9 arg10 harg10 x0 x1 x2 x3 x4 x5).2.2.1]
  refine View.canon_append_of_piecesOf _ _ _ ?_ y hc
  frame_out
  rw [show Scf.trips (0#32) (Scalar.addi 0#32 2#32) 1#32 = 2 from rfl]
  have e1 := fun X4 X10 => pb_k0_t1_succ (F := Ideal) Variants.none c none i arg1 harg1 arg2 harg2 arg3 harg3 arg4 harg4 arg5 harg5 arg6 harg6 arg7 harg7 arg8 harg8 arg9 harg9 arg10 harg10 x4 x5 X4 X10 ⟨1, by decide⟩
  have e0 := fun X4 X10 => pb_k0_t1_succ (F := Ideal) Variants.none c none i arg1 harg1 arg2 harg2 arg3 harg3 arg4 harg4 arg5 harg5 arg6 harg6 arg7 harg7 arg8 harg8 arg9 harg9 arg10 harg10 x4 x5 X4 X10 ⟨0, by decide⟩
  erw [e1, e0]
  unfold tripL_k0_t1 trip_k0_t1 pb_k0_t1
  frame_out
  exact ⟨fun x => st8 ⟨1, by decide⟩ x3 (acc x0 x1 x2) x4 x5 x, fun x => st8 ⟨0, by decide⟩ x3 (acc x0 x1 x2) x4 x5 x, trivial⟩

/-- A point's product, at an index. -/
theorem acc_ix (x0 x1 : Vec Ideal S256x1024 .bf16) (x2 : Vec Ideal S2048x2048 .bf16) (r : Fin 256) (j : Fin 2048) :
    acc x0 x1 x2 (ix2 r j) = (∑ x : Fin 1024, x0 (ix2 r x) * x2 (ix2 (⟨x.val, by omega⟩ : Fin 2048) j) + ∑ x : Fin 1024, x1 (ix2 r x) * x2 (ix2 (⟨1024 + x.val, by omega⟩ : Fin 2048) j) : EReal) := by
  unfold acc
  rw [pay1]
  have hl : ∀ x : Fin 1024, View.ld x2 (Rect.unit ![0, 0] ![1024, 2048] inb_S2048x2048_S1024x2048_0_0) (ix2 x j) = x2 (ix2 (⟨x.val, by omega⟩ : Fin 2048) j) := fun x =>
    congrArg x2 (by funext a; fin_cases a; exacts [Fin.ext (by show 0 + 1 * x.val = x.val; omega), Fin.ext (by show 0 + 1 * j.val = j.val; omega)])
  have hh : ∀ x : Fin 1024, View.ld x2 (Rect.unit ![1024, 0] ![1024, 2048] inb_S2048x2048_S1024x2048_1024_0) (ix2 x j) = x2 (ix2 (⟨1024 + x.val, by omega⟩ : Fin 2048) j) := fun x =>
    congrArg x2 (by funext a; fin_cases a; exacts [Fin.ext (by show 1024 + 1 * x.val = 1024 + x.val; omega), Fin.ext (by show 0 + 1 * j.val = j.val; omega)])
  exact congrArg₂ (fun p q : EReal => p + q) (Finset.sum_congr (M := EReal) rfl fun x _ => congrArg (fun q : EReal => x0 (ix2 r x) * q) (hl x)) (Finset.sum_congr (M := EReal) rfl fun x _ => congrArg (fun q : EReal => x1 (ix2 r x) * q) (hh x))

variable (m : (ℓ : Loc nD τ sig) → Buf (Elt Ideal) ℓ) (c : Dev nD)

/-- The attention's output, heads then convolution. -/
abbrev a0 : (⟨S8192x2048, .f32⟩ : BufTy).Contents (Elt Ideal) := m ((c.tc : Thread nD τ).loc main_arg0)
/-- The weights. -/
abbrev a1 : (⟨S2048x2048, .f32⟩ : BufTy).Contents (Elt Ideal) := m ((c.tc : Thread nD τ).loc main_arg1)
/-- The residual's input. -/
abbrev a2 : (⟨S8192x2048, .f32⟩ : BufTy).Contents (Elt Ideal) := m ((c.tc : Thread nD τ).loc main_arg2)
/-- The layer norm's scale. -/
abbrev a3 : (⟨S2048, .f32⟩ : BufTy).Contents (Elt Ideal) := m ((c.tc : Thread nD τ).loc main_arg3)
/-- The layer norm's shift. -/
abbrev a4 : (⟨S2048, .f32⟩ : BufTy).Contents (Elt Ideal) := m ((c.tc : Thread nD τ).loc main_arg4)

/-- What the array that goes into the call holds after the host's lines. -/
theorem V1 : V m c main_v1 = extractStridedSlice S8192x1024 ![0, 0] (truncf (F := Ideal) (φ := .f32) .bf16 (a0 m c) bitsLt_bf16_f32) slices_S8192x2048_S8192x1024_0_0 := by
  show StableHlo.after hostOps0 _ main_v1 = _
  after_results_simp <;> rfl
/-- What the array that goes into the call holds after the host's lines. -/
theorem V2 : V m c main_v2 = extractStridedSlice S8192x1024 ![0, 1024] (truncf (F := Ideal) (φ := .f32) .bf16 (a0 m c) bitsLt_bf16_f32) slices_S8192x2048_S8192x1024_0_1024 := by
  show StableHlo.after hostOps0 _ main_v2 = _
  after_results_simp <;> rfl
/-- What the array that goes into the call holds after the host's lines. -/
theorem V3 : V m c main_v3 = truncf (F := Ideal) (φ := .f32) .bf16 (a1 m c) bitsLt_bf16_f32 := by
  show StableHlo.after hostOps0 _ main_v3 = _
  after_results_simp <;> rfl
/-- What the array that goes into the call holds after the host's lines. -/
theorem V4 : (V m c main_v4 : Vec Ideal S1x2048 .f32) = shapeCast S1x2048 (a3 m c) shapeCasts_S2048_S1x2048 := by
  show StableHlo.after hostOps0 _ main_v4 = _
  after_results_simp <;> rfl
/-- What the array that goes into the call holds after the host's lines. -/
theorem V5 : (V m c main_v5 : Vec Ideal S1x2048 .f32) = shapeCast S1x2048 (a4 m c) shapeCasts_S2048_S1x2048 := by
  show StableHlo.after hostOps0 _ main_v5 = _
  after_results_simp <;> rfl
/-- What the array that goes into the call holds after the host's lines. -/
theorem Va2 : (V m c main_arg2 : Vec Ideal S8192x2048 .f32) = a2 m c := by
  show StableHlo.after hostOps0 _ main_arg2 = _
  after_results_simp <;> rfl

/-- The block each window is at. -/
theorem idx : ∀ t : Fin cfg0.N, win0_0.index t = ![t.val, 0] ∧ win0_1.index t = ![t.val, 0] ∧ win0_2.index t = ![0, 0] ∧ win0_3.index t = ![t.val, 0] ∧ win0_4.index t = ![0, 0] ∧ win0_5.index t = ![0, 0] ∧ win0_6.index t = ![t.val, 0] ∧ win0_7.index t = ![t.val, 0] ∧ win0_8.index t = ![t.val, 0] :=
  (by decide +kernel : ∀ t : Fin grid0.N, _)

/-- The bound on the number of grid points. -/
theorem ltN (t : Fin cfg0.N) : t.val < 32 := t.isLt

/-- Row `r` of a point's block. -/
abbrev row (t : Fin cfg0.N) (r : Fin 256) : Fin 8192 := ⟨t.val * 256 + r.val, by have := ltN t; omega⟩

/-- What block 0 of a point holds, in terms of the arguments. -/
theorem blk0 (t : Fin cfg0.N) (r : Fin 256) (j : Fin 1024) : (iblk m c 0 t : Vec Ideal S256x1024 .bf16) (ix2 r j) = a0 m c (ix2 (row t r) (⟨j.val, by omega⟩ : Fin 2048)) := by
  have h : (iblk m c 0 t : Vec Ideal S256x1024 .bf16) (ix2 r j) = (V m c main_v1 : Vec Ideal S8192x1024 .bf16) (ix2 (row t r) j) := by blk_ext [iblk, idx t]
  rw [h, V1]
  generalize a0 m c = a
  pointwise
/-- What block 1 of a point holds, in terms of the arguments. -/
theorem blk1 (t : Fin cfg0.N) (r : Fin 256) (j : Fin 1024) : (iblk m c 1 t : Vec Ideal S256x1024 .bf16) (ix2 r j) = a0 m c (ix2 (row t r) (⟨1024 + j.val, by omega⟩ : Fin 2048)) := by
  have h : (iblk m c 1 t : Vec Ideal S256x1024 .bf16) (ix2 r j) = (V m c main_v2 : Vec Ideal S8192x1024 .bf16) (ix2 (row t r) j) := by blk_ext [iblk, idx t]
  rw [h, V2]
  generalize a0 m c = a
  pointwise
/-- What block 2 of a point holds, in terms of the arguments. -/
theorem blk2 (t : Fin cfg0.N) (d j : Fin 2048) : (iblk m c 2 t : Vec Ideal S2048x2048 .bf16) (ix2 d j) = a1 m c (ix2 d j) := by
  have h : (iblk m c 2 t : Vec Ideal S2048x2048 .bf16) (ix2 d j) = (V m c main_v3 : Vec Ideal S2048x2048 .bf16) (ix2 d j) := by blk_ext [iblk, idx t]
  rw [h, V3]
  generalize a1 m c = a
  pointwise
/-- What block 3 of a point holds, in terms of the arguments. -/
theorem blk3 (t : Fin cfg0.N) (r : Fin 256) (j : Fin 2048) : (iblk m c 3 t : Vec Ideal S256x2048 .f32) (ix2 r j) = a2 m c (ix2 (row t r) j) := by
  have h : (iblk m c 3 t : Vec Ideal S256x2048 .f32) (ix2 r j) = (V m c main_arg2 : Vec Ideal S8192x2048 .f32) (ix2 (row t r) j) := by blk_ext [iblk, idx t]
  rw [h, Va2]
/-- What block 4 of a point holds, in terms of the arguments. -/
theorem blk4 (t : Fin cfg0.N) (j : Fin 2048) : (iblk m c 4 t : Vec Ideal S1x2048 .f32) (ix2 0 j) = a3 m c (ix1 j) := by
  have h : (iblk m c 4 t : Vec Ideal S1x2048 .f32) (ix2 0 j) = (V m c main_v4 : Vec Ideal S1x2048 .f32) (ix2 0 j) := by blk_ext [iblk, idx t]
  rw [h, V4]
  generalize a3 m c = a
  pointwise
/-- What block 5 of a point holds, in terms of the arguments. -/
theorem blk5 (t : Fin cfg0.N) (j : Fin 2048) : (iblk m c 5 t : Vec Ideal S1x2048 .f32) (ix2 0 j) = a4 m c (ix1 j) := by
  have h : (iblk m c 5 t : Vec Ideal S1x2048 .f32) (ix2 0 j) = (V m c main_v5 : Vec Ideal S1x2048 .f32) (ix2 0 j) := by blk_ext [iblk, idx t]
  rw [h, V5]
  generalize a4 m c = a
  pointwise

/-- The reference's residual, at an index. -/
theorem ref3 (a : Vec Ideal S8192x2048 .f32) (w : Vec Ideal S2048x2048 .f32) (x : Vec Ideal S8192x2048 .f32) (i : Fin 8192) (j : Fin 2048) :
    Cert.Reference19Ideal.Read.val_main_v3 a w x (ix2 i j) = (al * x (ix2 i j) + ∑ d : Fin 2048, a (ix2 i d) * w (ix2 d j) : EReal) := by
  unfold Cert.Reference19Ideal.Read.val_main_v3 Cert.Reference19Ideal.Read.val_main_v2 Cert.Reference19Ideal.Read.val_main_v1 Cert.Reference19Ideal.Read.val_main_v0 Cert.Reference19Ideal.Read.val_main_cst
  pointwise

/-- The reference's layer norm, at an index. -/
theorem ref25 (a : Vec Ideal S8192x2048 .f32) (w : Vec Ideal S2048x2048 .f32) (x : Vec Ideal S8192x2048 .f32) (g b : Vec Ideal S2048 .f32) (i : Fin 8192) (j : Fin 2048) :
    Cert.Reference19Ideal.Read.val_main_v25 a w x g b (ix2 i j) = lnv (fun k => Cert.Reference19Ideal.Read.val_main_v3 a w x (ix2 i k)) (g (ix1 j)) (b (ix1 j)) j := by
  unfold Cert.Reference19Ideal.Read.val_main_v25 Cert.Reference19Ideal.Read.val_main_v24 Cert.Reference19Ideal.Read.val_main_v23 Cert.Reference19Ideal.Read.val_main_v22 Cert.Reference19Ideal.Read.val_main_v21 Cert.Reference19Ideal.Read.val_main_v20 Cert.Reference19Ideal.Read.val_main_v19 Cert.Reference19Ideal.Read.val_main_v18 Cert.Reference19Ideal.Read.val_main_v17 Cert.Reference19Ideal.Read.val_main_v16 Cert.Reference19Ideal.Read.val_main_v15 Cert.Reference19Ideal.Read.val_main_cst_4 Cert.Reference19Ideal.Read.val_main_v14 Cert.Reference19Ideal.Read.val_main_v13 Cert.Reference19Ideal.Read.val_main_cst_3 Cert.Reference19Ideal.Read.val_main_v12 Cert.Reference19Ideal.Read.val_main_v11 Cert.Reference19Ideal.Read.val_main_cst_2 Cert.Reference19Ideal.Read.val_main_v10 Cert.Reference19Ideal.Read.val_main_v9 Cert.Reference19Ideal.Read.val_main_v8 Cert.Reference19Ideal.Read.val_main_v7 Cert.Reference19Ideal.Read.val_main_v6 Cert.Reference19Ideal.Read.val_main_cst_1 Cert.Reference19Ideal.Read.val_main_v5 Cert.Reference19Ideal.Read.val_main_v4 Cert.Reference19Ideal.Read.val_main_cst_0
  generalize Cert.Reference19Ideal.Read.val_main_v3 a w x = v
  pointwise
  rfl

/-- A point's residual is the reference's. -/
theorem res_row (t : Fin cfg0.N) (r : Fin 256) (j : Fin 2048) :
    rs (iblk m c 3 t) (acc (iblk m c 0 t) (iblk m c 1 t) (iblk m c 2 t)) (ix2 r j) = Cert.Reference19Ideal.Read.val_main_v3 (a0 m c) (a1 m c) (a2 m c) (ix2 (row t r) j) := by
  rw [ref3]
  refine congrArg₂ (fun p q : EReal => al * p + q) (blk3 m c t r j) ?_
  refine (acc_ix (iblk m c 0 t) (iblk m c 1 t) (iblk m c 2 t) r j).trans ?_
  refine Eq.trans ?_ (Fin.sum_univ_add (M := EReal) (a := 1024) (b := 1024) (fun d : Fin (1024 + 1024) => (a0 m c : Vec Ideal S8192x2048 .f32) (ix2 (row t r) (d : Fin 2048)) * (a1 m c : Vec Ideal S2048x2048 .f32) (ix2 (d : Fin 2048) j))).symm
  refine congrArg₂ (fun p q : EReal => p + q) (Finset.sum_congr (M := EReal) rfl fun x _ => ?_) (Finset.sum_congr (M := EReal) rfl fun x _ => ?_)
  · exact congrArg₂ (fun p q : EReal => p * q) (blk0 m c t r x) (blk2 m c t _ j)
  · exact congrArg₂ (fun p q : EReal => p * q) (blk1 m c t r x) (blk2 m c t _ j)

/-- A point's layer norm is the reference's. -/
theorem ln_row (t : Fin cfg0.N) (r : Fin 256) (j : Fin 2048) :
    ys (iblk m c 3 t) (acc (iblk m c 0 t) (iblk m c 1 t) (iblk m c 2 t)) (iblk m c 4 t) (iblk m c 5 t) (ix2 r j) = Cert.Reference19Ideal.Read.val_main_v25 (a0 m c) (a1 m c) (a2 m c) (a3 m c) (a4 m c) (ix2 (row t r) j) := by
  rw [ref25]
  show lnv (fun k => rs (iblk m c 3 t) (acc (iblk m c 0 t) (iblk m c 1 t) (iblk m c 2 t)) (ix2 r k)) ((iblk m c 4 t : Vec Ideal S1x2048 .f32) (ix2 0 j)) ((iblk m c 5 t : Vec Ideal S1x2048 .f32) (ix2 0 j)) j = _
  rw [blk4, blk5, show (fun k => rs (iblk m c 3 t) (acc (iblk m c 0 t) (iblk m c 1 t) (iblk m c 2 t)) (ix2 r k)) = fun k => Cert.Reference19Ideal.Read.val_main_v3 (a0 m c) (a1 m c) (a2 m c) (ix2 (row t r) k) from funext fun k => res_row m c t r k]

/-- The point of a row. -/
abbrev pt (i : Fin 8192) : Fin cfg0.N := ⟨i.val / 256, by show _ < 32; omega⟩
/-- A row's place in its block. -/
abbrev wi (i : Fin 8192) : Fin 256 := ⟨i.val % 256, Nat.mod_lt _ (by decide)⟩
/-- A row is the one its point and its place in the block say. -/
theorem row_pt (i : Fin 8192) : row (pt i) (wi i) = i := Fin.ext (by show i.val / 256 * 256 + i.val % 256 = i.val; omega)

/-- The call's array is the reference's. -/
theorem res6 : ((dats m 0 c).arrAt 6 cfg0.N : Vec Ideal S8192x2048 .f32) = Cert.Reference19Ideal.Read.val_main_v3 (a0 m c) (a1 m c) (a2 m c) := by
  refine funext fun y => ?_
  obtain ⟨i, j, rfl⟩ : ∃ (i : Fin 8192) (j : Fin 2048), y = ix2 i j := ⟨y 0, y 1, by funext a; fin_cases a <;> rfl⟩
  have hb := congrFun (Value.blocks6 m c (pt i) (flush0_6 (pt i))) (ix2 (wi i) j)
  rw [Value.flushed6_A] at hb
  have ho := res_row m c (pt i) (wi i) j
  rw [row_pt] at ho
  refine Eq.trans ?_ (hb.trans ((out6 _ _ _ _ _ _ _ _ _ _ _ _ _ _ _ _ _ _ _ _ _ _ _ _ _ _ _ _ (ix2 (wi i) j)).trans ho))
  blk_ext [idx (pt i)]

/-- The call's array is the reference's. -/
theorem res7 : ((dats m 0 c).arrAt 7 cfg0.N : Vec Ideal S8192x2048 .f32) = Cert.Reference19Ideal.Read.val_main_v25 (a0 m c) (a1 m c) (a2 m c) (a3 m c) (a4 m c) := by
  refine funext fun y => ?_
  obtain ⟨i, j, rfl⟩ : ∃ (i : Fin 8192) (j : Fin 2048), y = ix2 i j := ⟨y 0, y 1, by funext a; fin_cases a <;> rfl⟩
  have hb := congrFun (Value.blocks7 m c (pt i) (flush0_7 (pt i))) (ix2 (wi i) j)
  rw [Value.flushed7_A] at hb
  have ho := ln_row m c (pt i) (wi i) j
  rw [row_pt] at ho
  refine Eq.trans ?_ (hb.trans ((out7 _ _ _ _ _ _ _ _ _ _ _ _ _ _ _ _ _ _ _ _ _ _ _ _ _ _ _ _ (ix2 (wi i) j)).trans ho))
  blk_ext [idx (pt i)]

/-- The call's array is the reference's. -/
theorem res8 : ((dats m 0 c).arrAt 8 cfg0.N : Vec Ideal S8192x2048 .bf16) = Cert.Reference19Ideal.Read.val_main_v26 (a0 m c) (a1 m c) (a2 m c) (a3 m c) (a4 m c) := by
  refine funext fun y => ?_
  obtain ⟨i, j, rfl⟩ : ∃ (i : Fin 8192) (j : Fin 2048), y = ix2 i j := ⟨y 0, y 1, by funext a; fin_cases a <;> rfl⟩
  have hb := congrFun (Value.blocks8 m c (pt i) (flush0_8 (pt i))) (ix2 (wi i) j)
  rw [Value.flushed8_A] at hb
  have ho := ln_row m c (pt i) (wi i) j
  rw [row_pt] at ho
  refine Eq.trans ?_ (hb.trans ((out8 _ _ _ _ _ _ _ _ _ _ _ _ _ _ _ _ _ _ _ _ _ _ _ _ _ _ _ _ (ix2 (wi i) j)).trans ho))
  blk_ext [idx (pt i)]

/-- From arguments that agree, the call and the reference both run and return the same arrays. -/
theorem algebraic : @Cert.algebraic_Kernel19Ideal_Reference19Ideal Cert.Kernel19Ideal.Gen.facts Cert.Reference19Ideal.Gen.facts := by
  intro m g m' g' _ ha
  refine ⟨fun c => (dats m 0 c).arrAt 6 cfg0.N, fun c => (dats m 0 c).arrAt 7 cfg0.N, fun c => (dats m 0 c).arrAt 8 cfg0.N, Value.run_blocks m g, ?_⟩
  refine (θ_run _ _ _).mono (fun r h c => ?_) (Cert.Reference19Ideal.Value.run m' g')
  obtain ⟨h0, h1, h2, hk⟩ := h c
  obtain ⟨e0, e1, e2, e3, e4⟩ := ha c
  refine ⟨h0.trans ?_, h1.trans ?_, h2.trans ?_, hk⟩
  · rw [Cert.Reference19Ideal.Read.val_main_v3_eq, e0, e1, e2]
    exact (res6 m c).symm
  · rw [Cert.Reference19Ideal.Read.val_main_v25_eq, e0, e1, e2, e3, e4]
    exact (res7 m c).symm
  · rw [Cert.Reference19Ideal.Read.val_main_v26_eq, e0, e1, e2, e3, e4]
    exact (res8 m c).symm

/-- The reference keeps its arguments and leaves its counters at zero: it has none. -/
theorem reference_frame : @Cert.quiescent_Reference19Ideal Cert.Reference19Ideal.Gen.facts := by
  intro m ρ _
  exact (θ_run _ _ _).mono (fun r h => ⟨fun c => (h c).2.2.2, sem_eq_zero_of_no_sems (by decide) r.2⟩) (Cert.Reference19Ideal.Value.run m ρ)

end Cert.Kernel19Ideal.OutProj

end
-- ==== Proof.Body.lean ====
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Body

open Cert.KernelIdeal Cert.KernelIdeal.Gen Idealize.ShloMosaic Idealize.ShloMosaic.TcCoe Idealize.SL.Sem
open Idealize.ShloMosaic.Pipeline (Dat)

variable {F : FTy → Type} [FloatOps F] [Named F]

/-- Rows `512 n, …` of the queries. -/
abbrev rq (n : ℕ) (h : n < 16) : Rect S1x8192x256 := Rect.unit ![0, 512 * n, 0] S1x512x256.size (by
  intro a; fin_cases a <;> simp [S1x512x256, S1x8192x256] <;> omega)
/-- Rows `512 n, …` of the output's gradient. -/
abbrev rdo (n : ℕ) (h : n < 16) : Rect S8192x128 := Rect.unit ![512 * n, 0] S512x128.size (by
  intro a; fin_cases a <;> simp [S512x128, S8192x128] <;> omega)
/-- Columns `512 n, …` of the output's gradient, transposed. -/
abbrev rdot (n : ℕ) (h : n < 16) : Rect S1x128x8192 := Rect.unit ![0, 0, 512 * n] S1x128x512.size (by
  intro a; fin_cases a <;> simp [S1x128x512, S1x128x8192] <;> omega)
/-- Columns `512 n, …` of a row. -/
abbrev rrow (n : ℕ) (h : n < 16) : Rect S1x1x8192 := Rect.unit ![0, 0, 512 * n] S1x1x512.size (by
  intro a; fin_cases a <;> simp [S1x1x512, S1x1x8192] <;> omega)
/-- Columns `512 n, …` of the queries' gradient, transposed. -/
abbrev rdq (n : ℕ) (h : n < 16) : Rect S1x256x8192 := Rect.unit ![0, 0, 512 * n] S1x256x512.size (by
  intro a; fin_cases a <;> simp [S1x256x512, S1x256x8192] <;> omega)

variable (x0 : Vec F S1x1024x256 .bf16) (x1 : Vec F S1x256x1024 .bf16) (x2 : Vec F S1x1024x128 .bf16) (x3 : Vec F S1x8192x256 .bf16)
  (x4 : Vec F S8192x128 .bf16) (x5 : Vec F S1x128x8192 .bf16) (x6 : Vec F S1x1x8192 .f32) (x7 : Vec F S1x1x8192 .f32)

/-- The probabilities of the block's keys at the queries of step `n`, transposed. -/
def pT (n : ℕ) (h : n < 16) : FVec F S1024x512 .f32 := k0_pay12 x0 (View.ld x3 (rq n h)) (View.ld x6 (rrow n h))
/-- The scores' gradient there, transposed. -/
def dsT (n : ℕ) (h : n < 16) : FVec F S1024x512 .bf16 :=
  k0_pay14 (k0_pay7 x2) (k0_pay11 (View.ld x4 (rdo n h))) (pT x0 x3 x6 n h) (View.ld x7 (rrow n h))
/-- The keys' gradient after `n` steps. -/
def dkAcc : (n : ℕ) → n ≤ 16 → FVec F S1024x256 .f32
  | 0, _ => k0_pay8
  | n + 1, h => k0_pay15 (k0_pay7 x2) (dkAcc n (Nat.le_of_succ_le h)) (k0_pay10 (View.ld x3 (rq n h))) (k0_pay11 (View.ld x4 (rdo n h)))
      (pT x0 x3 x6 n h) (View.ld x7 (rrow n h))
/-- The values' gradient after `n` steps, transposed. -/
def dvAcc : (n : ℕ) → n ≤ 16 → FVec F S128x1024 .f32
  | 0, _ => k0_pay9
  | n + 1, h => k0_pay13 (dvAcc n (Nat.le_of_succ_le h)) (pT x0 x3 x6 n h) (View.ld x5 (rdot n h))
/-- What step `n` stores over the queries' gradient `w`. -/
def dqSt (n : ℕ) (h : n < 16) (w : Vec F S1x256x512 .f32) : FVec F S1x256x512 .f32 :=
  k0_pay16 (k0_pay6 x1) (k0_pay7 x2) (k0_pay11 (View.ld x4 (rdo n h))) (pT x0 x3 x6 n h) (View.ld x7 (rrow n h)) w

/-- The keys' gradient's block at a later block of keys. -/
theorem out_B_9 (c : Dev nD) (i : grid0.Coords) (arg2 : Memref sig .tc .vmem S1x1024x256 .bf16) (harg2 : arg2.IsWhole) (arg3 : Memref sig .tc .vmem S1x256x1024 .bf16) (harg3 : arg3.IsWhole) (arg4 : Memref sig .tc .vmem S1x1024x128 .bf16) (harg4 : arg4.IsWhole) (arg5 : Memref sig .tc .vmem S1x8192x256 .bf16) (harg5 : arg5.IsWhole) (arg6 : Memref sig .tc .vmem S8192x128 .bf16) (harg6 : arg6.IsWhole) (arg7 : Memref sig .tc .vmem S1x128x8192 .bf16) (harg7 : arg7.IsWhole) (arg8 : Memref sig .tc .vmem S1x1x8192 .f32) (harg8 : arg8.IsWhole) (arg9 : Memref sig .tc .vmem S1x1x8192 .f32) (harg9 : arg9.IsWhole) (arg10 : Memref sig .tc .vmem S1x256x8192 .f32) (harg10 : arg10.IsWhole) (arg11 : Memref sig .tc .vmem S1x1024x256 .f32) (harg11 : arg11.IsWhole) (arg12 : Memref sig .tc .vmem S1x128x1024 .f32) (harg12 : arg12.IsWhole) (hc0 : ¬cond0_0 i) (xo8 : Vec F S1x256x8192 .f32) :
    out0_B_9 c i arg2 harg2 arg3 harg3 arg4 harg4 arg5 harg5 arg6 harg6 arg7 harg7 arg8 harg8 arg9 harg9 arg10 harg10 arg11 harg11 arg12 harg12 hc0 x0 x1 x2 x3 x4 x5 x6 x7 xo8 = k0_pay2 (dkAcc x0 x2 x3 x4 x6 x7 16 le_rfl) := by
  frame_out
  rfl

/-- The values' gradient's block at a later block of keys. -/
theorem out_B_10 (c : Dev nD) (i : grid0.Coords) (arg2 : Memref sig .tc .vmem S1x1024x256 .bf16) (harg2 : arg2.IsWhole) (arg3 : Memref sig .tc .vmem S1x256x1024 .bf16) (harg3 : arg3.IsWhole) (arg4 : Memref sig .tc .vmem S1x1024x128 .bf16) (harg4 : arg4.IsWhole) (arg5 : Memref sig .tc .vmem S1x8192x256 .bf16) (harg5 : arg5.IsWhole) (arg6 : Memref sig .tc .vmem S8192x128 .bf16) (harg6 : arg6.IsWhole) (arg7 : Memref sig .tc .vmem S1x128x8192 .bf16) (harg7 : arg7.IsWhole) (arg8 : Memref sig .tc .vmem S1x1x8192 .f32) (harg8 : arg8.IsWhole) (arg9 : Memref sig .tc .vmem S1x1x8192 .f32) (harg9 : arg9.IsWhole) (arg10 : Memref sig .tc .vmem S1x256x8192 .f32) (harg10 : arg10.IsWhole) (arg11 : Memref sig .tc .vmem S1x1024x256 .f32) (harg11 : arg11.IsWhole) (arg12 : Memref sig .tc .vmem S1x128x1024 .f32) (harg12 : arg12.IsWhole) (hc0 : ¬cond0_0 i) (xo8 : Vec F S1x256x8192 .f32) :
    out0_B_10 c i arg2 harg2 arg3 harg3 arg4 harg4 arg5 harg5 arg6 harg6 arg7 harg7 arg8 harg8 arg9 harg9 arg10 harg10 arg11 harg11 arg12 harg12 hc0 x0 x1 x2 x3 x4 x5 x6 x7 xo8 = k0_pay3 (dvAcc x0 x3 x5 x6 16 le_rfl) := by
  frame_out
  rfl

/-- The keys' gradient's block at the first block of keys. -/
theorem out_A_9 (c : Dev nD) (i : grid0.Coords) (arg2 : Memref sig .tc .vmem S1x1024x256 .bf16) (harg2 : arg2.IsWhole) (arg3 : Memref sig .tc .vmem S1x256x1024 .bf16) (harg3 : arg3.IsWhole) (arg4 : Memref sig .tc .vmem S1x1024x128 .bf16) (harg4 : arg4.IsWhole) (arg5 : Memref sig .tc .vmem S1x8192x256 .bf16) (harg5 : arg5.IsWhole) (arg6 : Memref sig .tc .vmem S8192x128 .bf16) (harg6 : arg6.IsWhole) (arg7 : Memref sig .tc .vmem S1x128x8192 .bf16) (harg7 : arg7.IsWhole) (arg8 : Memref sig .tc .vmem S1x1x8192 .f32) (harg8 : arg8.IsWhole) (arg9 : Memref sig .tc .vmem S1x1x8192 .f32) (harg9 : arg9.IsWhole) (arg10 : Memref sig .tc .vmem S1x256x8192 .f32) (harg10 : arg10.IsWhole) (arg11 : Memref sig .tc .vmem S1x1024x256 .f32) (harg11 : arg11.IsWhole) (arg12 : Memref sig .tc .vmem S1x128x1024 .f32) (harg12 : arg12.IsWhole) (hc0 : cond0_0 i) :
    out0_A_9 c i arg2 harg2 arg3 harg3 arg4 harg4 arg5 harg5 arg6 harg6 arg7 harg7 arg8 harg8 arg9 harg9 arg10 harg10 arg11 harg11 arg12 harg12 hc0 x0 x1 x2 x3 x4 x5 x6 x7 = k0_pay2 (dkAcc x0 x2 x3 x4 x6 x7 16 le_rfl) := by
  frame_out
  rfl

/-- The values' gradient's block at the first block of keys. -/
theorem out_A_10 (c : Dev nD) (i : grid0.Coords) (arg2 : Memref sig .tc .vmem S1x1024x256 .bf16) (harg2 : arg2.IsWhole) (arg3 : Memref sig .tc .vmem S1x256x1024 .bf16) (harg3 : arg3.IsWhole) (arg4 : Memref sig .tc .vmem S1x1024x128 .bf16) (harg4 : arg4.IsWhole) (arg5 : Memref sig .tc .vmem S1x8192x256 .bf16) (harg5 : arg5.IsWhole) (arg6 : Memref sig .tc .vmem S8192x128 .bf16) (harg6 : arg6.IsWhole) (arg7 : Memref sig .tc .vmem S1x128x8192 .bf16) (harg7 : arg7.IsWhole) (arg8 : Memref sig .tc .vmem S1x1x8192 .f32) (harg8 : arg8.IsWhole) (arg9 : Memref sig .tc .vmem S1x1x8192 .f32) (harg9 : arg9.IsWhole) (arg10 : Memref sig .tc .vmem S1x256x8192 .f32) (harg10 : arg10.IsWhole) (arg11 : Memref sig .tc .vmem S1x1024x256 .f32) (harg11 : arg11.IsWhole) (arg12 : Memref sig .tc .vmem S1x128x1024 .f32) (harg12 : arg12.IsWhole) (hc0 : cond0_0 i) :
    out0_A_10 c i arg2 harg2 arg3 harg3 arg4 harg4 arg5 harg5 arg6 harg6 arg7 harg7 arg8 harg8 arg9 harg9 arg10 harg10 arg11 harg11 arg12 harg12 hc0 x0 x1 x2 x3 x4 x5 x6 x7 = k0_pay3 (dvAcc x0 x3 x5 x6 16 le_rfl) := by
  frame_out
  rfl

/-- A column lies in one of the 16 steps. -/
theorem div_lt (y : S1x256x8192.Idx) : (y 2).val / 512 < 16 := by
  have h : (y 2).val < 8192 := (y 2).isLt
  omega

/-- The queries' gradient the block leaves over the contents `w`: column `y` is in step `y / 512`. -/
def dqG (w : Vec F S1x256x8192 .f32) (y : S1x256x8192.Idx) : Elt F .f32 :=
  dqSt x0 x1 x2 x3 x4 x6 x7 ((y 2).val / 512) (div_lt y) (View.ld w (rdq ((y 2).val / 512) (div_lt y)))
    (ix3 0 (y 1) ⟨(y 2).val % 512, Nat.mod_lt _ (by decide)⟩)

/-- On the columns of step `n` it is what that step stores. -/
theorem dqG_emb (w : Vec F S1x256x8192 .f32) (n : ℕ) (h : n < 16) (x : (rdq n h).shape.Idx) :
    dqSt x0 x1 x2 x3 x4 x6 x7 n h (View.ld w (rdq n h)) x = dqG x0 x1 x2 x3 x4 x6 x7 w ((rdq n h).emb x) := by
  have hx : (x 2).val < 512 := (x 2).isLt
  have h2 : (((rdq n h).emb x) 2).val = 512 * n + (x 2).val := by
    show 512 * n + 1 * (x 2).val = _
    omega
  have h1 : (((rdq n h).emb x) 1).val = (x 1).val := by
    show 0 + 1 * (x 1).val = _
    omega
  have hd : (((rdq n h).emb x) 2).val / 512 = n := by omega
  have hj : (ix3 0 (((rdq n h).emb x) 1) ⟨(((rdq n h).emb x) 2).val % 512, Nat.mod_lt _ (by decide)⟩ : S1x256x512.Idx) = x := by
    funext a
    fin_cases a
    · exact Subsingleton.elim (α := Fin 1) _ _
    · exact Fin.ext h1
    · exact Fin.ext (by show (((rdq n h).emb x) 2).val % 512 = _; rw [h2]; show _ = (x 2).val; omega)
  unfold dqG
  rw [hj]
  have key : ∀ (n' : ℕ) (h' : n' < 16), n' = n → dqSt x0 x1 x2 x3 x4 x6 x7 n' h' (View.ld w (rdq n' h')) x = dqSt x0 x1 x2 x3 x4 x6 x7 n h (View.ld w (rdq n h)) x := by
    rintro _ _ rfl; rfl
  exact (key _ _ hd).symm

/-- The queries' gradient's block at a later block of keys: over what is there. -/
theorem out_B_8 (c : Dev nD) (i : grid0.Coords) (arg2 : Memref sig .tc .vmem S1x1024x256 .bf16) (harg2 : arg2.IsWhole) (arg3 : Memref sig .tc .vmem S1x256x1024 .bf16) (harg3 : arg3.IsWhole) (arg4 : Memref sig .tc .vmem S1x1024x128 .bf16) (harg4 : arg4.IsWhole) (arg5 : Memref sig .tc .vmem S1x8192x256 .bf16) (harg5 : arg5.IsWhole) (arg6 : Memref sig .tc .vmem S8192x128 .bf16) (harg6 : arg6.IsWhole) (arg7 : Memref sig .tc .vmem S1x128x8192 .bf16) (harg7 : arg7.IsWhole) (arg8 : Memref sig .tc .vmem S1x1x8192 .f32) (harg8 : arg8.IsWhole) (arg9 : Memref sig .tc .vmem S1x1x8192 .f32) (harg9 : arg9.IsWhole) (arg10 : Memref sig .tc .vmem S1x256x8192 .f32) (harg10 : arg10.IsWhole) (arg11 : Memref sig .tc .vmem S1x1024x256 .f32) (harg11 : arg11.IsWhole) (arg12 : Memref sig .tc .vmem S1x128x1024 .f32) (harg12 : arg12.IsWhole) (hc0 : ¬cond0_0 i) (xo8 : Vec F S1x256x8192 .f32) (y : S1x256x8192.Idx) :
    out0_B_8 c i arg2 harg2 arg3 harg3 arg4 harg4 arg5 harg5 arg6 harg6 arg7 harg7 arg8 harg8 arg9 harg9 arg10 harg10 arg11 harg11 arg12 harg12 hc0 x0 x1 x2 x3 x4 x5 x6 x7 xo8 y = dqG x0 x1 x2 x3 x4 x6 x7 xo8 y := by
  have h := View.read_writes_eq_canon VO0_8 VO0_8.junk _ (cover0_B_8 c i arg2 harg2 arg3 harg3 arg4 harg4 arg5 harg5 arg6 harg6 arg7 harg7 arg8 harg8 arg9 harg9 arg10 harg10 arg11 harg11 arg12 harg12 hc0 x0 x1 x2 x3 x4 x5 x6 x7 xo8)
  unfold out0_B_8
  rw [h]
  have hc := cover0_B_8 c i arg2 harg2 arg3 harg3 arg4 harg4 arg5 harg5 arg6 harg6 arg7 harg7 arg8 harg8 arg9 harg9 arg10 harg10 arg11 harg11 arg12 harg12 hc0 x0 x1 x2 x3 x4 x5 x6 x7 xo8 y
  rw [← List.append_nil (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xo8).1]
  refine View.canon_append_of_piecesOf _ _ _ ?_ y hc
  frame_out
  exact ⟨fun x => dqG_emb x0 x1 x2 x3 x4 x6 x7 xo8 15 (by decide) x, fun x => dqG_emb x0 x1 x2 x3 x4 x6 x7 xo8 14 (by decide) x, fun x => dqG_emb x0 x1 x2 x3 x4 x6 x7 xo8 13 (by decide) x, fun x => dqG_emb x0 x1 x2 x3 x4 x6 x7 xo8 12 (by decide) x, fun x => dqG_emb x0 x1 x2 x3 x4 x6 x7 xo8 11 (by decide) x, fun x => dqG_emb x0 x1 x2 x3 x4 x6 x7 xo8 10 (by decide) x, fun x => dqG_emb x0 x1 x2 x3 x4 x6 x7 xo8 9 (by decide) x, fun x => dqG_emb x0 x1 x2 x3 x4 x6 x7 xo8 8 (by decide) x, fun x => dqG_emb x0 x1 x2 x3 x4 x6 x7 xo8 7 (by decide) x, fun x => dqG_emb x0 x1 x2 x3 x4 x6 x7 xo8 6 (by decide) x, fun x => dqG_emb x0 x1 x2 x3 x4 x6 x7 xo8 5 (by decide) x, fun x => dqG_emb x0 x1 x2 x3 x4 x6 x7 xo8 4 (by decide) x, fun x => dqG_emb x0 x1 x2 x3 x4 x6 x7 xo8 3 (by decide) x, fun x => dqG_emb x0 x1 x2 x3 x4 x6 x7 xo8 2 (by decide) x, fun x => dqG_emb x0 x1 x2 x3 x4 x6 x7 xo8 1 (by decide) x, fun x => dqG_emb x0 x1 x2 x3 x4 x6 x7 xo8 0 (by decide) x, trivial⟩

/-- The queries' gradient's block at the first block of keys: over zeros. -/
theorem out_A_8 (c : Dev nD) (i : grid0.Coords) (arg2 : Memref sig .tc .vmem S1x1024x256 .bf16) (harg2 : arg2.IsWhole) (arg3 : Memref sig .tc .vmem S1x256x1024 .bf16) (harg3 : arg3.IsWhole) (arg4 : Memref sig .tc .vmem S1x1024x128 .bf16) (harg4 : arg4.IsWhole) (arg5 : Memref sig .tc .vmem S1x8192x256 .bf16) (harg5 : arg5.IsWhole) (arg6 : Memref sig .tc .vmem S8192x128 .bf16) (harg6 : arg6.IsWhole) (arg7 : Memref sig .tc .vmem S1x128x8192 .bf16) (harg7 : arg7.IsWhole) (arg8 : Memref sig .tc .vmem S1x1x8192 .f32) (harg8 : arg8.IsWhole) (arg9 : Memref sig .tc .vmem S1x1x8192 .f32) (harg9 : arg9.IsWhole) (arg10 : Memref sig .tc .vmem S1x256x8192 .f32) (harg10 : arg10.IsWhole) (arg11 : Memref sig .tc .vmem S1x1024x256 .f32) (harg11 : arg11.IsWhole) (arg12 : Memref sig .tc .vmem S1x128x1024 .f32) (harg12 : arg12.IsWhole) (hc0 : cond0_0 i) (y : S1x256x8192.Idx) :
    out0_A_8 c i arg2 harg2 arg3 harg3 arg4 harg4 arg5 harg5 arg6 harg6 arg7 harg7 arg8 harg8 arg9 harg9 arg10 harg10 arg11 harg11 arg12 harg12 hc0 x0 x1 x2 x3 x4 x5 x6 x7 y = dqG x0 x1 x2 x3 x4 x6 x7 k0_pay4 y := by
  have h := View.read_writes_eq_canon VO0_8 VO0_8.junk _ (cover0_A_8 c i arg2 harg2 arg3 harg3 arg4 harg4 arg5 harg5 arg6 harg6 arg7 harg7 arg8 harg8 arg9 harg9 arg10 harg10 arg11 harg11 arg12 harg12 hc0 x0 x1 x2 x3 x4 x5 x6 x7)
  unfold out0_A_8
  rw [h]
  have hc := View.cover_of_tiledL ((kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).1.take 16) S1x256x512.size (by sl_kernel_rfl) y
  rw [← List.take_append_drop 16 (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).1]
  refine View.canon_append_of_piecesOf _ _ _ ?_ y hc
  frame_open
  simp (disch := decide) only [↓ View.readCov_skip, ↓ View.readCov_cons_toLoadRect, ↓ View.readCov_fill, List.take_succ_cons, List.take_zero]
  frame_out
  exact ⟨fun x => dqG_emb x0 x1 x2 x3 x4 x6 x7 k0_pay4 15 (by decide) x, fun x => dqG_emb x0 x1 x2 x3 x4 x6 x7 k0_pay4 14 (by decide) x, fun x => dqG_emb x0 x1 x2 x3 x4 x6 x7 k0_pay4 13 (by decide) x, fun x => dqG_emb x0 x1 x2 x3 x4 x6 x7 k0_pay4 12 (by decide) x, fun x => dqG_emb x0 x1 x2 x3 x4 x6 x7 k0_pay4 11 (by decide) x, fun x => dqG_emb x0 x1 x2 x3 x4 x6 x7 k0_pay4 10 (by decide) x, fun x => dqG_emb x0 x1 x2 x3 x4 x6 x7 k0_pay4 9 (by decide) x, fun x => dqG_emb x0 x1 x2 x3 x4 x6 x7 k0_pay4 8 (by decide) x, fun x => dqG_emb x0 x1 x2 x3 x4 x6 x7 k0_pay4 7 (by decide) x, fun x => dqG_emb x0 x1 x2 x3 x4 x6 x7 k0_pay4 6 (by decide) x, fun x => dqG_emb x0 x1 x2 x3 x4 x6 x7 k0_pay4 5 (by decide) x, fun x => dqG_emb x0 x1 x2 x3 x4 x6 x7 k0_pay4 4 (by decide) x, fun x => dqG_emb x0 x1 x2 x3 x4 x6 x7 k0_pay4 3 (by decide) x, fun x => dqG_emb x0 x1 x2 x3 x4 x6 x7 k0_pay4 2 (by decide) x, fun x => dqG_emb x0 x1 x2 x3 x4 x6 x7 k0_pay4 1 (by decide) x, fun x => dqG_emb x0 x1 x2 x3 x4 x6 x7 k0_pay4 0 (by decide) x, trivial⟩

end Cert.KernelIdeal.Body

end
-- ==== Proof.RealAttn.lean ====
module

public import Idealize.ShloMosaic.Lib.ValueIdx
public import Idealize.ShloMosaic.PureOps.Ideal.Laws

@[expose] public section

noncomputable section

/-! Causal-free attention of one device over the real numbers: scores, softmax weights, and the gradients that flow back. -/

namespace Cert.RealAttn

open Idealize.ShloMosaic

/-- A finite sum of reals, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of finitely many reals, at least one, is a real. -/
theorem fold_max_real {ι : Type*} (s : Finset ι) (hs : s.Nonempty) (f : ι → ℝ) :
    ∃ r : ℝ, s.fold max (⊥ : EReal) (fun i => (f i : EReal)) = r := by
  classical
  induction hs using Finset.Nonempty.cons_induction with
  | singleton a => exact ⟨f a, by simp⟩
  | cons a s ha hs ih =>
    obtain ⟨r, hr⟩ := ih
    exact ⟨max (f a) r, by rw [Finset.fold_cons, hr, EReal.coe_strictMono.monotone.map_max]⟩

/-- The scale of the scores. -/
def scale : ℝ := (Real.sqrt 192)⁻¹

/-- 256 lanes: 128, then 64, then 64. -/
theorem sum_lanes {M : Type*} [AddCommMonoid M] (f : Fin 256 → M) :
    ∑ e, f e = (∑ d : Fin 128, f ⟨d.val, by omega⟩ + ∑ r : Fin 64, f ⟨128 + r.val, by omega⟩)
      + ∑ z : Fin 64, f ⟨192 + z.val, by omega⟩ := by
  rw [show (∑ e, f e) = ∑ e : Fin (128 + 64 + 64), f ⟨e.val, by omega⟩ from rfl, Fin.sum_univ_add, Fin.sum_univ_add]
  rfl

/-- A feature's column in the heads' concatenation. -/
abbrev col (h : Fin 8) (d : Fin 128) : Fin 1024 := ⟨h.val * 128 + d.val, by omega⟩

variable (q : Fin 8192 → Fin 8 → Fin 192 → ℝ) (kn : Fin 8192 → Fin 8 → Fin 128 → ℝ) (kr : Fin 8192 → Fin 64 → ℝ)
  (v : Fin 8192 → Fin 8 → Fin 128 → ℝ) (ct : Fin 8192 → Fin 1024 → ℝ) (m : Fin 8 → Fin 8192 → ℝ)

/-- The key of a head in 256 lanes: the part without position, the part with it, zeros. -/
def kc (h : Fin 8) (k : Fin 8192) (e : Fin 256) : ℝ :=
  if h1 : e.val < 128 then kn k h ⟨e.val, h1⟩ else if h2 : e.val < 192 then kr k ⟨e.val - 128, by omega⟩ else 0
/-- The query of a head in 256 lanes. -/
def qc (h : Fin 8) (i : Fin 8192) (e : Fin 256) : ℝ := if h1 : e.val < 192 then q i h ⟨e.val, h1⟩ else 0

/-- The product of a query and a key, before the scale. -/
def raw (h : Fin 8) (i k : Fin 8192) : ℝ :=
  ∑ d : Fin 128, q i h ⟨d.val, by omega⟩ * kn k h d + ∑ r : Fin 64, q i h ⟨128 + r.val, by omega⟩ * kr k r
/-- The score. -/
def sc (h : Fin 8) (i k : Fin 8192) : ℝ := raw q kn kr h i k * scale
/-- The exponential of a score less `m`. -/
def ex (h : Fin 8) (i k : Fin 8192) : ℝ := Real.exp (sc q kn kr h i k - m h i)
/-- A query's sum of exponentials. -/
def ls (h : Fin 8) (i : Fin 8192) : ℝ := ∑ k, ex q kn kr m h i k
/-- The softmax weight. -/
def pr (h : Fin 8) (i k : Fin 8192) : ℝ := ex q kn kr m h i k / ls q kn kr m h i
/-- The gradient of a softmax weight. -/
def dp (h : Fin 8) (i k : Fin 8192) : ℝ := ∑ d : Fin 128, ct i (col h d) * v k h d
/-- The attention's output. -/
def out (h : Fin 8) (i : Fin 8192) (d : Fin 128) : ℝ := ∑ k, v k h d * pr q kn kr m h i k
/-- The inner product of the output and its gradient. -/
def dl (h : Fin 8) (i : Fin 8192) : ℝ := ∑ d : Fin 128, ct i (col h d) * out q kn kr v m h i d
/-- The gradient of the product of a query and a key. -/
def ds (h : Fin 8) (i k : Fin 8192) : ℝ := pr q kn kr m h i k * (dp v ct h i k - dl q kn kr v ct m h i) * scale

/-- A row's sum of exponentials is positive. -/
theorem ls_pos (h : Fin 8) (i : Fin 8192) : 0 < ls q kn kr m h i :=
  Finset.sum_pos (fun _ _ => Real.exp_pos _) ⟨0, Finset.mem_univ _⟩

/-- Contracted over the lanes, a key and a query give the product. -/
theorem sum_kc_qc (h : Fin 8) (i k : Fin 8192) : ∑ e, kc kn kr h k e * qc q h i e = raw q kn kr h i k := by
  rw [sum_lanes, raw]
  have hz : ∑ z : Fin 64, kc kn kr h k ⟨192 + z.val, by omega⟩ * qc q h i ⟨192 + z.val, by omega⟩ = 0 :=
    Finset.sum_eq_zero fun z _ => by simp [qc]
  rw [hz, add_zero]
  congr 1
  · refine Finset.sum_congr rfl fun d _ => ?_
    have := d.isLt
    rw [kc, qc, dif_pos (by simp), dif_pos (by simp; omega), mul_comm]
  · refine Finset.sum_congr rfl fun r _ => ?_
    have := r.isLt
    rw [kc, qc, dif_neg (by simp), dif_pos (by simp; omega), dif_pos (by simp; omega), mul_comm]
    congr 2
    exact Fin.ext (by simp)

/-- The weight from the power of two of the score less the logarithm, to base two, of the query's sum. -/
theorem rpow_eq_pr (h : Fin 8) (i k : Fin 8192) :
    Real.rpow 2 (raw q kn kr h i k * (scale * (Real.log 2)⁻¹) - (m h i + Real.log (ls q kn kr m h i)) * (1 / Real.log 2)) = pr q kn kr m h i k := by
  have hl := ls_pos q kn kr m h i
  have h2 : Real.log 2 ≠ 0 := (Real.log_pos (by norm_num)).ne'
  rw [Real.rpow_eq_pow, Real.rpow_def_of_pos (by norm_num), pr, ex, sc,
    show Real.log 2 * (raw q kn kr h i k * (scale * (Real.log 2)⁻¹) - (m h i + Real.log (ls q kn kr m h i)) * (1 / Real.log 2))
      = (raw q kn kr h i k * scale - m h i) - Real.log (ls q kn kr m h i) by field_simp; ring, Real.exp_sub, Real.exp_log hl]

/-- The output against its gradient is the weights against theirs. -/
theorem dl_eq (h : Fin 8) (i : Fin 8192) : dl q kn kr v ct m h i = ∑ k, dp v ct h i k * pr q kn kr m h i k := by
  simp only [dl, out, dp, Finset.mul_sum, Finset.sum_mul]
  rw [Finset.sum_comm]
  exact Finset.sum_congr rfl fun k _ => Finset.sum_congr rfl fun d _ => by ring

/-- The quotient's two gradients together. -/
theorem ds_eq (h : Fin 8) (i k : Fin 8192) :
    (dp v ct h i k * (1 / ls q kn kr m h i) + -∑ k', dp v ct h i k' * (1 * (1 / (ls q kn kr m h i * ls q kn kr m h i))) * ex q kn kr m h i k')
      * ex q kn kr m h i k * scale = ds q kn kr v ct m h i k := by
  have hl := (ls_pos q kn kr m h i).ne'
  rw [ds, dl_eq]
  have : ∑ k', dp v ct h i k' * (1 * (1 / (ls q kn kr m h i * ls q kn kr m h i))) * ex q kn kr m h i k'
      = (∑ k', dp v ct h i k' * pr q kn kr m h i k') * (1 / ls q kn kr m h i) := by
    rw [Finset.sum_mul]
    exact Finset.sum_congr rfl fun k' _ => by rw [pr]; field_simp
  rw [this, pr]
  field_simp
  ring

end Cert.RealAttn

end
-- ==== Proof.Pay.lean ====
module

public import proofs.«01_k».proof.Proof.Gen.KernelIdeal.Skeleton
public import Idealize.ShloMosaic.Lib.Pointwise
public import Idealize.ShloMosaic.Lib.ValueIdx
public import proofs.«01_k».proof.Proof.RealAttn

@[expose] public section

set_option maxRecDepth 16384

noncomputable section

/-! The kernel's values at an index, over the extended reals. -/

namespace Cert.KernelIdeal.Pay

open Cert.KernelIdeal Cert.KernelIdeal.Gen Idealize.ShloMosaic Idealize.ShloMosaic.TcCoe Idealize.SL.Sem

/-- A weight: the power of two of the scaled product less the row's entry. -/
theorem pay12 (x0 : Vec Ideal S1x1024x256 .bf16) (w3 : Vec Ideal S1x512x256 .bf16) (w6 : Vec Ideal S1x1x512 .f32) (k : Fin 1024) (i : Fin 512) :
    k0_pay12 x0 w3 w6 (ix2 k i)
      = Ideal.exp2 ((∑ e : Fin 256, x0 (ix3 0 k e) * w3 (ix3 0 i e)) * ((RealAttn.scale * (Real.log 2)⁻¹ : ℝ) : EReal) - w6 (ix3 0 0 i)) := by
  unfold k0_pay12 k0_pay5 k0_pay10
  pointwise
  rfl

/-- A product's gradient. -/
theorem pay14 (x2 : Vec Ideal S1x1024x128 .bf16) (w4 : Vec Ideal S512x128 .bf16) (p : FVec Ideal S1024x512 .f32) (w7 : Vec Ideal S1x1x512 .f32) (k : Fin 1024) (i : Fin 512) :
    k0_pay14 (k0_pay7 x2) (k0_pay11 w4) p w7 (ix2 k i)
      = p (ix2 k i) * ((∑ d : Fin 128, x2 (ix3 0 k d) * w4 (ix2 i d)) - w7 (ix3 0 0 i)) * ((RealAttn.scale : ℝ) : EReal) := by
  unfold k0_pay14 k0_pay7 k0_pay11
  pointwise
  rfl

/-- The body's value at an index. -/
theorem pay15 (v8 : FVec Ideal S1024x128 .bf16) (acc : FVec Ideal S1024x256 .f32) (w3 : Vec Ideal S1x512x256 .bf16) (v20 : FVec Ideal S512x128 .bf16) (p : FVec Ideal S1024x512 .f32) (w7 : Vec Ideal S1x1x512 .f32) (k : Fin 1024) (e : Fin 256) :
    k0_pay15 v8 acc (k0_pay10 w3) v20 p w7 (ix2 k e)
      = acc (ix2 k e) + ∑ i : Fin 512, k0_pay14 v8 v20 p w7 (ix2 k i) * w3 (ix3 0 i e) := by
  unfold k0_pay15 k0_pay10
  pointwise

/-- The body's value at an index. -/
theorem pay13 (acc : FVec Ideal S128x1024 .f32) (p : FVec Ideal S1024x512 .f32) (w5 : Vec Ideal S1x128x512 .bf16) (d : Fin 128) (k : Fin 1024) :
    k0_pay13 acc p w5 (ix2 d k) = acc (ix2 d k) + ∑ i : Fin 512, w5 (ix3 0 d i) * p (ix2 k i) := by
  unfold k0_pay13
  pointwise

/-- The body's value at an index. -/
theorem pay16 (x1 : Vec Ideal S1x256x1024 .bf16) (v8 : FVec Ideal S1024x128 .bf16) (v20 : FVec Ideal S512x128 .bf16) (p : FVec Ideal S1024x512 .f32) (w7 : Vec Ideal S1x1x512 .f32) (w : Vec Ideal S1x256x512 .f32) (e : Fin 256) (i : Fin 512) :
    k0_pay16 (k0_pay6 x1) v8 v20 p w7 w (ix3 0 e i) = w (ix3 0 e i) + ∑ k : Fin 1024, x1 (ix3 0 e k) * k0_pay14 v8 v20 p w7 (ix2 k i) := by
  unfold k0_pay16 k0_pay6
  pointwise

/-- The body's value at an index. -/
theorem pay8 (j : S1024x256.Idx) : k0_pay8 (F := Ideal) j = 0 := by
  unfold k0_pay8
  pointwise

/-- The body's value at an index. -/
theorem pay9 (j : S128x1024.Idx) : k0_pay9 (F := Ideal) j = 0 := by
  unfold k0_pay9
  pointwise

/-- The body's value at an index. -/
theorem pay4 (j : S1x256x8192.Idx) : k0_pay4 (F := Ideal) j = 0 := by
  unfold k0_pay4
  pointwise

/-- The body's value at an index. -/
theorem pay2 (x : FVec Ideal S1024x256 .f32) (k : Fin 1024) (e : Fin 256) : k0_pay2 x (ix3 0 k e) = x (ix2 k e) := by
  unfold k0_pay2
  pointwise

/-- The body's value at an index. -/
theorem pay3 (x : FVec Ideal S128x1024 .f32) (k : Fin 128) (e : Fin 1024) : k0_pay3 x (ix3 0 k e) = x (ix2 k e) := by
  unfold k0_pay3
  pointwise

end Cert.KernelIdeal.Pay

end
-- ==== Proof.Block.lean ====
module

public import proofs.«01_k».proof.Proof.Body
public import proofs.«01_k».proof.Proof.Pay

@[expose] public section

set_option maxRecDepth 16384

noncomputable section

/-! What one block of keys leaves, at an index, over the extended reals: sums over all queries or over the block's keys. -/

namespace Cert.KernelIdeal.Block

open Cert.KernelIdeal Cert.KernelIdeal.Gen Cert.KernelIdeal.Body Cert.KernelIdeal.Pay Idealize.ShloMosaic Idealize.ShloMosaic.TcCoe Idealize.SL.Sem

variable (x0 : Vec Ideal S1x1024x256 .bf16) (x1 : Vec Ideal S1x256x1024 .bf16) (x2 : Vec Ideal S1x1024x128 .bf16) (x3 : Vec Ideal S1x8192x256 .bf16)
  (x4 : Vec Ideal S8192x128 .bf16) (x5 : Vec Ideal S1x128x8192 .bf16) (x6 : Vec Ideal S1x1x8192 .f32) (x7 : Vec Ideal S1x1x8192 .f32)

/-- The weight of key `k` of the block at query `i`. -/
def wt (k : Fin 1024) (i : Fin 8192) : EReal :=
  Ideal.exp2 ((∑ e : Fin 256, x0 (ix3 0 k e) * x3 (ix3 0 i e)) * ((RealAttn.scale * (Real.log 2)⁻¹ : ℝ) : EReal) - x6 (ix3 0 0 i))
/-- The gradient of the product of key `k` of the block and query `i`. -/
def gr (k : Fin 1024) (i : Fin 8192) : EReal :=
  wt x0 x3 x6 k i * ((∑ d : Fin 128, x2 (ix3 0 k d) * x4 (ix2 i d)) - x7 (ix3 0 0 i)) * ((RealAttn.scale : ℝ) : EReal)

/-- Row `r` of step `n` is row `512 n + r`. -/
abbrev at' (n : ℕ) (h : n < 16) (r : Fin 512) : Fin 8192 := ⟨n * 512 + r.val, by omega⟩

/-- What a loaded piece holds at an index. -/
theorem ld_q (n : ℕ) (h : n < 16) (r : Fin 512) (e : Fin 256) : View.ld x3 (rq n h) (ix3 0 r e) = x3 (ix3 0 (at' n h r) e) := by
  refine congrArg x3 (funext fun a => ?_)
  fin_cases a
  · rfl
  · exact Fin.ext (show 512 * n + 1 * r.val = n * 512 + r.val by omega)
  · exact Fin.ext (show 0 + 1 * e.val = e.val by omega)

/-- What a loaded piece holds at an index. -/
theorem ld_do (n : ℕ) (h : n < 16) (r : Fin 512) (d : Fin 128) : View.ld x4 (rdo n h) (ix2 r d) = x4 (ix2 (at' n h r) d) := by
  refine congrArg x4 (funext fun a => ?_)
  fin_cases a
  · exact Fin.ext (show 512 * n + 1 * r.val = n * 512 + r.val by omega)
  · exact Fin.ext (show 0 + 1 * d.val = d.val by omega)

/-- What a loaded piece holds at an index. -/
theorem ld_dot (n : ℕ) (h : n < 16) (d : Fin 128) (r : Fin 512) : View.ld x5 (rdot n h) (ix3 0 d r) = x5 (ix3 0 d (at' n h r)) := by
  refine congrArg x5 (funext fun a => ?_)
  fin_cases a
  · rfl
  · exact Fin.ext (show 0 + 1 * d.val = d.val by omega)
  · exact Fin.ext (show 512 * n + 1 * r.val = n * 512 + r.val by omega)

/-- What a loaded piece holds at an index. -/
theorem ld_row (x : Vec Ideal S1x1x8192 .f32) (n : ℕ) (h : n < 16) (r : Fin 512) :
    View.ld x (rrow n h) (ix3 0 0 r) = x (ix3 0 0 (at' n h r)) := by
  refine congrArg x (funext fun a => ?_)
  fin_cases a
  · rfl
  · rfl
  · exact Fin.ext (show 512 * n + 1 * r.val = n * 512 + r.val by omega)

/-- What a loaded piece holds at an index. -/
theorem ld_dq (w : Vec Ideal S1x256x8192 .f32) (n : ℕ) (h : n < 16) (e : Fin 256) (r : Fin 512) :
    View.ld w (rdq n h) (ix3 0 e r) = w (ix3 0 e (at' n h r)) := by
  refine congrArg w (funext fun a => ?_)
  fin_cases a
  · rfl
  · exact Fin.ext (show 0 + 1 * e.val = e.val by omega)
  · exact Fin.ext (show 512 * n + 1 * r.val = n * 512 + r.val by omega)

/-- The transposed weights of a piece of queries, at an index. -/
theorem pT_at (n : ℕ) (h : n < 16) (k : Fin 1024) (r : Fin 512) : pT x0 x3 x6 n h (ix2 k r) = wt x0 x3 x6 k (at' n h r) := by
  unfold pT wt
  rw [pay12, ld_row]
  refine congrArg (fun z => Ideal.exp2 (z * _ - _)) (Finset.sum_congr rfl fun e _ => ?_)
  rw [ld_q]

/-- The gradient of the scores of a piece of queries, at an index. -/
theorem gr_at (n : ℕ) (h : n < 16) (k : Fin 1024) (r : Fin 512) :
    k0_pay14 (k0_pay7 x2) (k0_pay11 (View.ld x4 (rdo n h))) (pT x0 x3 x6 n h) (View.ld x7 (rrow n h)) (ix2 k r) = gr x0 x2 x3 x4 x6 x7 k (at' n h r) := by
  unfold gr
  rw [pay14, pT_at, ld_row]
  refine congrArg (fun z => _ * (z - _) * _) (Finset.sum_congr rfl fun d _ => ?_)
  rw [ld_do]

/-- The keys' sum after n pieces of queries, at an index. -/
theorem dkAcc_at (k : Fin 1024) (e : Fin 256) : ∀ (n : ℕ) (h : n ≤ 16),
    dkAcc x0 x2 x3 x4 x6 x7 n h (ix2 k e)
      = ∑ s : Fin n, ∑ r : Fin 512, gr x0 x2 x3 x4 x6 x7 k (at' s.val (by omega) r) * x3 (ix3 0 (at' s.val (by omega) r) e)
  | 0, _ => by rw [dkAcc, pay8]; rfl
  | n + 1, h => by
    rw [dkAcc, pay15, dkAcc_at k e n _, Fin.sum_univ_castSucc (n := n)]
    refine congrArg (_ + ·) (Finset.sum_congr rfl fun r _ => ?_)
    rw [gr_at, ld_q]
    rfl

/-- The values' sum after n pieces of queries, at an index. -/
theorem dvAcc_at (d : Fin 128) (k : Fin 1024) : ∀ (n : ℕ) (h : n ≤ 16),
    dvAcc x0 x3 x5 x6 n h (ix2 d k)
      = ∑ s : Fin n, ∑ r : Fin 512, x5 (ix3 0 d (at' s.val (by omega) r)) * wt x0 x3 x6 k (at' s.val (by omega) r)
  | 0, _ => by rw [dvAcc, pay9]; rfl
  | n + 1, h => by
    rw [dvAcc, pay13, dvAcc_at d k n _, Fin.sum_univ_castSucc (n := n)]
    refine congrArg (_ + ·) (Finset.sum_congr rfl fun r _ => ?_)
    rw [pT_at, ld_dot]
    rfl

/-- The keys' gradient of the block. -/
theorem dk_at (k : Fin 1024) (e : Fin 256) :
    k0_pay2 (dkAcc x0 x2 x3 x4 x6 x7 16 le_rfl) (ix3 0 k e) = ∑ i : Fin 8192, gr x0 x2 x3 x4 x6 x7 k i * x3 (ix3 0 i e) := by
  rw [pay2, dkAcc_at]
  exact Fin.sum_mul_add_fin 16 512 (fun i => gr x0 x2 x3 x4 x6 x7 k i * x3 (ix3 0 i e))

/-- The values' gradient of the block, transposed. -/
theorem dv_at (d : Fin 128) (k : Fin 1024) :
    k0_pay3 (dvAcc x0 x3 x5 x6 16 le_rfl) (ix3 0 d k) = ∑ i : Fin 8192, x5 (ix3 0 d i) * wt x0 x3 x6 k i := by
  rw [pay3, dvAcc_at]
  exact Fin.sum_mul_add_fin 16 512 (fun i => x5 (ix3 0 d i) * wt x0 x3 x6 k i)

/-- What the block adds to the queries' gradient, transposed. -/
theorem dq_at (w : Vec Ideal S1x256x8192 .f32) (e : Fin 256) (i : Fin 8192) :
    dqG x0 x1 x2 x3 x4 x6 x7 w (ix3 0 e i) = w (ix3 0 e i) + ∑ k : Fin 1024, x1 (ix3 0 e k) * gr x0 x2 x3 x4 x6 x7 k i := by
  have hi : at' (i.val / 512) (by omega) ⟨i.val % 512, Nat.mod_lt _ (by decide)⟩ = i := Fin.ext (by show i.val / 512 * 512 + i.val % 512 = i.val; omega)
  unfold dqG dqSt
  have hn : i.val / 512 < 16 := by omega
  show k0_pay16 (k0_pay6 x1) (k0_pay7 x2) (k0_pay11 (View.ld x4 (rdo (i.val / 512) hn))) (pT x0 x3 x6 (i.val / 512) hn)
    (View.ld x7 (rrow (i.val / 512) hn)) (View.ld w (rdq (i.val / 512) hn)) (ix3 0 e ⟨i.val % 512, Nat.mod_lt _ (by decide)⟩) = _
  rw [pay16, ld_dq, hi]
  refine congrArg (_ + ·) (Finset.sum_congr rfl fun k _ => ?_)
  rw [gr_at, hi]

end Cert.KernelIdeal.Block

end
-- ==== Proof.Kern.lean ====
module

public import proofs.«01_k».proof.Proof.Block
public import Idealize.ShloMosaic.Lib.Pipeline.ValueKit

@[expose] public section

set_option maxRecDepth 16384

noncomputable section

/-! The kernel's three result arrays at an index, from the arrays it is given. -/

namespace Cert.KernelIdeal.Kern

open Cert.KernelIdeal Cert.KernelIdeal.Gen Cert.KernelIdeal.Body Cert.KernelIdeal.Block Idealize.ShloMosaic Idealize.ShloMosaic.TcCoe Idealize.SL.Sem
open Idealize.ShloMosaic.Pipeline (Dat)

variable (m : (ℓ : Loc nD τ sig) → Buf (Elt Ideal) ℓ) (c : Dev nD)

/-- The block each window is at, at the point of head `t / 8` and key block `t % 8`. -/
theorem idx : ∀ t : Fin cfg0.N,
    win0_0.index t = ![t.val / 8, t.val % 8, 0] ∧ win0_1.index t = ![t.val / 8, 0, t.val % 8] ∧ win0_2.index t = ![t.val / 8, t.val % 8, 0]
    ∧ win0_3.index t = ![t.val / 8, 0, 0] ∧ win0_4.index t = ![0, t.val / 8] ∧ win0_5.index t = ![t.val / 8, 0, 0]
    ∧ win0_6.index t = ![t.val / 8, 0, 0] ∧ win0_7.index t = ![t.val / 8, 0, 0] ∧ win0_8.index t = ![t.val / 8, 0, 0]
    ∧ win0_9.index t = ![t.val / 8, t.val % 8, 0] ∧ win0_10.index t = ![t.val / 8, 0, t.val % 8] :=
  (by decide +kernel : ∀ t : Fin grid0.N, _)

/-- The bound on the number of grid points. -/
theorem lt64 (t : Fin cfg0.N) : t.val < 64 := t.isLt

/-- The head of a point. -/
abbrev hd (t : Fin cfg0.N) : Fin 8 := ⟨t.val / 8, by have := lt64 t; omega⟩
/-- Key `k` of a point's block. -/
abbrev ky (t : Fin cfg0.N) (k : Fin 1024) : Fin 8192 := ⟨t.val % 8 * 1024 + k.val, by omega⟩

abbrev KC : Vec Ideal S8x8192x256 .bf16 := V m c main_v45
abbrev KCT : Vec Ideal S8x256x8192 .bf16 := V m c main_v46
abbrev VB : Vec Ideal S8x8192x256 .bf16 := V m c main_v40
abbrev QC : Vec Ideal S8x8192x256 .bf16 := V m c main_v33
abbrev DOB : Vec Ideal S8192x1024 .bf16 := V m c main_v41
abbrev DOT : Vec Ideal S8x128x8192 .bf16 := V m c main_v44
abbrev LSE : Vec Ideal S8x1x8192 .f32 := V m c main_v47
abbrev DEL : Vec Ideal S8x1x8192 .f32 := V m c main_v49

/-- What block 0 of a point holds, in terms of the arguments. -/
theorem blk0 (t : Fin cfg0.N) (k : Fin 1024) (e : Fin 256) :
    (iblk m c 0 t : Vec Ideal S1x1024x256 .bf16) (ix3 0 k e) = KC m c (ix3 (hd t) (ky t k) e) := by
  blk_ext [iblk, idx t]
/-- What block 1 of a point holds, in terms of the arguments. -/
theorem blk1 (t : Fin cfg0.N) (e : Fin 256) (k : Fin 1024) :
    (iblk m c 1 t : Vec Ideal S1x256x1024 .bf16) (ix3 0 e k) = KCT m c (ix3 (hd t) e (ky t k)) := by
  blk_ext [iblk, idx t]
/-- What block 2 of a point holds, in terms of the arguments. -/
theorem blk2 (t : Fin cfg0.N) (k : Fin 1024) (d : Fin 128) :
    (iblk m c 2 t : Vec Ideal S1x1024x128 .bf16) (ix3 0 k d) = VB m c (ix3 (hd t) (ky t k) ⟨d.val, by omega⟩) := by
  blk_ext [iblk, idx t]
/-- What block 3 of a point holds, in terms of the arguments. -/
theorem blk3 (t : Fin cfg0.N) (i : Fin 8192) (e : Fin 256) :
    (iblk m c 3 t : Vec Ideal S1x8192x256 .bf16) (ix3 0 i e) = QC m c (ix3 (hd t) i e) := by
  blk_ext [iblk, idx t]
/-- What block 4 of a point holds, in terms of the arguments. -/
theorem blk4 (t : Fin cfg0.N) (i : Fin 8192) (d : Fin 128) :
    (iblk m c 4 t : Vec Ideal S8192x128 .bf16) (ix2 i d) = DOB m c (ix2 i (RealAttn.col (hd t) d)) := by
  blk_ext [iblk, idx t]
/-- What block 5 of a point holds, in terms of the arguments. -/
theorem blk5 (t : Fin cfg0.N) (d : Fin 128) (i : Fin 8192) :
    (iblk m c 5 t : Vec Ideal S1x128x8192 .bf16) (ix3 0 d i) = DOT m c (ix3 (hd t) d i) := by
  blk_ext [iblk, idx t]
/-- What block 6 of a point holds, in terms of the arguments. -/
theorem blk6 (t : Fin cfg0.N) (i : Fin 8192) :
    (iblk m c 6 t : Vec Ideal S1x1x8192 .f32) (ix3 0 0 i) = LSE m c (ix3 (hd t) 0 i) := by
  blk_ext [iblk, idx t]
/-- What block 7 of a point holds, in terms of the arguments. -/
theorem blk7 (t : Fin cfg0.N) (i : Fin 8192) :
    (iblk m c 7 t : Vec Ideal S1x1x8192 .f32) (ix3 0 0 i) = DEL m c (ix3 (hd t) 0 i) := by
  blk_ext [iblk, idx t]

/-- The weight of key `k` at query `i` in head `h`. -/
def W (h : Fin 8) (k i : Fin 8192) : EReal :=
  Ideal.exp2 ((∑ e : Fin 256, KC m c (ix3 h k e) * QC m c (ix3 h i e)) * ((RealAttn.scale * (Real.log 2)⁻¹ : ℝ) : EReal) - LSE m c (ix3 h 0 i))
/-- The gradient of the product of key `k` and query `i` in head `h`. -/
def G (h : Fin 8) (k i : Fin 8192) : EReal :=
  W m c h k i * ((∑ d : Fin 128, VB m c (ix3 h k ⟨d.val, by omega⟩) * DOB m c (ix2 i (RealAttn.col h d))) - DEL m c (ix3 h 0 i)) * ((RealAttn.scale : ℝ) : EReal)

/-- A point's weight in terms of the call's arrays. -/
theorem wt_eq (t : Fin cfg0.N) (k : Fin 1024) (i : Fin 8192) :
    wt (iblk m c 0 t) (iblk m c 3 t) (iblk m c 6 t) k i = W m c (hd t) (ky t k) i := by
  unfold wt W
  rw [blk6]
  refine congrArg (fun z => Ideal.exp2 (z * _ - _)) (Finset.sum_congr rfl fun e _ => ?_)
  rw [blk0, blk3]

/-- A point's gradient of a score in terms of the call's arrays. -/
theorem gr_eq (t : Fin cfg0.N) (k : Fin 1024) (i : Fin 8192) :
    gr (iblk m c 0 t) (iblk m c 2 t) (iblk m c 3 t) (iblk m c 4 t) (iblk m c 6 t) (iblk m c 7 t) k i = G m c (hd t) (ky t k) i := by
  unfold gr G
  rw [wt_eq, blk7]
  refine congrArg (fun z => _ * (z - _) * _) (Finset.sum_congr rfl fun d _ => ?_)
  rw [blk2, blk4]

/-- What a point leaves for the keys' gradient. -/
theorem outs9 (t : Fin cfg0.N) (k : Fin 1024) (e : Fin 256) :
    (outsAt0 m c t.val t.isLt).2.1 (ix3 0 k e) = ∑ i : Fin 8192, G m c (hd t) (ky t k) i * QC m c (ix3 (hd t) i e) := by
  have key : ∀ X : Vec Ideal S1x1024x256 .f32, X = k0_pay2 (dkAcc (iblk m c 0 t) (iblk m c 2 t) (iblk m c 3 t) (iblk m c 4 t) (iblk m c 6 t) (iblk m c 7 t) 16 le_rfl) →
      X (ix3 0 k e) = ∑ i : Fin 8192, G m c (hd t) (ky t k) i * QC m c (ix3 (hd t) i e) := by
    rintro _ rfl
    rw [dk_at]
    exact Finset.sum_congr rfl fun i _ => by rw [gr_eq, blk3]
  by_cases h0 : t.val % 8 = 0
  · rw [outsAt0_A m c t h0]
    dsimp only
    rw [out_A_9]
    exact key _ rfl
  · rw [outsAt0_B m c t h0]
    dsimp only
    rw [out_B_9]
    exact key _ rfl

/-- What a point leaves for the values' gradient. -/
theorem outs10 (t : Fin cfg0.N) (d : Fin 128) (k : Fin 1024) :
    (outsAt0 m c t.val t.isLt).2.2 (ix3 0 d k) = ∑ i : Fin 8192, DOT m c (ix3 (hd t) d i) * W m c (hd t) (ky t k) i := by
  have key : ∀ X : Vec Ideal S1x128x1024 .f32, X = k0_pay3 (dvAcc (iblk m c 0 t) (iblk m c 3 t) (iblk m c 5 t) (iblk m c 6 t) 16 le_rfl) →
      X (ix3 0 d k) = ∑ i : Fin 8192, DOT m c (ix3 (hd t) d i) * W m c (hd t) (ky t k) i := by
    rintro _ rfl
    rw [dv_at]
    exact Finset.sum_congr rfl fun i _ => by rw [wt_eq, blk5]
  by_cases h0 : t.val % 8 = 0
  · rw [outsAt0_A m c t h0]
    dsimp only
    rw [out_A_10]
    exact key _ rfl
  · rw [outsAt0_B m c t h0]
    dsimp only
    rw [out_B_10]
    exact key _ rfl

/-- What a point adds to the queries' gradient. -/
def term (t : Fin cfg0.N) (y : S1x256x8192.Idx) : EReal :=
  ∑ k : Fin 1024, KCT m c (ix3 (hd t) (y 1) (ky t k)) * G m c (hd t) (ky t k) (y 2)

/-- What a point adds to the queries' gradient, at an index. -/
theorem step8 (t : Fin cfg0.N) (w : Vec Ideal S1x256x8192 .f32) (y : S1x256x8192.Idx) :
    dqG (iblk m c 0 t) (iblk m c 1 t) (iblk m c 2 t) (iblk m c 3 t) (iblk m c 4 t) (iblk m c 6 t) (iblk m c 7 t) w y = w y + term m c t y := by
  obtain ⟨e, i, rfl⟩ : ∃ (e : Fin 256) (i : Fin 8192), y = ix3 0 e i :=
    ⟨y 1, y 2, by funext a; fin_cases a; exacts [Subsingleton.elim (α := Fin 1) _ _, rfl, rfl]⟩
  rw [dq_at]
  refine congrArg (_ + ·) (Finset.sum_congr rfl fun k _ => ?_)
  rw [blk1, gr_eq]
  rfl

/-- The queries' gradient after a head's last block of keys. -/
theorem outs8 (t : Fin cfg0.N) (hr : t.val % 8 = 8 - 1) (y : S1x256x8192.Idx) :
    (outsAt0 m c t.val t.isLt).1 y = ∑ s : Fin 8, term m c ⟨8 * (t.val / 8) + s.val, by have := lt64 t; show _ < 64; omega⟩ y := by
  rw [Pipeline.eq_sum_fin_of_reset_step_apply_of_flush (fun n h => (outsAt0 m c n h).1) 8 (fun _ => 0) (term m c)
    (fun t h j => by
      rw [outsAt0_A m c t h]
      dsimp only
      rw [out_A_8]
      rw [step8, Pay.pay4 j])
    (fun t h j => by
      rw [outsAt0_B m c t h]
      dsimp only
      rw [out_B_8]
      rw [step8]) t hr y]
  exact zero_add _

/-- The point of head `h` and key `k`'s block. -/
abbrev pt (h : Fin 8) (k : Fin 8192) : Fin cfg0.N := ⟨8 * h.val + k.val / 1024, by show _ < 64; omega⟩

/-- The keys' gradient. -/
theorem arr9 (h : Fin 8) (k : Fin 8192) (e : Fin 256) :
    ((dats m 0 c).arrAt 9 cfg0.N : Vec Ideal S8x8192x256 .f32) (ix3 h k e) = ∑ i : Fin 8192, G m c h k i * QC m c (ix3 h i e) := by
  have hb := congrFun (Value.blocks9 m c (pt h k) (flush0_9 (pt h k))) (ix3 0 (⟨k.val % 1024, Nat.mod_lt _ (by decide)⟩ : Fin 1024) e)
  rw [Value.flushed9] at hb
  have hh : hd (pt h k) = h := Fin.ext (by show (8 * h.val + k.val / 1024) / 8 = h.val; omega)
  have hk : ky (pt h k) ⟨k.val % 1024, Nat.mod_lt _ (by decide)⟩ = k :=
    Fin.ext (by show (8 * h.val + k.val / 1024) % 8 * 1024 + k.val % 1024 = k.val; omega)
  have ho := outs9 m c (pt h k) ⟨k.val % 1024, Nat.mod_lt _ (by decide)⟩ e
  rw [hh, hk] at ho
  rw [← ho]
  refine Eq.trans ?_ hb
  blk_ext [idx (pt h k)]

/-- The values' gradient, transposed. -/
theorem arr10 (h : Fin 8) (d : Fin 128) (k : Fin 8192) :
    ((dats m 0 c).arrAt 10 cfg0.N : Vec Ideal S8x128x8192 .f32) (ix3 h d k) = ∑ i : Fin 8192, DOT m c (ix3 h d i) * W m c h k i := by
  have hb := congrFun (Value.blocks10 m c (pt h k) (flush0_10 (pt h k))) (ix3 0 d (⟨k.val % 1024, Nat.mod_lt _ (by decide)⟩ : Fin 1024))
  rw [Value.flushed10] at hb
  have hh : hd (pt h k) = h := Fin.ext (by show (8 * h.val + k.val / 1024) / 8 = h.val; omega)
  have hk : ky (pt h k) ⟨k.val % 1024, Nat.mod_lt _ (by decide)⟩ = k :=
    Fin.ext (by show (8 * h.val + k.val / 1024) % 8 * 1024 + k.val % 1024 = k.val; omega)
  have ho := outs10 m c (pt h k) d ⟨k.val % 1024, Nat.mod_lt _ (by decide)⟩
  rw [hh, hk] at ho
  rw [← ho]
  refine Eq.trans ?_ hb
  blk_ext [idx (pt h k)]

/-- Two points that write back the queries' gradient are of different heads. -/
theorem disjoint8 : ∀ t t' : Fin cfg0.N, (cfg0.win 8).flush t = true → (cfg0.win 8).flush t' = true → t ≠ t' →
    Disjoint ((cfg0.win 8).blk t).view.set ((cfg0.win 8).blk t').view.set := by
  intro t t' hf hf' hne
  refine (cfg0.win 8).disjoint_blk fun h => hne (Fin.ext ?_)
  have h1 := (flush0_8 t).mp hf
  have h2 := (flush0_8 t').mp hf'
  have h3 : t.val / 8 = t'.val / 8 := by
    have e : win0_8.index t = win0_8.index t' := h
    rw [(idx t).2.2.2.2.2.2.2.2.1, (idx t').2.2.2.2.2.2.2.2.1] at e
    exact congrFun e 0
  omega

/-- The last point of head `h`. -/
abbrev pl (h : Fin 8) : Fin cfg0.N := ⟨8 * h.val + 7, by show _ < 64; omega⟩

/-- The queries' gradient, transposed. -/
theorem arr8 (h : Fin 8) (e : Fin 256) (i : Fin 8192) :
    ((dats m 0 c).arrAt 8 cfg0.N : Vec Ideal S8x256x8192 .f32) (ix3 h e i) = ∑ k : Fin 8192, KCT m c (ix3 h e k) * G m c h k i := by
  have hr : (pl h).val % 8 = 8 - 1 := by show (8 * h.val + 7) % 8 = 8 - 1; omega
  have hb := congrFun ((dats m 0 c).read_blk_arrAt_eq_flushed 8 disjoint8 cfg0.N (pl h) (pl h).isLt ((flush0_8 (pl h)).mpr hr)) (ix3 0 e i)
  rw [Value.flushed8] at hb
  have ho := outs8 m c (pl h) hr (ix3 0 e i)
  have hs : ∀ s : Fin 8, term m c ⟨8 * ((pl h).val / 8) + s.val, by have := lt64 (pl h); show _ < 64; omega⟩ (ix3 0 e i)
      = ∑ k : Fin 1024, (fun k => KCT m c (ix3 h e k) * G m c h k i) ⟨s.val * 1024 + k.val, by omega⟩ := by
    intro s
    refine Finset.sum_congr rfl fun k _ => ?_
    have hh : hd ⟨8 * ((pl h).val / 8) + s.val, by have := lt64 (pl h); show _ < 64; omega⟩ = h :=
      Fin.ext (by show (8 * ((8 * h.val + 7) / 8) + s.val) / 8 = h.val; omega)
    have hk : ky ⟨8 * ((pl h).val / 8) + s.val, by have := lt64 (pl h); show _ < 64; omega⟩ k = ⟨s.val * 1024 + k.val, by omega⟩ :=
      Fin.ext (by show (8 * ((8 * h.val + 7) / 8) + s.val) % 8 * 1024 + k.val = s.val * 1024 + k.val; omega)
    rw [hh, hk]
    rfl
  rw [Finset.sum_congr rfl fun s _ => hs s, Fin.sum_mul_add_fin 8 1024 (fun k => KCT m c (ix3 h e k) * G m c h k i)] at ho
  rw [← ho]
  refine Eq.trans ?_ hb
  blk_ext [idx (pl h)]

end Cert.KernelIdeal.Kern

end
-- ==== Proof.Ref.lean ====
module

public import proofs.«01_k».proof.Proof.Gen.ReferenceIdeal.Read
public import Idealize.ShloMosaic.Lib.Pointwise
public import Idealize.ShloMosaic.Lib.ValueIdx
public import proofs.«01_k».proof.Proof.RealAttn

@[expose] public section

set_option maxRecDepth 16384

noncomputable section

/-! The reference's stages at an index, for arguments that hold real numbers. -/

namespace Cert.ReferenceIdeal.Ref

open Cert.ReferenceIdeal Cert.ReferenceIdeal.Read Idealize.ShloMosaic Idealize.ShloMosaic.TcCoe Idealize.SL.Sem
open Cert.RealAttn

variable (x0 : (⟨S8192x8x192, .f32⟩ : BufTy).Contents (Elt Ideal)) (x1 : (⟨S8192x8x128, .f32⟩ : BufTy).Contents (Elt Ideal))
  (x2 : (⟨S8192x64, .f32⟩ : BufTy).Contents (Elt Ideal)) (x3 : (⟨S8192x8x128, .f32⟩ : BufTy).Contents (Elt Ideal))
  (x4 : (⟨S8192x1024, .f32⟩ : BufTy).Contents (Elt Ideal))
  (q : Fin 8192 → Fin 8 → Fin 192 → ℝ) (kn : Fin 8192 → Fin 8 → Fin 128 → ℝ) (kr : Fin 8192 → Fin 64 → ℝ)
  (v : Fin 8192 → Fin 8 → Fin 128 → ℝ) (ct : Fin 8192 → Fin 1024 → ℝ)

/-- The arguments hold these reals. -/
structure Holds : Prop where
  h0 : ∀ i h e, x0 (ix3 i h e) = (q i h e : EReal)
  h1 : ∀ k h d, x1 (ix3 k h d) = (kn k h d : EReal)
  h2 : ∀ k r, x2 (ix2 k r) = (kr k r : EReal)
  h3 : ∀ k h d, x3 (ix3 k h d) = (v k h d : EReal)
  h4 : ∀ i n, x4 (ix2 i n) = (ct i n : EReal)

variable {x0 x1 x2 x3 x4 q kn kr v ct} (H : Holds x0 x1 x2 x3 x4 q kn kr v ct)
include H

/-- The scores' first part. -/
theorem v3_at (h : Fin 8) (i k : Fin 8192) : val_main_v3 x0 x1 (ix3 h i k) = ((∑ d : Fin 128, q i h ⟨d.val, by omega⟩ * kn k h d : ℝ) : EReal) := by
  unfold val_main_v3 val_main_v2
  pointwise
  rw [coe_sum]
  exact Finset.sum_congr rfl fun d _ => by rw [H.h0, H.h1, EReal.coe_mul]
/-- The scores' second part. -/
theorem v5_at (h : Fin 8) (i k : Fin 8192) : val_main_v5 x0 x2 (ix3 h i k) = ((∑ r : Fin 64, q i h ⟨128 + r.val, by omega⟩ * kr k r : ℝ) : EReal) := by
  unfold val_main_v5 val_main_v4 val_main_v1 val_main_v0
  pointwise
  rw [coe_sum]
  exact Finset.sum_congr rfl fun d _ => by rw [H.h0, H.h2, EReal.coe_mul]
omit H in
/-- The scale. -/
theorem v7_at (j : S_.Idx) : val_main_v7 (F := Ideal) j = (scale : EReal) := by
  unfold val_main_v7 val_main_cst
  pointwise
  rw [show Ideal.ofBits FTy.f32 1128267776#32 = ((192 : ℝ) : EReal) by simp only [Ideal.ofBits, Ideal.ieee]; simp [← EReal.coe_mul]; norm_num, Ideal.rsqrt_coe,
    if_neg (by norm_num), if_neg (by norm_num), scale]

/-- The scores. -/
theorem v9_at (h : Fin 8) (i k : Fin 8192) : val_main_v9 x0 x1 x2 (ix3 h i k) = (sc q kn kr h i k : EReal) := by
  unfold val_main_v9 val_main_v6 val_main_v8
  pointwise
  rw [v3_at H, v5_at H, v7_at, sc, raw, EReal.coe_mul, EReal.coe_add]

/-- A query's largest score is a real. -/
theorem v10_real (h : Fin 8) (i : Fin 8192) : ∃ r : ℝ, val_main_v10 x0 x1 x2 (ix2 h i) = r := by
  unfold val_main_v10
  pointwise
  simp only [v9_at H]
  rw [show val_main_cst_0 (F := Ideal) (Shape.Idx.first Gen.h_S_) = (⊥ : EReal) by unfold val_main_cst_0; pointwise; simp [Ideal.ofBits, Ideal.ieee]]
  exact fold_max_real _ ⟨0, Finset.mem_univ _⟩ _

omit H in
variable (x0 x1 x2) in
/-- A query's largest score. -/
def mx (h : Fin 8) (i : Fin 8192) : ℝ := (val_main_v10 x0 x1 x2 (ix2 h i)).toReal

/-- The reference's row maximum is a real number. -/
theorem v10_at (h : Fin 8) (i : Fin 8192) : val_main_v10 x0 x1 x2 (ix2 h i) = (mx x0 x1 x2 h i : EReal) := by
  obtain ⟨r, hr⟩ := v10_real H h i
  rw [mx, hr, EReal.toReal_coe]

omit H in
/-- The least value, under every query. -/
theorem v16_at (j : S8x8192.Idx) : val_main_v16 (F := Ideal) j = (⊥ : EReal) := by
  unfold val_main_v16 val_main_cst_2
  pointwise
  simp [Ideal.ofBits, Ideal.ieee]

omit H in
/-- The larger of the least value and another is the other. -/
theorem max_bot_at (a b : (⟨S8x8192, .f32⟩ : BufTy).Contents (Elt Ideal)) (j : S8x8192.Idx) (ha : a j = (⊥ : EReal)) :
    maximumf (F := Ideal) (φ := .f32) a b j = b j :=
  (congrArg (fun t : EReal => max t (b j : EReal)) ha).trans (max_eq_right bot_le)

/-- The largest score again, against the least value. -/
theorem v17_at (h : Fin 8) (i : Fin 8192) : val_main_v17 x0 x1 x2 (ix2 h i) = (mx x0 x1 x2 h i : EReal) := by
  unfold val_main_v17
  rw [max_bot_at _ _ _ (v16_at (ix2 h i))]
  exact v10_at H h i

/-- The exponentials. -/
theorem v30_at (h : Fin 8) (i k : Fin 8192) : val_main_v30 x0 x1 x2 (ix3 h i k) = (ex q kn kr (mx x0 x1 x2) h i k : EReal) := by
  unfold val_main_v30 val_main_v29 val_main_v28 val_main_v27
  pointwise
  rw [v9_at H, v17_at H, ← EReal.coe_sub, Ideal.exp_coe, ex]

/-- A query's sum. -/
theorem v31_at (h : Fin 8) (i : Fin 8192) : val_main_v31 x0 x1 x2 (ix2 h i) = (ls q kn kr (mx x0 x1 x2) h i : EReal) := by
  unfold val_main_v31 val_main_cst_8
  pointwise
  rw [ls, coe_sum]
  exact Finset.sum_congr rfl fun k _ => v30_at H h i k

/-- The softmax weights. -/
theorem v34_at (h : Fin 8) (i k : Fin 8192) : val_main_v34 x0 x1 x2 (ix3 h i k) = (pr q kn kr (mx x0 x1 x2) h i k : EReal) := by
  unfold val_main_v34 val_main_v33 val_main_v32
  pointwise
  rw [v30_at H, v31_at H, Ideal.div_coe (ls_pos _ _ _ _ h i).ne', ← EReal.coe_mul, pr, mul_one_div]

/-- The weights' gradients. -/
theorem v43_at (h : Fin 8) (i k : Fin 8192) : val_main_v43 x3 x4 (ix3 h i k) = (dp v ct h i k : EReal) := by
  unfold val_main_v43 val_main_v42 val_main_v41
  pointwise
  rw [dp, coe_sum]
  exact Finset.sum_congr rfl fun d _ => by rw [H.h3, H.h4, EReal.coe_mul]

end Cert.ReferenceIdeal.Ref

end
-- ==== Proof.Prefix.lean ====
module

public import proofs.«01_k».proof.Proof.Gen.KernelIdeal.Value
public import proofs.«01_k».proof.Proof.Ref

@[expose] public section

set_option maxRecDepth 16384
set_option maxHeartbeats 1600000

noncomputable section

/-! What the kernel's host code computes before the call, at an index, for arguments that hold real numbers. -/

namespace Cert.KernelIdeal.Prefix

open Cert.KernelIdeal Cert.KernelIdeal.Gen Idealize.ShloMosaic Idealize.ShloMosaic.TcCoe Idealize.SL.Sem
open Cert.RealAttn Cert.ReferenceIdeal.Read Cert.ReferenceIdeal.Ref

variable (m : (ℓ : Loc nD τ sig) → Buf (Elt Ideal) ℓ) (c : Dev nD)

/-- The queries. -/
abbrev a0 : (⟨S8192x8x192, .f32⟩ : BufTy).Contents (Elt Ideal) := m ((c.tc : Thread nD τ).loc main_arg0)
/-- The keys' part without position. -/
abbrev a1 : (⟨S8192x8x128, .f32⟩ : BufTy).Contents (Elt Ideal) := m ((c.tc : Thread nD τ).loc main_arg1)
/-- The keys' part with position. -/
abbrev a2 : (⟨S8192x64, .f32⟩ : BufTy).Contents (Elt Ideal) := m ((c.tc : Thread nD τ).loc main_arg2)
/-- The values. -/
abbrev a3 : (⟨S8192x8x128, .f32⟩ : BufTy).Contents (Elt Ideal) := m ((c.tc : Thread nD τ).loc main_arg3)
/-- The output's gradient. -/
abbrev a4 : (⟨S8192x1024, .f32⟩ : BufTy).Contents (Elt Ideal) := m ((c.tc : Thread nD τ).loc main_arg4)

/-- The exponentials of the scores less the largest. -/
def h14 (x0 : (⟨S8192x8x192, .f32⟩ : BufTy).Contents (Elt Ideal)) (x1 : (⟨S8192x8x128, .f32⟩ : BufTy).Contents (Elt Ideal)) (x2 : (⟨S8192x64, .f32⟩ : BufTy).Contents (Elt Ideal)) : (⟨S8x8192x8192, .f32⟩ : BufTy).Contents (Elt Ideal) :=
  Host.exp (subf (val_main_v9 x0 x1 x2)
    (broadcastInDim S8x8192x8192 ![0, 1, 2] bcast_S8x8192x1_S8x8192x8192_0_1_2
      (broadcastInDim S8x8192x1 ![0, 1] bcast_S8x8192_S8x8192x1_0_1 (val_main_v10 x0 x1 x2))))

/-- A query's sum. -/
def h15 (x0 : (⟨S8192x8x192, .f32⟩ : BufTy).Contents (Elt Ideal)) (x1 : (⟨S8192x8x128, .f32⟩ : BufTy).Contents (Elt Ideal)) (x2 : (⟨S8192x64, .f32⟩ : BufTy).Contents (Elt Ideal)) : (⟨S8x8192, .f32⟩ : BufTy).Contents (Elt Ideal) :=
  Host.reduceAdd (h14 x0 x1 x2) (constant (F := Ideal) S_ .f32 0x00000000#32) reducesTo_S8x8192x8192_S8x8192_d2 h_S_

/-- A query's sum, in a column. -/
def h16 (x0 : (⟨S8192x8x192, .f32⟩ : BufTy).Contents (Elt Ideal)) (x1 : (⟨S8192x8x128, .f32⟩ : BufTy).Contents (Elt Ideal)) (x2 : (⟨S8192x64, .f32⟩ : BufTy).Contents (Elt Ideal)) : (⟨S8x8192x1, .f32⟩ : BufTy).Contents (Elt Ideal) :=
  broadcastInDim S8x8192x1 ![0, 1] bcast_S8x8192_S8x8192x1_0_1 (h15 x0 x1 x2)

/-- The softmax weights. -/
def h18 (x0 : (⟨S8192x8x192, .f32⟩ : BufTy).Contents (Elt Ideal)) (x1 : (⟨S8192x8x128, .f32⟩ : BufTy).Contents (Elt Ideal)) (x2 : (⟨S8192x64, .f32⟩ : BufTy).Contents (Elt Ideal)) : (⟨S8x8192x8192, .f32⟩ : BufTy).Contents (Elt Ideal) :=
  Host.divf (F := Ideal) (φ := .f32) (h14 x0 x1 x2) (broadcastInDim S8x8192x8192 ![0, 1, 2] bcast_S8x8192x1_S8x8192x8192_0_1_2 (h16 x0 x1 x2))

/-- The output, transposed. -/
def h19 (x0 : (⟨S8192x8x192, .f32⟩ : BufTy).Contents (Elt Ideal)) (x1 : (⟨S8192x8x128, .f32⟩ : BufTy).Contents (Elt Ideal)) (x2 : (⟨S8192x64, .f32⟩ : BufTy).Contents (Elt Ideal)) (x3 : (⟨S8192x8x128, .f32⟩ : BufTy).Contents (Elt Ideal)) : (⟨S8x128x8192, .f32⟩ : BufTy).Contents (Elt Ideal) :=
  Host.dotGeneral (F := Ideal) (φ₁ := .f32) (φ₂ := .f32) dot_S8192x8x128_S8x8192x8192_S8x128x8192_0_2_2_1_1_0 none x3 (h18 x0 x1 x2)

/-- The output, heads side by side. -/
def h21 (x0 : (⟨S8192x8x192, .f32⟩ : BufTy).Contents (Elt Ideal)) (x1 : (⟨S8192x8x128, .f32⟩ : BufTy).Contents (Elt Ideal)) (x2 : (⟨S8192x64, .f32⟩ : BufTy).Contents (Elt Ideal)) (x3 : (⟨S8192x8x128, .f32⟩ : BufTy).Contents (Elt Ideal)) : (⟨S8192x1024, .f32⟩ : BufTy).Contents (Elt Ideal) :=
  shapeCast S8192x1024 (transpose S8192x8x128 [2, 0, 1] (h19 x0 x1 x2 x3) transposes_S8x128x8192_S8192x8x128_2_0_1) shapeCasts_S8192x8x128_S8192x1024

/-- The logarithm of a query's sum, to base 2. -/
def h26 (x0 : (⟨S8192x8x192, .f32⟩ : BufTy).Contents (Elt Ideal)) (x1 : (⟨S8192x8x128, .f32⟩ : BufTy).Contents (Elt Ideal)) (x2 : (⟨S8192x64, .f32⟩ : BufTy).Contents (Elt Ideal)) : (⟨S8x8192x1, .f32⟩ : BufTy).Contents (Elt Ideal) :=
  Host.divf (addf (broadcastInDim S8x8192x1 ![0, 1] bcast_S8x8192_S8x8192x1_0_1 (val_main_v10 x0 x1 x2)) (Host.log (h16 x0 x1 x2)))
    (broadcastInDim S8x8192x1 ![] bcast_S_S8x8192x1 (Host.log (constant (F := Ideal) S_ .f32 0x40000000#32)))

/-- The logarithms, in a row. -/
def h47 (x0 : (⟨S8192x8x192, .f32⟩ : BufTy).Contents (Elt Ideal)) (x1 : (⟨S8192x8x128, .f32⟩ : BufTy).Contents (Elt Ideal)) (x2 : (⟨S8192x64, .f32⟩ : BufTy).Contents (Elt Ideal)) : (⟨S8x1x8192, .f32⟩ : BufTy).Contents (Elt Ideal) :=
  shapeCast S8x1x8192 (h26 x0 x1 x2) shapeCasts_S8x8192x1_S8x1x8192

/-- The output's product with its gradient, summed over a head's features. -/
def h29 (x0 : (⟨S8192x8x192, .f32⟩ : BufTy).Contents (Elt Ideal)) (x1 : (⟨S8192x8x128, .f32⟩ : BufTy).Contents (Elt Ideal)) (x2 : (⟨S8192x64, .f32⟩ : BufTy).Contents (Elt Ideal)) (x3 : (⟨S8192x8x128, .f32⟩ : BufTy).Contents (Elt Ideal)) (x4 : (⟨S8192x1024, .f32⟩ : BufTy).Contents (Elt Ideal)) : (⟨S8192x8, .f32⟩ : BufTy).Contents (Elt Ideal) :=
  Host.reduceAdd (shapeCast S8192x8x128 (mulf x4 (h21 x0 x1 x2 x3)) shapeCasts_S8192x1024_S8192x8x128) (constant (F := Ideal) S_ .f32 0x00000000#32) reducesTo_S8192x8x128_S8192x8_d2 h_S_

/-- Those sums, in a row. -/
def h49 (x0 : (⟨S8192x8x192, .f32⟩ : BufTy).Contents (Elt Ideal)) (x1 : (⟨S8192x8x128, .f32⟩ : BufTy).Contents (Elt Ideal)) (x2 : (⟨S8192x64, .f32⟩ : BufTy).Contents (Elt Ideal)) (x3 : (⟨S8192x8x128, .f32⟩ : BufTy).Contents (Elt Ideal)) (x4 : (⟨S8192x1024, .f32⟩ : BufTy).Contents (Elt Ideal)) : (⟨S8x1x8192, .f32⟩ : BufTy).Contents (Elt Ideal) :=
  shapeCast S8x1x8192 (transpose S8x8192 [1, 0] (h29 x0 x1 x2 x3 x4) transposes_S8192x8_S8x8192_1_0) shapeCasts_S8x8192_S8x1x8192

/-- The queries in 256 lanes. -/
def h33 (x0 : (⟨S8192x8x192, .f32⟩ : BufTy).Contents (Elt Ideal)) : (⟨S8x8192x256, .bf16⟩ : BufTy).Contents (Elt Ideal) :=
  transpose S8x8192x256 [1, 0, 2] (concatenate S8192x8x256 2 [⟨S8192x8x192, truncf (F := Ideal) .bf16 x0 bitsLt_bf16_f32⟩, ⟨S8192x8x64, broadcastInDim S8192x8x64 ![] bcast_S_S8192x8x64 (constant (F := Ideal) S_ .bf16 0x0000#16)⟩]
    concatenates_S8192x8x192_S8192x8x64_S8192x8x256_d2) transposes_S8192x8x256_S8x8192x256_1_0_2

/-- The keys in 256 lanes. -/
def h36 (x1 : (⟨S8192x8x128, .f32⟩ : BufTy).Contents (Elt Ideal)) (x2 : (⟨S8192x64, .f32⟩ : BufTy).Contents (Elt Ideal)) : (⟨S8192x8x256, .bf16⟩ : BufTy).Contents (Elt Ideal) :=
  concatenate S8192x8x256 2 [⟨S8192x8x128, truncf (F := Ideal) .bf16 x1 bitsLt_bf16_f32⟩,
    ⟨S8192x8x64, truncf (F := Ideal) .bf16 (broadcastInDim S8192x8x64 ![0, 1, 2] bcast_S8192x1x64_S8192x8x64_0_1_2 (broadcastInDim S8192x1x64 ![0, 2] bcast_S8192x64_S8192x1x64_0_2 x2)) bitsLt_bf16_f32⟩,
    ⟨S8192x8x64, broadcastInDim S8192x8x64 ![] bcast_S_S8192x8x64 (constant (F := Ideal) S_ .bf16 0x0000#16)⟩]
    concatenates_S8192x8x128_S8192x8x64_S8192x8x64_S8192x8x256_d2

/-- The keys, heads first. -/
def h45 (x1 : (⟨S8192x8x128, .f32⟩ : BufTy).Contents (Elt Ideal)) (x2 : (⟨S8192x64, .f32⟩ : BufTy).Contents (Elt Ideal)) : (⟨S8x8192x256, .bf16⟩ : BufTy).Contents (Elt Ideal) :=
  transpose S8x8192x256 [1, 0, 2] (h36 x1 x2) transposes_S8192x8x256_S8x8192x256_1_0_2

/-- The keys, transposed. -/
def h46 (x1 : (⟨S8192x8x128, .f32⟩ : BufTy).Contents (Elt Ideal)) (x2 : (⟨S8192x64, .f32⟩ : BufTy).Contents (Elt Ideal)) : (⟨S8x256x8192, .bf16⟩ : BufTy).Contents (Elt Ideal) :=
  transpose S8x256x8192 [1, 2, 0] (h36 x1 x2) transposes_S8192x8x256_S8x256x8192_1_2_0

/-- The values beside ones. -/
def h40 (x3 : (⟨S8192x8x128, .f32⟩ : BufTy).Contents (Elt Ideal)) : (⟨S8x8192x256, .bf16⟩ : BufTy).Contents (Elt Ideal) :=
  transpose S8x8192x256 [1, 0, 2] (concatenate S8192x8x256 2 [⟨S8192x8x128, truncf (F := Ideal) .bf16 x3 bitsLt_bf16_f32⟩,
    ⟨S8192x8x128, broadcastInDim S8192x8x128 ![] bcast_S_S8192x8x128 (constant (F := Ideal) S_ .bf16 0x3F80#16)⟩]
    concatenates_S8192x8x128_S8192x8x128_S8192x8x256_d2) transposes_S8192x8x256_S8x8192x256_1_0_2

/-- The output's gradient. -/
def h41 (x4 : (⟨S8192x1024, .f32⟩ : BufTy).Contents (Elt Ideal)) : (⟨S8192x1024, .bf16⟩ : BufTy).Contents (Elt Ideal) :=
  truncf (F := Ideal) .bf16 x4 bitsLt_bf16_f32

/-- The output's gradient, transposed. -/
def h44 (x4 : (⟨S8192x1024, .f32⟩ : BufTy).Contents (Elt Ideal)) : (⟨S8x128x8192, .bf16⟩ : BufTy).Contents (Elt Ideal) :=
  truncf (F := Ideal) .bf16 (transpose S8x128x8192 [1, 2, 0] (shapeCast S8192x8x128 x4 shapeCasts_S8192x1024_S8192x8x128) transposes_S8192x8x128_S8x128x8192_1_2_0) bitsLt_bf16_f32

/-- What the array that goes into the call holds after the host's lines. -/
theorem V47 : V m c main_v47 = h47 (a0 m c) (a1 m c) (a2 m c) := by
  show StableHlo.after hostOps0 _ main_v47 = _
  after_results_simp <;> rfl

/-- What the array that goes into the call holds after the host's lines. -/
theorem V49 : V m c main_v49 = h49 (a0 m c) (a1 m c) (a2 m c) (a3 m c) (a4 m c) := by
  show StableHlo.after hostOps0 _ main_v49 = _
  after_results_simp <;> rfl

/-- What the array that goes into the call holds after the host's lines. -/
theorem V33 : V m c main_v33 = h33 (a0 m c) := by
  show StableHlo.after hostOps0 _ main_v33 = _
  after_results
  rfl

/-- What the array that goes into the call holds after the host's lines. -/
theorem V45 : V m c main_v45 = h45 (a1 m c) (a2 m c) := by
  show StableHlo.after hostOps0 _ main_v45 = _
  after_results_simp
  dsimp only [Matrix.cons_val]
  rfl

/-- What the array that goes into the call holds after the host's lines. -/
theorem V46 : V m c main_v46 = h46 (a1 m c) (a2 m c) := by
  show StableHlo.after hostOps0 _ main_v46 = _
  after_results_simp
  dsimp only [Matrix.cons_val]
  rfl

/-- What the array that goes into the call holds after the host's lines. -/
theorem V40 : V m c main_v40 = h40 (a3 m c) := by
  show StableHlo.after hostOps0 _ main_v40 = _
  after_results
  rfl

/-- What the array that goes into the call holds after the host's lines. -/
theorem V41 : V m c main_v41 = h41 (a4 m c) := by
  show StableHlo.after hostOps0 _ main_v41 = _
  after_results_simp <;> rfl

/-- What the array that goes into the call holds after the host's lines. -/
theorem V44 : V m c main_v44 = h44 (a4 m c) := by
  show StableHlo.after hostOps0 _ main_v44 = _
  after_results_simp <;> rfl

end Cert.KernelIdeal.Prefix

end
-- ==== Proof.Prefix2.lean ====
module

public import proofs.«01_k».proof.Proof.Prefix
public import Idealize.ShloMosaic.Lib.Pointwise

@[expose] public section

set_option maxRecDepth 16384
set_option maxHeartbeats 800000

noncomputable section

/-! The host code's arrays at an index, for arguments that hold real numbers. -/

namespace Cert.KernelIdeal.Prefix

open Cert.KernelIdeal Cert.KernelIdeal.Gen Idealize.ShloMosaic Idealize.ShloMosaic.TcCoe Idealize.SL.Sem
open Cert.RealAttn Cert.ReferenceIdeal.Read Cert.ReferenceIdeal.Ref

variable {x0 : (⟨S8192x8x192, .f32⟩ : BufTy).Contents (Elt Ideal)} {x1 : (⟨S8192x8x128, .f32⟩ : BufTy).Contents (Elt Ideal)}
  {x2 : (⟨S8192x64, .f32⟩ : BufTy).Contents (Elt Ideal)} {x3 : (⟨S8192x8x128, .f32⟩ : BufTy).Contents (Elt Ideal)}
  {x4 : (⟨S8192x1024, .f32⟩ : BufTy).Contents (Elt Ideal)}
  {q : Fin 8192 → Fin 8 → Fin 192 → ℝ} {kn : Fin 8192 → Fin 8 → Fin 128 → ℝ} {kr : Fin 8192 → Fin 64 → ℝ}
  {v : Fin 8192 → Fin 8 → Fin 128 → ℝ} {ct : Fin 8192 → Fin 1024 → ℝ}
variable (H : Holds x0 x1 x2 x3 x4 q kn kr v ct)
include H

/-- The exponentials. -/
theorem h14_at (h : Fin 8) (i k : Fin 8192) : h14 x0 x1 x2 (ix3 h i k) = (ex q kn kr (mx x0 x1 x2) h i k : EReal) := by
  unfold h14
  pointwise
  rw [v9_at H, v10_at H, ← EReal.coe_sub, Ideal.exp_coe, ex]

/-- A query's sum. -/
theorem h15_at (h : Fin 8) (i : Fin 8192) : h15 x0 x1 x2 (ix2 h i) = (ls q kn kr (mx x0 x1 x2) h i : EReal) := by
  unfold h15
  pointwise
  rw [ls, coe_sum]
  exact Finset.sum_congr rfl fun k _ => h14_at H h i k

/-- The softmax weights. -/
theorem h18_at (h : Fin 8) (i k : Fin 8192) : h18 x0 x1 x2 (ix3 h i k) = (pr q kn kr (mx x0 x1 x2) h i k : EReal) := by
  unfold h18 h16
  pointwise
  rw [h14_at H, h15_at H, Ideal.div_coe (ls_pos _ _ _ _ h i).ne', ← EReal.coe_mul, pr, mul_one_div]

/-- The output. -/
theorem h19_at (h : Fin 8) (d : Fin 128) (i : Fin 8192) : h19 x0 x1 x2 x3 (ix3 h d i) = (out q kn kr v (mx x0 x1 x2) h i d : EReal) := by
  unfold h19
  pointwise
  rw [out, coe_sum]
  exact Finset.sum_congr rfl fun k _ => by rw [H.h3, h18_at H, EReal.coe_mul]

/-- The output's product with its gradient, summed over a head's features. -/
theorem h49_at (h : Fin 8) (i : Fin 8192) : h49 x0 x1 x2 x3 x4 (ix3 h 0 i) = (dl q kn kr v ct (mx x0 x1 x2) h i : EReal) := by
  unfold h49 h29 h21
  pointwise
  rw [dl, coe_sum]
  exact Finset.sum_congr rfl fun d _ => by rw [H.h4, h19_at H, EReal.coe_mul]

omit H in
/-- A sum of an array and another's logarithm, over the logarithm of two, at an index. -/
theorem base_two_at (a b : (⟨S8x8192, .f32⟩ : BufTy).Contents (Elt Ideal)) (h : Fin 8) (i : Fin 8192) :
    (shapeCast S8x1x8192 (Host.divf (F := Ideal) (φ := .f32) (addf (F := Ideal) (φ := .f32) (broadcastInDim S8x8192x1 ![0, 1] bcast_S8x8192_S8x8192x1_0_1 a)
        (Host.log (F := Ideal) (φ := .f32) (broadcastInDim S8x8192x1 ![0, 1] bcast_S8x8192_S8x8192x1_0_1 b)))
      (broadcastInDim S8x8192x1 ![] bcast_S_S8x8192x1 (Host.log (constant (F := Ideal) S_ .f32 0x40000000#32)))) shapeCasts_S8x8192x1_S8x1x8192
        : (⟨S8x1x8192, .f32⟩ : BufTy).Contents (Elt Ideal)) (ix3 h 0 i)
      = Ideal.div ((a (ix2 h i) : EReal) + Ideal.log (b (ix2 h i))) (Ideal.log (Ideal.ofBits FTy.f32 1073741824#32)) := by
  pointwise

/-- The logarithm of a query's sum. -/
theorem h47_at (h : Fin 8) (i : Fin 8192) :
    h47 x0 x1 x2 (ix3 h 0 i) = (((mx x0 x1 x2 h i + Real.log (ls q kn kr (mx x0 x1 x2) h i)) * (1 / Real.log 2) : ℝ) : EReal) := by
  have hl := ls_pos q kn kr (mx x0 x1 x2) h i
  have h2 : Ideal.log (Ideal.ofBits FTy.f32 1073741824#32) = ((Real.log 2 : ℝ) : EReal) := by
    rw [show Ideal.ofBits FTy.f32 1073741824#32 = ((2 : ℝ) : EReal) by
      simp only [Ideal.ofBits, Ideal.ieee]; simp [← EReal.coe_mul]; norm_num, Ideal.log_coe, if_neg (by norm_num)]
  refine (base_two_at (val_main_v10 x0 x1 x2) (h15 x0 x1 x2) h i).trans ?_
  rw [h2, v10_at H, h15_at H, Ideal.log_coe, if_neg (not_le.2 hl), ← EReal.coe_add, Ideal.div_coe (Real.log_pos (by norm_num)).ne', ← EReal.coe_mul]

/-- The queries. -/
theorem h33_at (h : Fin 8) (i : Fin 8192) (e : Fin 256) : h33 x0 (ix3 h i e) = (qc q h i e : EReal) := by
  unfold h33
  pointwise
  rw [qc]
  by_cases h1 : e.val < 192
  · rw [dif_pos h1, dif_pos h1]; exact H.h0 i h _
  · rw [dif_neg h1, dif_neg h1]; exact EReal.coe_zero.symm

/-- The keys. -/
theorem h36_at (h : Fin 8) (k : Fin 8192) (e : Fin 256) : h36 x1 x2 (ix3 k h e) = (kc kn kr h k e : EReal) := by
  unfold h36
  pointwise
  rw [kc]
  by_cases h1 : e.val < 128
  · rw [dif_pos h1, dif_pos h1]; exact H.h1 k h _
  · rw [dif_neg h1, dif_neg h1]
    by_cases h2 : e.val - 128 < 64
    · rw [dif_pos h2, dif_pos (by omega)]; exact H.h2 k _
    · rw [dif_neg h2, dif_neg (by omega)]; exact EReal.coe_zero.symm

/-- The keys, heads first. -/
theorem h45_at (h : Fin 8) (k : Fin 8192) (e : Fin 256) : h45 x1 x2 (ix3 h k e) = (kc kn kr h k e : EReal) := by
  unfold h45
  pointwise
  exact h36_at H h k e

/-- The keys, transposed. -/
theorem h46_at (h : Fin 8) (k : Fin 8192) (e : Fin 256) : h46 x1 x2 (ix3 h e k) = (kc kn kr h k e : EReal) := by
  unfold h46
  pointwise
  exact h36_at H h k e

/-- The values. -/
theorem h40_at (h : Fin 8) (k : Fin 8192) (d : Fin 128) : h40 x3 (ix3 h k ⟨d.val, by omega⟩) = (v k h d : EReal) := by
  unfold h40
  pointwise
  exact H.h3 k h d

/-- The output's gradient. -/
theorem h41_at (i : Fin 8192) (n : Fin 1024) : h41 x4 (ix2 i n) = (ct i n : EReal) := by
  unfold h41
  pointwise
  exact H.h4 i n

/-- The output's gradient, transposed. -/
theorem h44_at (h : Fin 8) (d : Fin 128) (i : Fin 8192) : h44 x4 (ix3 h d i) = (ct i (col h d) : EReal) := by
  unfold h44
  pointwise
  exact H.h4 i _

end Cert.KernelIdeal.Prefix

end
-- ==== Proof.Ref2.lean ====
module

public import proofs.«01_k».proof.Proof.Gen.ReferenceIdeal.Read
public import Idealize.ShloMosaic.Lib.Pointwise
public import Idealize.ShloMosaic.Lib.ValueIdx
public import proofs.«01_k».proof.Proof.RealAttn
public import proofs.«01_k».proof.Proof.Ref

@[expose] public section

set_option maxRecDepth 16384

noncomputable section

/-! The reference's stages that follow the weights', at an index. -/

namespace Cert.ReferenceIdeal.Ref

open Cert.ReferenceIdeal Cert.ReferenceIdeal.Read Idealize.ShloMosaic Idealize.ShloMosaic.TcCoe Idealize.SL.Sem
open Cert.RealAttn

variable {x0 : (⟨S8192x8x192, .f32⟩ : BufTy).Contents (Elt Ideal)} {x1 : (⟨S8192x8x128, .f32⟩ : BufTy).Contents (Elt Ideal)}
  {x2 : (⟨S8192x64, .f32⟩ : BufTy).Contents (Elt Ideal)} {x3 : (⟨S8192x8x128, .f32⟩ : BufTy).Contents (Elt Ideal)}
  {x4 : (⟨S8192x1024, .f32⟩ : BufTy).Contents (Elt Ideal)}
  {q : Fin 8192 → Fin 8 → Fin 192 → ℝ} {kn : Fin 8192 → Fin 8 → Fin 128 → ℝ} {kr : Fin 8192 → Fin 64 → ℝ}
  {v : Fin 8192 → Fin 8 → Fin 128 → ℝ} {ct : Fin 8192 → Fin 1024 → ℝ}

variable (H : Holds x0 x1 x2 x3 x4 q kn kr v ct)
include H

/-- What the quotient's denominator sends back. -/
theorem v54_at (h : Fin 8) (i : Fin 8192) : val_main_v54 x0 x1 x2 x3 x4 (ix2 h i)
    = ((-∑ k, dp v ct h i k * (1 * (1 / (ls q kn kr (mx x0 x1 x2) h i * ls q kn kr (mx x0 x1 x2) h i))) * ex q kn kr (mx x0 x1 x2) h i k : ℝ) : EReal) := by
  unfold val_main_v54 val_main_v51 val_main_v50 val_main_v49 val_main_v48 val_main_v47 val_main_v46 val_main_v37 val_main_v36 val_main_v35 val_main_v32
    val_main_cst_9 val_main_cst_10 val_main_cst_11
  pointwise
  have hl := (ls_pos q kn kr (mx x0 x1 x2) h i).ne'
  rw [Fin.sum_univ_one, EReal.coe_neg, coe_sum]
  refine congrArg Neg.neg (Finset.sum_congr rfl fun k _ => ?_)
  rw [v43_at H, v30_at H, v31_at H, ← EReal.coe_mul, Ideal.div_coe (mul_ne_zero hl hl), ← EReal.coe_one, ← EReal.coe_mul, ← EReal.coe_mul, ← EReal.coe_mul, one_mul]

/-- The scores' gradients. -/
theorem v59_at (h : Fin 8) (i k : Fin 8192) : val_main_v59 x0 x1 x2 x3 x4 (ix3 h i k) = (ds q kn kr v ct (mx x0 x1 x2) h i k : EReal) := by
  unfold val_main_v59 val_main_v58 val_main_v57 val_main_v56 val_main_v55 val_main_v53 val_main_v52 val_main_v32
  pointwise
  rw [v43_at H, v54_at H, v30_at H, v31_at H, v7_at, Ideal.div_coe (ls_pos _ _ _ _ h i).ne', ← ds_eq]
  simp only [EReal.coe_mul, EReal.coe_add]

/-- The values' gradient, transposed. -/
theorem v77_at (h : Fin 8) (d : Fin 128) (k : Fin 8192) :
    val_main_v77 x0 x1 x2 x4 (ix3 h d k) = ((∑ i, ct i (col h d) * pr q kn kr (mx x0 x1 x2) h i k : ℝ) : EReal) := by
  unfold val_main_v77 val_main_v45 val_main_v44 val_main_v42 val_main_v41
  pointwise
  rw [coe_sum]
  exact Finset.sum_congr rfl fun d _ => by rw [H.h4, v34_at H, EReal.coe_mul]

/-- The keys' gradient. -/
theorem v76_at (h : Fin 8) (k : Fin 8192) (e : Fin 256) :
    val_main_v76 x0 x1 x2 x3 x4 (ix3 h k e) = ((∑ i, ds q kn kr v ct (mx x0 x1 x2) h i k * qc q h i e : ℝ) : EReal) := by
  unfold val_main_v76 val_main_v75 val_main_v74 val_main_v66 val_main_v65 val_main_v61 val_main_v60 val_main_v4 val_main_v2 val_main_cst_15
  pointwise
  rw [coe_sum]
  by_cases h1 : e.val < 128
  · rw [dif_pos h1]
    exact Finset.sum_congr rfl fun i _ => by rw [v59_at H, H.h0, qc, dif_pos (by omega), EReal.coe_mul]
  · rw [dif_neg h1]
    by_cases h2 : e.val - 128 < 64
    · rw [dif_pos h2]
      exact Finset.sum_congr rfl fun i _ => by
        rw [v59_at H, H.h0, qc, dif_pos (by omega), EReal.coe_mul]
        simp only [show 128 + (e.val - 128) = e.val by omega]
    · rw [dif_neg h2]
      exact (Finset.sum_eq_zero fun i _ => by rw [qc, dif_neg (by omega), mul_zero, EReal.coe_zero]).symm

/-- The queries' gradient. -/
theorem v70_at (i : Fin 8192) (h : Fin 8) (e : Fin 192) :
    val_main_v70 x0 x1 x2 x3 x4 (ix3 i h e) = ((∑ k, kc kn kr h k ⟨e.val, by omega⟩ * ds q kn kr v ct (mx x0 x1 x2) h i k : ℝ) : EReal) := by
  unfold val_main_v70 val_main_v69 val_main_v68 val_main_v67 val_main_v64 val_main_v63 val_main_v62 val_main_v1 val_main_v0
    val_main_cst_12 val_main_cst_13
  pointwise
  by_cases h2 : e.val < 128
  · rw [dif_pos h2, dif_neg (by omega), zero_add, coe_sum]
    exact Finset.sum_congr rfl fun k _ => by rw [v59_at H, H.h1, ← EReal.coe_mul, kc, dif_pos h2, mul_comm]
  · rw [dif_neg h2, dif_pos (by omega), add_zero, coe_sum]
    exact Finset.sum_congr rfl fun k _ => by rw [v59_at H, H.h2, ← EReal.coe_mul, kc, dif_neg h2, dif_pos (show e.val < 192 from e.isLt), mul_comm]

/-- The queries' gradient, transposed. -/
theorem v73_at (h : Fin 8) (e : Fin 256) (i : Fin 8192) :
    val_main_v73 x0 x1 x2 x3 x4 (ix3 h e i) = ((∑ k, kc kn kr h k e * ds q kn kr v ct (mx x0 x1 x2) h i k : ℝ) : EReal) := by
  unfold val_main_v73 val_main_v72 val_main_v71 val_main_cst_14
  pointwise
  by_cases h1 : e.val < 192
  · refine (dif_pos h1).trans (v70_at H i h ⟨e.val, h1⟩)
  · refine (dif_neg h1).trans ?_
    rw [coe_sum]
    exact (Finset.sum_eq_zero fun k _ => by rw [kc, dif_neg (by omega), dif_neg (by omega), zero_mul, EReal.coe_zero]).symm

end Cert.ReferenceIdeal.Ref

end
-- ==== Proof.Values.lean ====
module

public import proofs.«01_k».proof.Proof.Kern
public import proofs.«01_k».proof.Proof.Prefix2
public import proofs.«01_k».proof.Proof.Ref2

@[expose] public section

set_option maxRecDepth 16384

noncomputable section

/-! The kernel's result arrays are the reference's, for arguments that hold real numbers. -/

namespace Cert.KernelIdeal.Values

open Cert.KernelIdeal Cert.KernelIdeal.Gen Cert.KernelIdeal.Kern Cert.KernelIdeal.Prefix Idealize.ShloMosaic Idealize.ShloMosaic.TcCoe Idealize.SL.Sem
open Cert.RealAttn Cert.ReferenceIdeal.Read Cert.ReferenceIdeal.Ref

variable (m : (ℓ : Loc nD τ sig) → Buf (Elt Ideal) ℓ) (c : Dev nD)
variable {q : Fin 8192 → Fin 8 → Fin 192 → ℝ} {kn : Fin 8192 → Fin 8 → Fin 128 → ℝ} {kr : Fin 8192 → Fin 64 → ℝ}
  {v : Fin 8192 → Fin 8 → Fin 128 → ℝ} {ct : Fin 8192 → Fin 1024 → ℝ}
variable (H : Holds (a0 m c) (a1 m c) (a2 m c) (a3 m c) (a4 m c) q kn kr v ct)

/-- The largest scores. -/
abbrev big (h : Fin 8) (i : Fin 8192) : ℝ := mx (a0 m c) (a1 m c) (a2 m c) h i

include H

/-- What the array that goes into the call holds at an index, over the reals. -/
theorem KC_at (h : Fin 8) (k : Fin 8192) (e : Fin 256) : KC m c (ix3 h k e) = (kc kn kr h k e : EReal) := by
  rw [KC, V45]; exact h45_at H h k e
/-- What the array that goes into the call holds at an index, over the reals. -/
theorem KCT_at (h : Fin 8) (k : Fin 8192) (e : Fin 256) : KCT m c (ix3 h e k) = (kc kn kr h k e : EReal) := by
  rw [KCT, V46]; exact h46_at H h k e
/-- What the array that goes into the call holds at an index, over the reals. -/
theorem QC_at (h : Fin 8) (i : Fin 8192) (e : Fin 256) : QC m c (ix3 h i e) = (qc q h i e : EReal) := by
  rw [QC, V33]; exact h33_at H h i e
/-- What the array that goes into the call holds at an index, over the reals. -/
theorem VB_at (h : Fin 8) (k : Fin 8192) (d : Fin 128) : VB m c (ix3 h k ⟨d.val, by omega⟩) = (v k h d : EReal) := by
  rw [VB, V40]; exact h40_at H h k d
/-- What the array that goes into the call holds at an index, over the reals. -/
theorem DOB_at (i : Fin 8192) (n : Fin 1024) : DOB m c (ix2 i n) = (ct i n : EReal) := by
  rw [DOB, V41]; exact h41_at H i n
/-- What the array that goes into the call holds at an index, over the reals. -/
theorem DOT_at (h : Fin 8) (d : Fin 128) (i : Fin 8192) : DOT m c (ix3 h d i) = (ct i (col h d) : EReal) := by
  rw [DOT, V44]; exact h44_at H h d i
/-- What the array that goes into the call holds at an index, over the reals. -/
theorem LSE_at (h : Fin 8) (i : Fin 8192) :
    LSE m c (ix3 h 0 i) = (((big m c h i + Real.log (ls q kn kr (big m c) h i)) * (1 / Real.log 2) : ℝ) : EReal) := by
  rw [LSE, V47]; exact h47_at H h i
/-- What the array that goes into the call holds at an index, over the reals. -/
theorem DEL_at (h : Fin 8) (i : Fin 8192) : DEL m c (ix3 h 0 i) = (dl q kn kr v ct (big m c) h i : EReal) := by
  rw [DEL, V49]; exact h49_at H h i

/-- The kernel's weight is the softmax's. -/
theorem W_at (h : Fin 8) (k i : Fin 8192) : W m c h k i = (pr q kn kr (big m c) h i k : EReal) := by
  have hs : (∑ e : Fin 256, KC m c (ix3 h k e) * QC m c (ix3 h i e)) = ((raw q kn kr h i k : ℝ) : EReal) := by
    rw [← sum_kc_qc, coe_sum]
    exact Finset.sum_congr rfl fun e _ => by rw [KC_at m c H, QC_at m c H, EReal.coe_mul]
  rw [W, hs, LSE_at m c H, ← EReal.coe_mul, ← EReal.coe_sub, Ideal.exp2_coe, rpow_eq_pr]

/-- The kernel's gradient of a score, before the scale, is the softmax's. -/
theorem G_at (h : Fin 8) (k i : Fin 8192) : G m c h k i = (ds q kn kr v ct (big m c) h i k : EReal) := by
  have hs : (∑ d : Fin 128, VB m c (ix3 h k ⟨d.val, by omega⟩) * DOB m c (ix2 i (col h d))) = ((dp v ct h i k : ℝ) : EReal) := by
    rw [dp, coe_sum]
    exact Finset.sum_congr rfl fun d _ => by rw [VB_at m c H, DOB_at m c H, ← EReal.coe_mul, mul_comm]
  rw [G, hs, W_at m c H, DEL_at m c H, ← EReal.coe_sub, ← EReal.coe_mul, ← EReal.coe_mul, ds]

/-- The queries' gradient is the reference's. -/
theorem res0 : ((dats m 0 c).arrAt 8 cfg0.N : Vec Ideal S8x256x8192 .f32) = val_main_v73 (a0 m c) (a1 m c) (a2 m c) (a3 m c) (a4 m c) := by
  funext j
  obtain ⟨h, e, i, rfl⟩ : ∃ h e i, j = ix3 h e i := ⟨j 0, j 1, j 2, by funext a; fin_cases a <;> rfl⟩
  have key : (∑ k, KCT m c (ix3 h e k) * G m c h k i) = ((∑ k, kc kn kr h k e * ds q kn kr v ct (big m c) h i k : ℝ) : EReal) := by
    rw [coe_sum]
    exact Finset.sum_congr rfl fun k _ => by rw [KCT_at m c H, G_at m c H, EReal.coe_mul]
  exact (arr8 m c h e i).trans (key.trans (v73_at H h e i).symm)

/-- The keys' gradient is the reference's. -/
theorem res1 : ((dats m 0 c).arrAt 9 cfg0.N : Vec Ideal S8x8192x256 .f32) = val_main_v76 (a0 m c) (a1 m c) (a2 m c) (a3 m c) (a4 m c) := by
  funext j
  obtain ⟨h, k, e, rfl⟩ : ∃ h k e, j = ix3 h k e := ⟨j 0, j 1, j 2, by funext a; fin_cases a <;> rfl⟩
  have key : (∑ i, G m c h k i * QC m c (ix3 h i e)) = ((∑ i, ds q kn kr v ct (big m c) h i k * qc q h i e : ℝ) : EReal) := by
    rw [coe_sum]
    exact Finset.sum_congr rfl fun k _ => by rw [QC_at m c H, G_at m c H, EReal.coe_mul]
  exact (arr9 m c h k e).trans (key.trans (v76_at H h k e).symm)

/-- The values' gradient is the reference's. -/
theorem res2 : ((dats m 0 c).arrAt 10 cfg0.N : Vec Ideal S8x128x8192 .f32) = val_main_v77 (a0 m c) (a1 m c) (a2 m c) (a4 m c) := by
  funext j
  obtain ⟨h, d, k, rfl⟩ : ∃ h d k, j = ix3 h d k := ⟨j 0, j 1, j 2, by funext a; fin_cases a <;> rfl⟩
  have key : (∑ i, DOT m c (ix3 h d i) * W m c h k i) = ((∑ i, ct i (col h d) * pr q kn kr (big m c) h i k : ℝ) : EReal) := by
    rw [coe_sum]
    exact Finset.sum_congr rfl fun k _ => by rw [DOT_at m c H, W_at m c H, EReal.coe_mul]
  exact (arr10 m c h d k).trans (key.trans (v77_at H h d k).symm)

end Cert.KernelIdeal.Values

end
-- ==== Proof.Finite.lean ====
module

public import proofs.«01_k».proof.Defs
public import proofs.«01_k».proof.Proof.Ref
public import Idealize.ShloMosaic.Lib.ReduceAll

@[expose] public section

set_option maxRecDepth 16384

noncomputable section

/-! The precondition: every entry of the arguments is a real number. -/

namespace Cert.Finite

open Idealize.ShloMosaic Idealize.ShloMosaic.TcCoe Idealize.SL.Sem
open Cert.ReferenceIdeal.Ref

/-- An entry whose size is below infinity is a real number. -/
theorem real_of_lt (x : EReal) (h : max x (-x) < ⊤) : (x.toReal : EReal) = x := by
  refine EReal.coe_toReal ?_ ?_
  · rintro rfl; simp at h
  · rintro rfl; simp at h

/-- An array whose entries' sizes all compare below infinity holds real numbers. -/
theorem real_at {s : Shape} (hs : Cert.Pre_finite.S_.BroadcastsInDim s (![] : Fin 0 → Fin s.rank)) (x : FVec Ideal s .f32) (i : s.Idx)
    (h : cmpf .olt (Host.absf x) (broadcastInDim s ![] hs (constant (F := Ideal) Cert.Pre_finite.S_ .f32 0x7F800000#32)) i = 1#1) :
    ((x i : EReal).toReal : EReal) = x i := by
  refine real_of_lt _ ?_
  revert h
  pointwise
  rw [show Ideal.ofBits FTy.f32 2139095040#32 = (⊤ : EReal) by simp [Ideal.ofBits, Ideal.ieee]]
  intro h
  by_contra hc
  have h : BitVec.ofBool (decide (max (x i : EReal) (-x i) < ⊤)) = 1#1 := h
  rw [decide_eq_false hc] at h
  exact absurd h (by decide)

/-- Two bits whose conjunction is one are one. -/
theorem and_one (a b : BitVec 1) (h : a &&& b = 1#1) : a = 1#1 ∧ b = 1#1 := by
  revert a b; decide

/-- Shapes of no axes have one index. -/
instance : Subsingleton Cert.Pre_finite.S_.Idx := ⟨fun a b => funext fun k => k.elim0⟩

/-- Under the precondition the arguments hold the reals of their entries. -/
theorem holds [Cert.Pre_finite.Facts] (x0 : FVec Ideal Cert.Pre_finite.S8192x8x192 .f32) (x1 : FVec Ideal Cert.Pre_finite.S8192x8x128 .f32)
    (x2 : FVec Ideal Cert.Pre_finite.S8192x64 .f32) (x3 : FVec Ideal Cert.Pre_finite.S8192x8x128 .f32) (x4 : FVec Ideal Cert.Pre_finite.S8192x1024 .f32)
    (h : ∀ j, Cert.Pre_finite.fn (F := Ideal) x0 x1 x2 x3 x4 j = 1#1) :
    Holds x0 x1 x2 x3 x4 (fun i h e => (x0 (ix3 i h e) : EReal).toReal) (fun i h e => (x1 (ix3 i h e) : EReal).toReal)
      (fun i e => (x2 (ix2 i e) : EReal).toReal) (fun i h e => (x3 (ix3 i h e) : EReal).toReal) (fun i e => (x4 (ix2 i e) : EReal).toReal) := by
  have h := h (fun k => k.elim0)
  unfold Cert.Pre_finite.fn Cert.Pre_finite.fn_part1 at h
  obtain ⟨h, e4⟩ := and_one _ _ h
  obtain ⟨h, e3⟩ := and_one _ _ h
  obtain ⟨h, e2⟩ := and_one _ _ h
  obtain ⟨e0, e1⟩ := and_one _ _ h
  exact ⟨fun i h e => (real_at _ x0 _ (Host.reduce_andi_all _ _ _ _ _ e0 _)).symm, fun i h e => (real_at _ x1 _ (Host.reduce_andi_all _ _ _ _ _ e1 _)).symm,
    fun i e => (real_at _ x2 _ (Host.reduce_andi_all _ _ _ _ _ e2 _)).symm, fun i h e => (real_at _ x3 _ (Host.reduce_andi_all _ _ _ _ _ e3 _)).symm,
    fun i e => (real_at _ x4 _ (Host.reduce_andi_all _ _ _ _ _ e4 _)).symm⟩

end Cert.Finite

end
-- ==== Proof.Up.lean ====
module

public import proofs.«01_k».proof.Proof.Gen.Kernel2Ideal.Value
public import proofs.«01_k».proof.Defs
public import proofs.«01_k».proof.Proof.Gen.Reference2Ideal.Run
public import proofs.«01_k».proof.Proof.Gen.Reference2Ideal.Read
public import Idealize.ShloMosaic.Adequacy
public import Idealize.ShloMosaic.Init
public import Idealize.ShloMosaic.Lib.Pipeline.ValueKit
public import Idealize.ShloMosaic.Lib.Pipeline.ReadBack
public import Idealize.ShloMosaic.Lib.Pointwise
public import Idealize.ShloMosaic.Lib.ValueIdx

@[expose] public section

set_option maxRecDepth 16384

noncomputable section

/-! The first product's squared ReLU: the call's arrays and the reference's, at an index. -/

namespace Cert.Kernel2Ideal.Up

open Cert.Kernel2Ideal Cert.Kernel2Ideal.Gen Idealize.ShloMosaic Idealize.ShloMosaic.TcCoe Idealize.SL.Sem

/-- A block of the ReLU. -/
theorem pay1 (a : Vec Ideal S1024x2048 .bf16) (w : Vec Ideal S1x2048x2048 .bf16) (i : Fin 1024) (j : Fin 2048) :
    k0_pay1 a w (ix2 i j) = max (∑ d : Fin 2048, a (ix2 i d) * w (ix3 0 d j)) 0 := by
  unfold k0_pay1
  pointwise

/-- The body's value at an index. -/
theorem pay2 (a : Vec Ideal S1024x2048 .bf16) (w : Vec Ideal S1x2048x2048 .bf16) (i : Fin 1024) (j : Fin 2048) :
    k0_pay2 a w (ix2 i j) = max (∑ d : Fin 2048, a (ix2 i d) * w (ix3 0 d j)) 0 := pay1 a w i j

/-- The body's value at an index. -/
theorem pay3 (a : Vec Ideal S1024x2048 .bf16) (w : Vec Ideal S1x2048x2048 .bf16) (i : Fin 1024) (j : Fin 2048) :
    k0_pay3 a w (ix2 i j) = max (∑ d : Fin 2048, a (ix2 i d) * w (ix3 0 d j)) 0 * max (∑ d : Fin 2048, a (ix2 i d) * w (ix3 0 d j)) 0 :=
  congrArg₂ (· * ·) (pay1 a w i j) (pay1 a w i j)

/-- What a point leaves of the ReLU. -/
theorem out2 (a : Vec Ideal S1024x2048 .bf16) (w : Vec Ideal S1x2048x2048 .bf16) : out0_2 a w = k0_pay2 a w := by
  frame_out
/-- What a point leaves of its square. -/
theorem out3 (a : Vec Ideal S1024x2048 .bf16) (w : Vec Ideal S1x2048x2048 .bf16) : out0_3 a w = k0_pay3 a w := by
  frame_out

variable (m : (ℓ : Loc nD τ sig) → Buf (Elt Ideal) ℓ) (c : Dev nD)

/-- The mixer's input. -/
abbrev x : (⟨S8192x2048, .f32⟩ : BufTy).Contents (Elt Ideal) := m ((c.tc : Thread nD τ).loc main_arg0)
/-- The first weights. -/
abbrev w1 : (⟨S2048x8192, .f32⟩ : BufTy).Contents (Elt Ideal) := m ((c.tc : Thread nD τ).loc main_arg1)

/-- What the array that goes into the call holds after the host's lines. -/
theorem V3 : V m c main_v3 = truncf (F := Ideal) (φ := .f32) .bf16 (x m c) bitsLt_bf16_f32 := by
  show StableHlo.after hostOps0 _ main_v3 = _
  after_results_simp <;> rfl
/-- What the array that goes into the call holds after the host's lines. -/
theorem V2 : V m c main_v2 = transpose S4x2048x2048 [1, 0, 2]
    (shapeCast S2048x4x2048 (truncf (F := Ideal) (φ := .f32) .bf16 (w1 m c) bitsLt_bf16_f32) shapeCasts_S2048x8192_S2048x4x2048) transposes_S2048x4x2048_S4x2048x2048_1_0_2 := by
  show StableHlo.after hostOps0 _ main_v2 = _
  after_results_simp <;> rfl

/-- The shards of the weights, at an index. -/
theorem V2_at (k : Fin 4) (d j : Fin 2048) : (V m c main_v2 : Vec Ideal S4x2048x2048 .bf16) (ix3 k d j) = w1 m c (ix2 d ⟨k.val * 2048 + j.val, by omega⟩) := by
  rw [V2]
  generalize w1 m c = w
  pointwise

/-- The block each window is at: row block `t / 4`, column block `t % 4`. -/
theorem idx : ∀ t : Fin cfg0.N,
    win0_0.index t = ![t.val / 4, 0] ∧ win0_1.index t = ![t.val % 4, 0, 0] ∧ win0_2.index t = ![t.val / 4, t.val % 4] ∧ win0_3.index t = ![t.val / 4, t.val % 4] :=
  (by decide +kernel : ∀ t : Fin grid0.N, _)

/-- The bound on the number of grid points. -/
theorem lt32 (t : Fin cfg0.N) : t.val < 32 := t.isLt

/-- Row `r` of a point's block. -/
abbrev row (t : Fin cfg0.N) (r : Fin 1024) : Fin 8192 := ⟨t.val / 4 * 1024 + r.val, by have := lt32 t; omega⟩
/-- Column `j` of a point's block. -/
abbrev clm (t : Fin cfg0.N) (j : Fin 2048) : Fin 8192 := ⟨t.val % 4 * 2048 + j.val, by omega⟩

/-- What block 0 of a point holds, in terms of the arguments. -/
theorem blk0 (t : Fin cfg0.N) (i : Fin 1024) (d : Fin 2048) : (iblk m c 0 t : Vec Ideal S1024x2048 .bf16) (ix2 i d) = x m c (ix2 (row t i) d) := by
  have h : (iblk m c 0 t : Vec Ideal S1024x2048 .bf16) (ix2 i d) = (V m c main_v3 : Vec Ideal S8192x2048 .bf16) (ix2 (row t i) d) := by blk_ext [iblk, idx t]
  rw [h, V3]; rfl
/-- What block 1 of a point holds, in terms of the arguments. -/
theorem blk1 (t : Fin cfg0.N) (d j : Fin 2048) : (iblk m c 1 t : Vec Ideal S1x2048x2048 .bf16) (ix3 0 d j) = w1 m c (ix2 d (clm t j)) := by
  have h : (iblk m c 1 t : Vec Ideal S1x2048x2048 .bf16) (ix3 0 d j) = (V m c main_v2 : Vec Ideal S4x2048x2048 .bf16) (ix3 ⟨t.val % 4, by omega⟩ d j) := by blk_ext [iblk, idx t]
  rw [h, V2_at]

/-- The point of an index. -/
abbrev pt (i j : Fin 8192) : Fin cfg0.N := ⟨i.val / 1024 * 4 + j.val / 2048, by show _ < 32; omega⟩

/-- The call's array of the ReLU. -/
theorem arr2 (i j : Fin 8192) :
    ((dats m 0 c).arrAt 2 cfg0.N : Vec Ideal S8192x8192 .bf16) (ix2 i j)
      = max (∑ d : Fin 2048, x m c (ix2 i d) * w1 m c (ix2 d j)) 0 := by
  have hb := congrFun (Value.blocks2 m c (pt i j) (flush0_2 (pt i j))) (ix2 (⟨i.val % 1024, Nat.mod_lt _ (by decide)⟩ : Fin 1024) (⟨j.val % 2048, Nat.mod_lt _ (by decide)⟩ : Fin 2048))
  rw [Value.flushed2, out2] at hb
  have hi : row (pt i j) ⟨i.val % 1024, Nat.mod_lt _ (by decide)⟩ = i := Fin.ext (by show (i.val / 1024 * 4 + j.val / 2048) / 4 * 1024 + i.val % 1024 = i.val; omega)
  have hj : clm (pt i j) ⟨j.val % 2048, Nat.mod_lt _ (by decide)⟩ = j := Fin.ext (by show (i.val / 1024 * 4 + j.val / 2048) % 4 * 2048 + j.val % 2048 = j.val; omega)
  have ho := pay2 (iblk m c 0 (pt i j)) (iblk m c 1 (pt i j)) ⟨i.val % 1024, Nat.mod_lt _ (by decide)⟩ ⟨j.val % 2048, Nat.mod_lt _ (by decide)⟩
  simp only [blk0, blk1, hi, hj] at ho
  rw [← ho]
  refine Eq.trans ?_ hb
  blk_ext [idx (pt i j)]

/-- The call's array of the ReLU's square. -/
theorem arr3 (i j : Fin 8192) :
    ((dats m 0 c).arrAt 3 cfg0.N : Vec Ideal S8192x8192 .bf16) (ix2 i j)
      = max (∑ d : Fin 2048, x m c (ix2 i d) * w1 m c (ix2 d j)) 0 * max (∑ d : Fin 2048, x m c (ix2 i d) * w1 m c (ix2 d j)) 0 := by
  have hb := congrFun (Value.blocks3 m c (pt i j) (flush0_3 (pt i j))) (ix2 (⟨i.val % 1024, Nat.mod_lt _ (by decide)⟩ : Fin 1024) (⟨j.val % 2048, Nat.mod_lt _ (by decide)⟩ : Fin 2048))
  rw [Value.flushed3, out3] at hb
  have hi : row (pt i j) ⟨i.val % 1024, Nat.mod_lt _ (by decide)⟩ = i := Fin.ext (by show (i.val / 1024 * 4 + j.val / 2048) / 4 * 1024 + i.val % 1024 = i.val; omega)
  have hj : clm (pt i j) ⟨j.val % 2048, Nat.mod_lt _ (by decide)⟩ = j := Fin.ext (by show (i.val / 1024 * 4 + j.val / 2048) % 4 * 2048 + j.val % 2048 = j.val; omega)
  have ho := pay3 (iblk m c 0 (pt i j)) (iblk m c 1 (pt i j)) ⟨i.val % 1024, Nat.mod_lt _ (by decide)⟩ ⟨j.val % 2048, Nat.mod_lt _ (by decide)⟩
  simp only [blk0, blk1, hi, hj] at ho
  rw [← ho]
  refine Eq.trans ?_ hb
  blk_ext [idx (pt i j)]

/-- The call's array is the reference's. -/
theorem res2 : ((dats m 0 c).arrAt 2 cfg0.N : Vec Ideal S8192x8192 .bf16) = Cert.Reference2Ideal.Read.val_main_v2 (x m c) (w1 m c) := by
  refine funext fun y => ?_
  obtain ⟨i, j, rfl⟩ : ∃ i j : Fin 8192, y = ix2 i j := ⟨y 0, y 1, by funext a; fin_cases a <;> rfl⟩
  rw [arr2]
  unfold Cert.Reference2Ideal.Read.val_main_v2 Cert.Reference2Ideal.Read.val_main_v1 Cert.Reference2Ideal.Read.val_main_v0 Cert.Reference2Ideal.Read.val_main_call0_v0 Cert.Reference2Ideal.Read.val_main_call0_cst
  pointwise

/-- The call's array is the reference's. -/
theorem res3 : ((dats m 0 c).arrAt 3 cfg0.N : Vec Ideal S8192x8192 .bf16) = Cert.Reference2Ideal.Read.val_main_v4 (x m c) (w1 m c) := by
  refine funext fun y => ?_
  obtain ⟨i, j, rfl⟩ : ∃ i j : Fin 8192, y = ix2 i j := ⟨y 0, y 1, by funext a; fin_cases a <;> rfl⟩
  rw [arr3]
  unfold Cert.Reference2Ideal.Read.val_main_v4 Cert.Reference2Ideal.Read.val_main_v3 Cert.Reference2Ideal.Read.val_main_v1 Cert.Reference2Ideal.Read.val_main_v0 Cert.Reference2Ideal.Read.val_main_call0_v0 Cert.Reference2Ideal.Read.val_main_call0_cst
  pointwise

/-- From arguments that agree, the call and the reference both run and return the same arrays. -/
theorem algebraic : @Cert.algebraic_Kernel2Ideal_Reference2Ideal Cert.Kernel2Ideal.Gen.facts Cert.Reference2Ideal.Gen.facts := by
  intro m g m' g' _ ha
  refine ⟨fun c => (dats m 0 c).arrAt 2 cfg0.N, fun c => (dats m 0 c).arrAt 3 cfg0.N, Value.run_blocks m g, ?_⟩
  refine (θ_run _ _ _).mono (fun r h c => ?_) (Cert.Reference2Ideal.Value.run m' g')
  obtain ⟨h0, h1, hk⟩ := h c
  obtain ⟨e0, e1⟩ := ha c
  refine ⟨h0.trans ?_, h1.trans ?_, hk⟩
  · rw [Cert.Reference2Ideal.Read.val_main_v2_eq, e0, e1]
    exact (res2 m c).symm
  · rw [Cert.Reference2Ideal.Read.val_main_v4_eq, e0, e1]
    exact (res3 m c).symm

/-- The reference keeps its arguments and leaves its counters at zero: it has none. -/
theorem reference_frame : @Cert.quiescent_Reference2Ideal Cert.Reference2Ideal.Gen.facts := by
  intro m ρ _
  exact (θ_run _ _ _).mono (fun r h => ⟨fun c => (h c).2.2, sem_eq_zero_of_no_sems (by decide) r.2⟩) (Cert.Reference2Ideal.Value.run m ρ)

end Cert.Kernel2Ideal.Up

end
-- ==== Proof.Act.lean ====
module

public import proofs.«01_k».proof.Proof.Gen.Kernel3Ideal.Value
public import proofs.«01_k».proof.Defs
public import proofs.«01_k».proof.Proof.Gen.Reference3Ideal.Run
public import proofs.«01_k».proof.Proof.Gen.Reference3Ideal.Read
public import Idealize.ShloMosaic.Adequacy
public import Idealize.ShloMosaic.Init
public import Idealize.ShloMosaic.Lib.Pipeline.ValueKit
public import Idealize.ShloMosaic.Lib.Pipeline.ReadBack
public import Idealize.ShloMosaic.Lib.Pointwise
public import Idealize.ShloMosaic.Lib.ValueIdx

@[expose] public section

set_option maxRecDepth 16384

noncomputable section

/-! The gradient of the squared ReLU's argument: the call's array and the reference's, at an index. -/

namespace Cert.Kernel3Ideal.Act

open Cert.Kernel3Ideal Cert.Kernel3Ideal.Gen Idealize.ShloMosaic Idealize.ShloMosaic.TcCoe Idealize.SL.Sem

/-- The word of 2. -/
theorem two : Ideal.ofBits FTy.f32 0x40000000#32 = ((2 : ℝ) : EReal) := by
  simp only [Ideal.ofBits, Ideal.ieee]
  simp [← EReal.coe_mul]
  norm_num

/-- A block: the product with the weights' rows, times twice the ReLU. -/
theorem pay (a : Vec Ideal S1024x2048 .bf16) (w : Vec Ideal S2048x2048 .bf16) (r : Vec Ideal S1024x2048 .bf16) (i : Fin 1024) (j : Fin 2048) :
    k0_pay1 a w r (ix2 i j) = (∑ d : Fin 2048, a (ix2 i d) * w (ix2 j d)) * (((2 : ℝ) : EReal) * r (ix2 i j)) := by
  unfold k0_pay1
  pointwise
  rw [two]

/-- What a point leaves. -/
theorem out (a : Vec Ideal S1024x2048 .bf16) (w : Vec Ideal S2048x2048 .bf16) (r : Vec Ideal S1024x2048 .bf16) : out0_3 a w r = k0_pay1 a w r := by
  frame_out

variable (m : (ℓ : Loc nD τ sig) → Buf (Elt Ideal) ℓ) (c : Dev nD)

/-- The first product. -/
abbrev f : (⟨S8192x8192, .f32⟩ : BufTy).Contents (Elt Ideal) := m ((c.tc : Thread nD τ).loc main_arg0)
/-- The second weights. -/
abbrev w2 : (⟨S8192x2048, .f32⟩ : BufTy).Contents (Elt Ideal) := m ((c.tc : Thread nD τ).loc main_arg1)
/-- The gradient of the mixer's output. -/
abbrev ct : (⟨S8192x2048, .f32⟩ : BufTy).Contents (Elt Ideal) := m ((c.tc : Thread nD τ).loc main_arg2)

/-- What the array that goes into the call holds after the host's lines. -/
theorem V0 : V m c main_v0 = truncf (F := Ideal) (φ := .f32) .bf16 (ct m c) bitsLt_bf16_f32 := by
  show StableHlo.after (List.flatten [hostOps0, hostOps0_1, hostOps0_2]) _ main_v0 = _
  after_results_simp <;> rfl
/-- What the array that goes into the call holds after the host's lines. -/
theorem V1 : V m c main_v1 = truncf (F := Ideal) (φ := .f32) .bf16 (w2 m c) bitsLt_bf16_f32 := by
  show StableHlo.after (List.flatten [hostOps0, hostOps0_1, hostOps0_2]) _ main_v1 = _
  after_results_simp <;> rfl
/-- What the array that goes into the call holds after the host's lines. -/
theorem V3 : V m c main_v3 = truncf (F := Ideal) (φ := .f32) .bf16 (Cert.Reference3Ideal.Read.val_main_v0 (f m c)) bitsLt_bf16_f32 := by
  show StableHlo.after (List.flatten [hostOps0, hostOps0_1, hostOps0_2]) _ main_v3 = _
  after_results_simp <;> rfl

/-- The block each window is at: row block `t / 4`, column block `t % 4`. -/
theorem idx : ∀ t : Fin cfg0.N,
    win0_0.index t = ![t.val / 4, 0] ∧ win0_1.index t = ![t.val % 4, 0] ∧ win0_2.index t = ![t.val / 4, t.val % 4] ∧ win0_3.index t = ![t.val / 4, t.val % 4] :=
  (by decide +kernel : ∀ t : Fin grid0.N, _)

/-- The bound on the number of grid points. -/
theorem lt32 (t : Fin cfg0.N) : t.val < 32 := t.isLt

/-- Row `r` of a point's block. -/
abbrev row (t : Fin cfg0.N) (r : Fin 1024) : Fin 8192 := ⟨t.val / 4 * 1024 + r.val, by have := lt32 t; omega⟩
/-- Column `j` of a point's block. -/
abbrev clm (t : Fin cfg0.N) (j : Fin 2048) : Fin 8192 := ⟨t.val % 4 * 2048 + j.val, by omega⟩

/-- What block 0 of a point holds, in terms of the arguments. -/
theorem blk0 (t : Fin cfg0.N) (i : Fin 1024) (d : Fin 2048) : (iblk m c 0 t : Vec Ideal S1024x2048 .bf16) (ix2 i d) = ct m c (ix2 (row t i) d) := by
  have h : (iblk m c 0 t : Vec Ideal S1024x2048 .bf16) (ix2 i d) = (V m c main_v0 : Vec Ideal S8192x2048 .bf16) (ix2 (row t i) d) := by blk_ext [iblk, idx t]
  rw [h, V0]; rfl
/-- What block 1 of a point holds, in terms of the arguments. -/
theorem blk1 (t : Fin cfg0.N) (j : Fin 2048) (d : Fin 2048) : (iblk m c 1 t : Vec Ideal S2048x2048 .bf16) (ix2 j d) = w2 m c (ix2 (clm t j) d) := by
  have h : (iblk m c 1 t : Vec Ideal S2048x2048 .bf16) (ix2 j d) = (V m c main_v1 : Vec Ideal S8192x2048 .bf16) (ix2 (clm t j) d) := by blk_ext [iblk, idx t]
  rw [h, V1]; rfl
/-- What block 2 of a point holds, in terms of the arguments. -/
theorem blk2 (t : Fin cfg0.N) (i : Fin 1024) (j : Fin 2048) :
    (iblk m c 2 t : Vec Ideal S1024x2048 .bf16) (ix2 i j) = Cert.Reference3Ideal.Read.val_main_v0 (f m c) (ix2 (row t i) (clm t j)) := by
  have h : (iblk m c 2 t : Vec Ideal S1024x2048 .bf16) (ix2 i j) = (V m c main_v3 : Vec Ideal S8192x8192 .bf16) (ix2 (row t i) (clm t j)) := by blk_ext [iblk, idx t]
  rw [h, V3]; rfl

/-- The point of an index. -/
abbrev pt (i j : Fin 8192) : Fin cfg0.N := ⟨i.val / 1024 * 4 + j.val / 2048, by show _ < 32; omega⟩

/-- The call's array. -/
theorem arr (i j : Fin 8192) :
    ((dats m 0 c).arrAt 3 cfg0.N : Vec Ideal S8192x8192 .bf16) (ix2 i j)
      = (∑ d : Fin 2048, ct m c (ix2 i d) * w2 m c (ix2 j d)) * (((2 : ℝ) : EReal) * Cert.Reference3Ideal.Read.val_main_v0 (f m c) (ix2 i j)) := by
  have hb := congrFun (Value.blocks3 m c (pt i j) (flush0_3 (pt i j))) (ix2 (⟨i.val % 1024, Nat.mod_lt _ (by decide)⟩ : Fin 1024) (⟨j.val % 2048, Nat.mod_lt _ (by decide)⟩ : Fin 2048))
  rw [Value.flushed3, out] at hb
  have hi : row (pt i j) ⟨i.val % 1024, Nat.mod_lt _ (by decide)⟩ = i := Fin.ext (by show (i.val / 1024 * 4 + j.val / 2048) / 4 * 1024 + i.val % 1024 = i.val; omega)
  have hj : clm (pt i j) ⟨j.val % 2048, Nat.mod_lt _ (by decide)⟩ = j := Fin.ext (by show (i.val / 1024 * 4 + j.val / 2048) % 4 * 2048 + j.val % 2048 = j.val; omega)
  have ho := pay (iblk m c 0 (pt i j)) (iblk m c 1 (pt i j)) (iblk m c 2 (pt i j)) ⟨i.val % 1024, Nat.mod_lt _ (by decide)⟩ ⟨j.val % 2048, Nat.mod_lt _ (by decide)⟩
  simp only [blk0, blk1, blk2, hi, hj] at ho
  rw [← ho]
  refine Eq.trans ?_ hb
  blk_ext [idx (pt i j)]

/-- The call's array is the reference's. -/
theorem res : ((dats m 0 c).arrAt 3 cfg0.N : Vec Ideal S8192x8192 .bf16) = Cert.Reference3Ideal.Read.val_main_v14 (f m c) (w2 m c) (ct m c) := by
  refine funext fun y => ?_
  obtain ⟨i, j, rfl⟩ : ∃ i j : Fin 8192, y = ix2 i j := ⟨y 0, y 1, by funext a; fin_cases a <;> rfl⟩
  rw [arr]
  unfold Cert.Reference3Ideal.Read.val_main_v14 Cert.Reference3Ideal.Read.val_main_v13 Cert.Reference3Ideal.Read.val_main_v12 Cert.Reference3Ideal.Read.val_main_v11
    Cert.Reference3Ideal.Read.val_main_v10 Cert.Reference3Ideal.Read.val_main_v6 Cert.Reference3Ideal.Read.val_main_v5 Cert.Reference3Ideal.Read.val_main_v2
    Cert.Reference3Ideal.Read.val_main_v1 Cert.Reference3Ideal.Read.val_main_v0 Cert.Reference3Ideal.Read.val_main_call0_v0 Cert.Reference3Ideal.Read.val_main_call0_cst
    Cert.Reference3Ideal.Read.val_main_cst Cert.Reference3Ideal.Read.val_main_cst_1 Cert.Reference3Ideal.Read.val_main_cst_2
  pointwise
  rw [two]
  split
  · rfl
  · rename_i h
    rw [max_eq_right (not_lt.mp h), mul_zero, mul_zero]

/-- From arguments that agree, the call and the reference both run and return one array. -/
theorem algebraic : @Cert.algebraic_Kernel3Ideal_Reference3Ideal Cert.Kernel3Ideal.Gen.facts Cert.Reference3Ideal.Gen.facts := by
  intro m g m' g' _ ha
  refine ⟨fun c => (dats m 0 c).arrAt 3 cfg0.N, Value.run_blocks m g, ?_⟩
  refine (θ_run _ _ _).mono (fun r h c => ?_) (Cert.Reference3Ideal.Value.run m' g')
  obtain ⟨h0, hk⟩ := h c
  obtain ⟨e0, e1, e2⟩ := ha c
  refine ⟨h0.trans ?_, hk⟩
  rw [Cert.Reference3Ideal.Read.val_main_v14_eq, e0, e1, e2]
  exact (res m c).symm

/-- The reference keeps its arguments and leaves its counters at zero: it has none. -/
theorem reference_frame : @Cert.quiescent_Reference3Ideal Cert.Reference3Ideal.Gen.facts := by
  intro m ρ _
  exact (θ_run _ _ _).mono (fun r h => ⟨fun c => (h c).2, sem_eq_zero_of_no_sems (by decide) r.2⟩) (Cert.Reference3Ideal.Value.run m ρ)

end Cert.Kernel3Ideal.Act

end
-- ==== Proof.Wg2.lean ====
module

public import proofs.«01_k».proof.Proof.Gen.Kernel4Ideal.Value
public import proofs.«01_k».proof.Defs
public import proofs.«01_k».proof.Proof.Gen.Reference4Ideal.Run
public import proofs.«01_k».proof.Proof.Gen.Reference4Ideal.Read
public import Idealize.ShloMosaic.Adequacy
public import Idealize.ShloMosaic.Init
public import Idealize.ShloMosaic.Lib.Pipeline.ValueKit
public import Idealize.ShloMosaic.Lib.Pipeline.ReadBack
public import Idealize.ShloMosaic.Lib.Pointwise
public import Idealize.ShloMosaic.Lib.ValueIdx

@[expose] public section

set_option maxRecDepth 16384

noncomputable section

/-! The gradient of the second weights: the call's array and the reference's, at an index. -/

namespace Cert.Kernel4Ideal.Wg

open Cert.Kernel4Ideal Cert.Kernel4Ideal.Gen Idealize.ShloMosaic Idealize.ShloMosaic.TcCoe Idealize.SL.Sem

/-- A block's first product. -/
theorem pay1 (a : Vec Ideal S2048x1024 .bf16) (b : Vec Ideal S2048x2048 .bf16) (i : Fin 1024) (j : Fin 2048) :
    k0_pay1 a b (ix3 0 i j) = ∑ s : Fin 2048, a (ix2 s i) * b (ix2 s j) := by
  unfold k0_pay1
  pointwise

/-- A block's later product, added to what is there. -/
theorem pay2 (w : Vec Ideal S1x1024x2048 .f32) (a : Vec Ideal S2048x1024 .bf16) (b : Vec Ideal S2048x2048 .bf16) (i : Fin 1024) (j : Fin 2048) :
    k0_pay2 w a b (ix3 0 i j) = w (ix3 0 i j) + ∑ s : Fin 2048, a (ix2 s i) * b (ix2 s j) := by
  unfold k0_pay2
  pointwise

variable (m : (ℓ : Loc nD τ sig) → Buf (Elt Ideal) ℓ) (c : Dev nD)

/-- What the first point of a sum leaves in the output's block. -/
theorem outA (t : Fin cfg0.N) (h0 : t.val % 4 = 0) : outsAt0 m c t.val t.isLt = k0_pay1 (iblk m c 0 t) (iblk m c 1 t) := by
  rw [outsAt0_A m c t h0 (by omega)]
  frame_out

/-- What a later point of a sum leaves in the output's block: what was there, and its own term. -/
theorem outB (t : Fin cfg0.N) (h0 : ¬t.val % 4 = 0) :
    outsAt0 m c t.val t.isLt = k0_pay2 (outsAt0 m c (t.val - 1) (Nat.lt_of_le_of_lt (Nat.sub_le _ _) t.isLt)) (iblk m c 0 t) (iblk m c 1 t) := by
  rw [outsAt0_B m c t h0 (by omega)]
  frame_out

/-- The first product. -/
abbrev f : (⟨S8192x8192, .f32⟩ : BufTy).Contents (Elt Ideal) := m ((c.tc : Thread nD τ).loc main_arg0)
/-- The gradient of the mixer's output. -/
abbrev ct : (⟨S8192x2048, .f32⟩ : BufTy).Contents (Elt Ideal) := m ((c.tc : Thread nD τ).loc main_arg2)

/-- What the array that goes into the call holds after the host's lines. -/
theorem V_a : V m c main_v2 = truncf (F := Ideal) (φ := .f32) .bf16 (Cert.Reference4Ideal.Read.val_main_v4 (f m c)) bitsLt_bf16_f32 := by
  show StableHlo.after (List.flatten [hostOps0, hostOps0_1]) _ main_v2 = _
  after_results_simp <;> rfl
/-- What the array that goes into the call holds after the host's lines. -/
theorem V_b : V m c main_v3 = truncf (F := Ideal) (φ := .f32) .bf16 (ct m c) bitsLt_bf16_f32 := by
  show StableHlo.after (List.flatten [hostOps0, hostOps0_1]) _ main_v3 = _
  after_results_simp <;> rfl

/-- The block each window is at. -/
theorem idx : ∀ t : Fin cfg0.N, win0_0.index t = ![t.val % 4, t.val / 4] ∧ win0_1.index t = ![t.val % 4, 0] ∧ win0_2.index t = ![0, t.val / 4, 0] :=
  (by decide +kernel : ∀ t : Fin grid0.N, _)

/-- The bound on the number of grid points. -/
theorem ltN (t : Fin cfg0.N) : t.val < 32 := t.isLt

/-- Row `r` of a point's block of the result. -/
abbrev row (t : Fin cfg0.N) (r : Fin 1024) : Fin 8192 := ⟨t.val / 4 * 1024 + r.val, by have := ltN t; omega⟩
/-- Position `s` of a point's block. -/
abbrev pos (t : Fin cfg0.N) (s : Fin 2048) : Fin 8192 := ⟨t.val % 4 * 2048 + s.val, by omega⟩
/-- Column `j` of a point's block. -/
abbrev clm (_t : Fin cfg0.N) (j : Fin 2048) : Fin 2048 := j

/-- What block 0 of a point holds, in terms of the arguments. -/
theorem blk0 (t : Fin cfg0.N) (s : Fin 2048) (i : Fin 1024) : (iblk m c 0 t : Vec Ideal S2048x1024 .bf16) (ix2 s i) = Cert.Reference4Ideal.Read.val_main_v4 (f m c) (ix2 (pos t s) (row t i)) := by
  have h : (iblk m c 0 t : Vec Ideal S2048x1024 .bf16) (ix2 s i) = (V m c main_v2 : Vec Ideal S8192x8192 .bf16) (ix2 (pos t s) (row t i)) := by blk_ext [iblk, idx t]
  rw [h, V_a]; rfl
/-- What block 1 of a point holds, in terms of the arguments. -/
theorem blk1 (t : Fin cfg0.N) (s j : Fin 2048) : (iblk m c 1 t : Vec Ideal S2048x2048 .bf16) (ix2 s j) = ct m c (ix2 (pos t s) (clm t j)) := by
  have h : (iblk m c 1 t : Vec Ideal S2048x2048 .bf16) (ix2 s j) = (V m c main_v3 : Vec Ideal S8192x2048 .bf16) (ix2 (pos t s) (clm t j)) := by blk_ext [iblk, idx t]
  rw [h, V_b]; rfl

/-- What a point adds. -/
def term (t : Fin cfg0.N) (y : S1x1024x2048.Idx) : EReal :=
  ∑ s : Fin 2048, Cert.Reference4Ideal.Read.val_main_v4 (f m c) (ix2 (pos t s) (row t (y 1))) * ct m c (ix2 (pos t s) (clm t (y 2)))

/-- An index in terms of its coordinates. -/
theorem exists_ix (y : S1x1024x2048.Idx) : ∃ (i : Fin 1024) (j : Fin 2048), y = ix3 0 i j :=
  ⟨y 1, y 2, by funext a; fin_cases a; exacts [Subsingleton.elim (α := Fin 1) _ _, rfl, rfl]⟩

/-- The block after its last product. -/
theorem outs (t : Fin cfg0.N) (hr : t.val % 4 = 4 - 1) (y : S1x1024x2048.Idx) :
    outsAt0 m c t.val t.isLt y = ∑ s : Fin 4, term m c ⟨4 * (t.val / 4) + s.val, by have := ltN t; show _ < 32; omega⟩ y := by
  rw [Pipeline.eq_sum_fin_of_reset_step_apply_of_flush (fun n h => outsAt0 m c n h) 4 (fun _ => 0) (term m c)
    (fun t h j => by
      obtain ⟨i, j, rfl⟩ := exists_ix j
      rw [outA m c t h, pay1, zero_add]
      exact Finset.sum_congr rfl fun s _ => by rw [blk0, blk1]; rfl)
    (fun t h j => by
      obtain ⟨i, j, rfl⟩ := exists_ix j
      rw [outB m c t h, pay2]
      exact congrArg (_ + ·) (Finset.sum_congr rfl fun s _ => by rw [blk0, blk1]; rfl)) t hr y]
  exact zero_add _

/-- Two points that write back are of different blocks. -/
theorem disjoint2 : ∀ t t' : Fin cfg0.N, (cfg0.win 2).flush t = true → (cfg0.win 2).flush t' = true → t ≠ t' →
    Disjoint ((cfg0.win 2).blk t).view.set ((cfg0.win 2).blk t').view.set := by
  intro t t' hf hf' hne
  refine (cfg0.win 2).disjoint_blk fun h => hne (Fin.ext ?_)
  have h1 := (flush0_2 t).mp hf
  have h2 := (flush0_2 t').mp hf'
  have e : win0_2.index t = win0_2.index t' := h
  rw [(idx t).2.2, (idx t').2.2] at e
  have h3 : t.val / 4 = t'.val / 4 := congrFun e 1
  omega

/-- The last point of an index's block. -/
abbrev pt (i : Fin 8192) : Fin cfg0.N := ⟨i.val / 1024 * 4 + 3, by show _ < 32; omega⟩

/-- The call's array. -/
theorem arr (i : Fin 8192) (j : Fin 2048) :
    ((dats m 0 c).arrAt 2 cfg0.N : Vec Ideal S1x8192x2048 .f32) (ix3 0 i j) = ∑ s : Fin 8192, Cert.Reference4Ideal.Read.val_main_v4 (f m c) (ix2 s i) * ct m c (ix2 s j) := by
  have hr : (pt i).val % 4 = 4 - 1 := by show (i.val / 1024 * 4 + 3) % 4 = 4 - 1; omega
  have hb := congrFun ((dats m 0 c).read_blk_arrAt_eq_flushed 2 disjoint2 cfg0.N (pt i) (pt i).isLt ((flush0_2 (pt i)).mpr hr)) (ix3 0 (⟨i.val % 1024, Nat.mod_lt _ (by decide)⟩ : Fin 1024) j)
  rw [Value.flushed2] at hb
  have ho := outs m c (pt i) hr (ix3 0 (⟨i.val % 1024, Nat.mod_lt _ (by decide)⟩ : Fin 1024) j)
  have hs : ∀ s : Fin 4, term m c ⟨4 * ((pt i).val / 4) + s.val, by have := ltN (pt i); show _ < 32; omega⟩ (ix3 0 (⟨i.val % 1024, Nat.mod_lt _ (by decide)⟩ : Fin 1024) j)
      = ∑ k : Fin 2048, (fun k : Fin 8192 => Cert.Reference4Ideal.Read.val_main_v4 (f m c) (ix2 k i) * ct m c (ix2 k j)) ⟨s.val * 2048 + k.val, by omega⟩ := by
    intro s
    refine Finset.sum_congr rfl fun k _ => ?_
    have h1 : row ⟨4 * ((pt i).val / 4) + s.val, by have := ltN (pt i); show _ < 32; omega⟩ ⟨i.val % 1024, Nat.mod_lt _ (by decide)⟩ = i :=
      Fin.ext (by show ((4 * ((i.val / 1024 * 4 + 3) / 4) + s.val) / 4) * 1024 + i.val % 1024 = i.val; omega)
    have h2 : pos ⟨4 * ((pt i).val / 4) + s.val, by have := ltN (pt i); show _ < 32; omega⟩ k = ⟨s.val * 2048 + k.val, by omega⟩ :=
      Fin.ext (by show (4 * ((i.val / 1024 * 4 + 3) / 4) + s.val) % 4 * 2048 + k.val = s.val * 2048 + k.val; omega)
    show Cert.Reference4Ideal.Read.val_main_v4 (f m c) (ix2 (pos _ k) (row _ ⟨i.val % 1024, Nat.mod_lt _ (by decide)⟩)) * ct m c (ix2 (pos _ k) (clm _ j)) = _
    rw [h1, h2]
  rw [Finset.sum_congr rfl fun s _ => hs s, Fin.sum_mul_add_fin 4 2048 (fun k : Fin 8192 => Cert.Reference4Ideal.Read.val_main_v4 (f m c) (ix2 k i) * ct m c (ix2 k j))] at ho
  rw [← ho]
  refine Eq.trans ?_ hb
  blk_ext [idx (pt i)]

/-- The call's array is the reference's. -/
theorem res : ((dats m 0 c).arrAt 2 cfg0.N : Vec Ideal S1x8192x2048 .f32) = Cert.Reference4Ideal.Read.val_main_v14 (f m c) (ct m c) := by
  refine funext fun y => ?_
  obtain ⟨i, j, rfl⟩ : ∃ (i : Fin 8192) (j : Fin 2048), y = ix3 0 i j :=
    ⟨y 1, y 2, by funext a; fin_cases a; exacts [Subsingleton.elim (α := Fin 1) _ _, rfl, rfl]⟩
  rw [arr]
  unfold Cert.Reference4Ideal.Read.val_main_v14 Cert.Reference4Ideal.Read.val_main_v9 Cert.Reference4Ideal.Read.val_main_v8
  pointwise
  exact Finset.sum_congr (M := EReal) rfl fun s _ => EReal.mul_comm _ _

/-- From arguments that agree, the call and the reference both run and return one array. -/
theorem algebraic : @Cert.algebraic_Kernel4Ideal_Reference4Ideal Cert.Kernel4Ideal.Gen.facts Cert.Reference4Ideal.Gen.facts := by
  intro m g m' g' _ ha
  refine ⟨fun c => (dats m 0 c).arrAt 2 cfg0.N, Value.run_blocks m g, ?_⟩
  refine (θ_run _ _ _).mono (fun r h c => ?_) (Cert.Reference4Ideal.Value.run m' g')
  obtain ⟨h0, hk⟩ := h c
  obtain ⟨e0, e1, e2⟩ := ha c
  refine ⟨h0.trans ?_, hk⟩
  rw [Cert.Reference4Ideal.Read.val_main_v14_eq, e0, e2]
  exact (res m c).symm

/-- The reference keeps its arguments and leaves its counters at zero: it has none. -/
theorem reference_frame : @Cert.quiescent_Reference4Ideal Cert.Reference4Ideal.Gen.facts := by
  intro m ρ _
  exact (θ_run _ _ _).mono (fun r h => ⟨fun c => (h c).2, sem_eq_zero_of_no_sems (by decide) r.2⟩) (Cert.Reference4Ideal.Value.run m ρ)

end Cert.Kernel4Ideal.Wg

end
-- ==== Proof.Wg1.lean ====
module

public import proofs.«01_k».proof.Proof.Gen.Kernel5Ideal.Value
public import proofs.«01_k».proof.Defs
public import proofs.«01_k».proof.Proof.Gen.Reference5Ideal.Run
public import proofs.«01_k».proof.Proof.Gen.Reference5Ideal.Read
public import Idealize.ShloMosaic.Adequacy
public import Idealize.ShloMosaic.Init
public import Idealize.ShloMosaic.Lib.Pipeline.ValueKit
public import Idealize.ShloMosaic.Lib.Pipeline.ReadBack
public import Idealize.ShloMosaic.Lib.Pointwise
public import Idealize.ShloMosaic.Lib.ValueIdx

@[expose] public section

set_option maxRecDepth 16384

noncomputable section

/-! The gradient of the first weights: the call's array and the reference's, at an index. -/

namespace Cert.Kernel5Ideal.Wg

open Cert.Kernel5Ideal Cert.Kernel5Ideal.Gen Idealize.ShloMosaic Idealize.ShloMosaic.TcCoe Idealize.SL.Sem

/-- A block's first product. -/
theorem pay1 (a : Vec Ideal S2048x1024 .bf16) (b : Vec Ideal S2048x2048 .bf16) (i : Fin 1024) (j : Fin 2048) :
    k0_pay1 a b (ix3 0 i j) = ∑ s : Fin 2048, a (ix2 s i) * b (ix2 s j) := by
  unfold k0_pay1
  pointwise

/-- A block's later product, added to what is there. -/
theorem pay2 (w : Vec Ideal S1x1024x2048 .f32) (a : Vec Ideal S2048x1024 .bf16) (b : Vec Ideal S2048x2048 .bf16) (i : Fin 1024) (j : Fin 2048) :
    k0_pay2 w a b (ix3 0 i j) = w (ix3 0 i j) + ∑ s : Fin 2048, a (ix2 s i) * b (ix2 s j) := by
  unfold k0_pay2
  pointwise

variable (m : (ℓ : Loc nD τ sig) → Buf (Elt Ideal) ℓ) (c : Dev nD)

/-- What the first point of a sum leaves in the output's block. -/
theorem outA (t : Fin cfg0.N) (h0 : t.val % 4 = 0) : outsAt0 m c t.val t.isLt = k0_pay1 (iblk m c 0 t) (iblk m c 1 t) := by
  rw [outsAt0_A m c t h0 (by omega)]
  frame_out

/-- What a later point of a sum leaves in the output's block: what was there, and its own term. -/
theorem outB (t : Fin cfg0.N) (h0 : ¬t.val % 4 = 0) :
    outsAt0 m c t.val t.isLt = k0_pay2 (outsAt0 m c (t.val - 1) (Nat.lt_of_le_of_lt (Nat.sub_le _ _) t.isLt)) (iblk m c 0 t) (iblk m c 1 t) := by
  rw [outsAt0_B m c t h0 (by omega)]
  frame_out

/-- The mixer's input. -/
abbrev x : (⟨S8192x2048, .f32⟩ : BufTy).Contents (Elt Ideal) := m ((c.tc : Thread nD τ).loc main_arg0)
/-- The gradient of the first product. -/
abbrev ct : (⟨S8192x8192, .f32⟩ : BufTy).Contents (Elt Ideal) := m ((c.tc : Thread nD τ).loc main_arg2)

/-- What the array that goes into the call holds after the host's lines. -/
theorem V_a : V m c main_v0 = truncf (F := Ideal) (φ := .f32) .bf16 (x m c) bitsLt_bf16_f32 := by
  show StableHlo.after hostOps0 _ main_v0 = _
  after_results_simp <;> rfl
/-- What the array that goes into the call holds after the host's lines. -/
theorem V_b : V m c main_v1 = truncf (F := Ideal) (φ := .f32) .bf16 (ct m c) bitsLt_bf16_f32 := by
  show StableHlo.after hostOps0 _ main_v1 = _
  after_results_simp <;> rfl

/-- The block each window is at. -/
theorem idx : ∀ t : Fin cfg0.N, win0_0.index t = ![t.val % 4, t.val / 16] ∧ win0_1.index t = ![t.val % 4, t.val / 4 % 4] ∧ win0_2.index t = ![t.val / 4 % 4, t.val / 16, 0] :=
  (by decide +kernel : ∀ t : Fin grid0.N, _)

/-- The bound on the number of grid points. -/
theorem ltN (t : Fin cfg0.N) : t.val < 32 := t.isLt

/-- Row `r` of a point's block of the result. -/
abbrev row (t : Fin cfg0.N) (r : Fin 1024) : Fin 2048 := ⟨t.val / 16 * 1024 + r.val, by have := ltN t; omega⟩
/-- Position `s` of a point's block. -/
abbrev pos (t : Fin cfg0.N) (s : Fin 2048) : Fin 8192 := ⟨t.val % 4 * 2048 + s.val, by omega⟩
/-- Column `j` of a point's block. -/
abbrev clm (t : Fin cfg0.N) (j : Fin 2048) : Fin 8192 := ⟨t.val / 4 % 4 * 2048 + j.val, by omega⟩

/-- What block 0 of a point holds, in terms of the arguments. -/
theorem blk0 (t : Fin cfg0.N) (s : Fin 2048) (i : Fin 1024) : (iblk m c 0 t : Vec Ideal S2048x1024 .bf16) (ix2 s i) = x m c (ix2 (pos t s) (row t i)) := by
  have h : (iblk m c 0 t : Vec Ideal S2048x1024 .bf16) (ix2 s i) = (V m c main_v0 : Vec Ideal S8192x2048 .bf16) (ix2 (pos t s) (row t i)) := by blk_ext [iblk, idx t]
  rw [h, V_a]; rfl
/-- What block 1 of a point holds, in terms of the arguments. -/
theorem blk1 (t : Fin cfg0.N) (s j : Fin 2048) : (iblk m c 1 t : Vec Ideal S2048x2048 .bf16) (ix2 s j) = ct m c (ix2 (pos t s) (clm t j)) := by
  have h : (iblk m c 1 t : Vec Ideal S2048x2048 .bf16) (ix2 s j) = (V m c main_v1 : Vec Ideal S8192x8192 .bf16) (ix2 (pos t s) (clm t j)) := by blk_ext [iblk, idx t]
  rw [h, V_b]; rfl

/-- What a point adds. -/
def term (t : Fin cfg0.N) (y : S1x1024x2048.Idx) : EReal :=
  ∑ s : Fin 2048, x m c (ix2 (pos t s) (row t (y 1))) * ct m c (ix2 (pos t s) (clm t (y 2)))

/-- An index in terms of its coordinates. -/
theorem exists_ix (y : S1x1024x2048.Idx) : ∃ (i : Fin 1024) (j : Fin 2048), y = ix3 0 i j :=
  ⟨y 1, y 2, by funext a; fin_cases a; exacts [Subsingleton.elim (α := Fin 1) _ _, rfl, rfl]⟩

/-- The block after its last product. -/
theorem outs (t : Fin cfg0.N) (hr : t.val % 4 = 4 - 1) (y : S1x1024x2048.Idx) :
    outsAt0 m c t.val t.isLt y = ∑ s : Fin 4, term m c ⟨4 * (t.val / 4) + s.val, by have := ltN t; show _ < 32; omega⟩ y := by
  rw [Pipeline.eq_sum_fin_of_reset_step_apply_of_flush (fun n h => outsAt0 m c n h) 4 (fun _ => 0) (term m c)
    (fun t h j => by
      obtain ⟨i, j, rfl⟩ := exists_ix j
      rw [outA m c t h, pay1, zero_add]
      exact Finset.sum_congr rfl fun s _ => by rw [blk0, blk1]; rfl)
    (fun t h j => by
      obtain ⟨i, j, rfl⟩ := exists_ix j
      rw [outB m c t h, pay2]
      exact congrArg (_ + ·) (Finset.sum_congr rfl fun s _ => by rw [blk0, blk1]; rfl)) t hr y]
  exact zero_add _

/-- Two points that write back are of different blocks. -/
theorem disjoint2 : ∀ t t' : Fin cfg0.N, (cfg0.win 2).flush t = true → (cfg0.win 2).flush t' = true → t ≠ t' →
    Disjoint ((cfg0.win 2).blk t).view.set ((cfg0.win 2).blk t').view.set := by
  intro t t' hf hf' hne
  refine (cfg0.win 2).disjoint_blk fun h => hne (Fin.ext ?_)
  have h1 := (flush0_2 t).mp hf
  have h2 := (flush0_2 t').mp hf'
  have e : win0_2.index t = win0_2.index t' := h
  rw [(idx t).2.2, (idx t').2.2] at e
  have h3 : t.val / 4 % 4 = t'.val / 4 % 4 := congrFun e 0
  have h4 : t.val / 16 = t'.val / 16 := congrFun e 1
  omega

/-- The last point of an index's block. -/
abbrev pt (k : Fin 4) (i : Fin 2048) : Fin cfg0.N := ⟨i.val / 1024 * 16 + k.val * 4 + 3, by show _ < 32; omega⟩

/-- The call's array. -/
theorem arr (l : Fin 4) (i : Fin 2048) (j : Fin 2048) :
    ((dats m 0 c).arrAt 2 cfg0.N : Vec Ideal S4x2048x2048 .f32) (ix3 l i j) = ∑ s : Fin 8192, x m c (ix2 s i) * ct m c (ix2 s ⟨l.val * 2048 + j.val, by omega⟩) := by
  have hr : (pt l i).val % 4 = 4 - 1 := by show (i.val / 1024 * 16 + l.val * 4 + 3) % 4 = 4 - 1; omega
  have hb := congrFun ((dats m 0 c).read_blk_arrAt_eq_flushed 2 disjoint2 cfg0.N (pt l i) (pt l i).isLt ((flush0_2 (pt l i)).mpr hr)) (ix3 0 (⟨i.val % 1024, Nat.mod_lt _ (by decide)⟩ : Fin 1024) j)
  rw [Value.flushed2] at hb
  have ho := outs m c (pt l i) hr (ix3 0 (⟨i.val % 1024, Nat.mod_lt _ (by decide)⟩ : Fin 1024) j)
  have hs : ∀ s : Fin 4, term m c ⟨4 * ((pt l i).val / 4) + s.val, by have := ltN (pt l i); show _ < 32; omega⟩ (ix3 0 (⟨i.val % 1024, Nat.mod_lt _ (by decide)⟩ : Fin 1024) j)
      = ∑ k : Fin 2048, (fun k : Fin 8192 => x m c (ix2 k i) * ct m c (ix2 k ⟨l.val * 2048 + j.val, by omega⟩)) ⟨s.val * 2048 + k.val, by omega⟩ := by
    intro s
    refine Finset.sum_congr rfl fun k _ => ?_
    have h1 : row ⟨4 * ((pt l i).val / 4) + s.val, by have := ltN (pt l i); show _ < 32; omega⟩ ⟨i.val % 1024, Nat.mod_lt _ (by decide)⟩ = i :=
      Fin.ext (by show ((4 * ((i.val / 1024 * 16 + l.val * 4 + 3) / 4) + s.val) / 16) * 1024 + i.val % 1024 = i.val; omega)
    have h2 : pos ⟨4 * ((pt l i).val / 4) + s.val, by have := ltN (pt l i); show _ < 32; omega⟩ k = ⟨s.val * 2048 + k.val, by omega⟩ :=
      Fin.ext (by show (4 * ((i.val / 1024 * 16 + l.val * 4 + 3) / 4) + s.val) % 4 * 2048 + k.val = s.val * 2048 + k.val; omega)
    have h3 : clm ⟨4 * ((pt l i).val / 4) + s.val, by have := ltN (pt l i); show _ < 32; omega⟩ j = ⟨l.val * 2048 + j.val, by omega⟩ :=
      Fin.ext (by show (4 * ((i.val / 1024 * 16 + l.val * 4 + 3) / 4) + s.val) / 4 % 4 * 2048 + j.val = l.val * 2048 + j.val; omega)
    show x m c (ix2 (pos _ k) (row _ ⟨i.val % 1024, Nat.mod_lt _ (by decide)⟩)) * ct m c (ix2 (pos _ k) (clm _ j)) = _
    rw [h1, h2, h3]
  rw [Finset.sum_congr rfl fun s _ => hs s, Fin.sum_mul_add_fin 4 2048 (fun k : Fin 8192 => x m c (ix2 k i) * ct m c (ix2 k ⟨l.val * 2048 + j.val, by omega⟩))] at ho
  rw [← ho]
  refine Eq.trans ?_ hb
  blk_ext [idx (pt l i)]

/-- The call's array is the reference's. -/
theorem res : ((dats m 0 c).arrAt 2 cfg0.N : Vec Ideal S4x2048x2048 .f32) = Cert.Reference5Ideal.Read.val_main_v5 (x m c) (ct m c) := by
  refine funext fun y => ?_
  obtain ⟨l, i, j, rfl⟩ : ∃ (l : Fin 4) (i : Fin 2048) (j : Fin 2048), y = ix3 l i j :=
    ⟨y 0, y 1, y 2, by funext a; fin_cases a <;> rfl⟩
  rw [arr]
  unfold Cert.Reference5Ideal.Read.val_main_v5 Cert.Reference5Ideal.Read.val_main_v4 Cert.Reference5Ideal.Read.val_main_v2 Cert.Reference5Ideal.Read.val_main_v1
  generalize x m c = a
  generalize ct m c = b
  pointwise
  exact Finset.sum_congr (M := EReal) rfl fun s _ => EReal.mul_comm _ _

/-- From arguments that agree, the call and the reference both run and return one array. -/
theorem algebraic : @Cert.algebraic_Kernel5Ideal_Reference5Ideal Cert.Kernel5Ideal.Gen.facts Cert.Reference5Ideal.Gen.facts := by
  intro m g m' g' _ ha
  refine ⟨fun c => (dats m 0 c).arrAt 2 cfg0.N, Value.run_blocks m g, ?_⟩
  refine (θ_run _ _ _).mono (fun r h c => ?_) (Cert.Reference5Ideal.Value.run m' g')
  obtain ⟨h0, hk⟩ := h c
  obtain ⟨e0, e1, e2⟩ := ha c
  refine ⟨h0.trans ?_, hk⟩
  rw [Cert.Reference5Ideal.Read.val_main_v5_eq, e0, e2]
  exact (res m c).symm

/-- The reference keeps its arguments and leaves its counters at zero: it has none. -/
theorem reference_frame : @Cert.quiescent_Reference5Ideal Cert.Reference5Ideal.Gen.facts := by
  intro m ρ _
  exact (θ_run _ _ _).mono (fun r h => ⟨fun c => (h c).2, sem_eq_zero_of_no_sems (by decide) r.2⟩) (Cert.Reference5Ideal.Value.run m ρ)

end Cert.Kernel5Ideal.Wg

end
-- ==== Proof.InProj.lean ====
module

public import proofs.«01_k».proof.Proof.Gen.Kernel6Ideal.Value
public import proofs.«01_k».proof.Defs
public import proofs.«01_k».proof.Proof.Gen.Reference6Ideal.Run
public import proofs.«01_k».proof.Proof.Gen.Reference6Ideal.Read
public import Idealize.ShloMosaic.Adequacy
public import Idealize.ShloMosaic.Init
public import Idealize.ShloMosaic.Lib.Pipeline.ValueKit
public import Idealize.ShloMosaic.Lib.Pipeline.ReadBack
public import Idealize.ShloMosaic.Lib.Pointwise
public import Idealize.ShloMosaic.Lib.ValueIdx

@[expose] public section

set_option maxRecDepth 16384

noncomputable section

/-! The input projection: the call's array and the reference's, at an index. -/

namespace Cert.Kernel6Ideal.InProj

open Cert.Kernel6Ideal Cert.Kernel6Ideal.Gen Idealize.ShloMosaic Idealize.ShloMosaic.TcCoe Idealize.SL.Sem

/-- A block of the product. -/
theorem pay (a : Vec Ideal S256x2048 .bf16) (w : Vec Ideal S3200x2048 .bf16) (i : Fin 256) (j : Fin 3200) :
    k0_pay1 a w (ix2 i j) = ∑ d : Fin 2048, a (ix2 i d) * w (ix2 j d) := by
  unfold k0_pay1
  pointwise

/-- What a point leaves. -/
theorem out (a : Vec Ideal S256x2048 .bf16) (w : Vec Ideal S3200x2048 .bf16) : out0_2 a w = k0_pay1 a w := by
  frame_out

variable (m : (ℓ : Loc nD τ sig) → Buf (Elt Ideal) ℓ) (c : Dev nD)

/-- The input. -/
abbrev x : (⟨S8192x2048, .f32⟩ : BufTy).Contents (Elt Ideal) := m ((c.tc : Thread nD τ).loc main_arg0)
/-- The weights. -/
abbrev w : (⟨S2048x3136, .f32⟩ : BufTy).Contents (Elt Ideal) := m ((c.tc : Thread nD τ).loc main_arg1)

/-- The weights transposed. -/
abbrev wt : FVec Ideal S3136x2048 .bf16 := truncf (F := Ideal) (φ := .f32) .bf16 (transpose S3136x2048 [1, 0] (w m c) transposes_S2048x3136_S3136x2048_1_0) bitsLt_bf16_f32

/-- The call's second argument. -/
abbrev vb : Vec Ideal S3200x2048 .bf16 := V m c main_v6
/-- The call's first argument. -/
abbrev va : Vec Ideal S8192x2048 .bf16 := V m c main_v7

/-- The weights transposed, their three parts in the call's order, then zeros. -/
theorem V6 : vb m c =
    concatenate S3200x2048 0 [⟨S1024x2048, extractStridedSlice S1024x2048 ![0, 0] (wt m c) slices_S3136x2048_S1024x2048_0_0⟩,
      ⟨S2048x2048, extractStridedSlice S2048x2048 ![1088, 0] (wt m c) slices_S3136x2048_S2048x2048_1088_0⟩,
      ⟨S64x2048, extractStridedSlice S64x2048 ![1024, 0] (wt m c) slices_S3136x2048_S64x2048_1024_0⟩,
      ⟨S64x2048, broadcastInDim S64x2048 ![] bcast_S_S64x2048 (constant (F := Ideal) S_ .bf16 0x0000#16)⟩] concatenates_S1024x2048_S2048x2048_S64x2048_S64x2048_S3200x2048_d0 := by
  show StableHlo.after hostOps0 _ main_v6 = _
  after_results_simp <;> rfl
/-- What the array that goes into the call holds after the host's lines. -/
theorem V7 : va m c = truncf (F := Ideal) (φ := .f32) .bf16 (x m c) bitsLt_bf16_f32 := by
  show StableHlo.after hostOps0 _ main_v7 = _
  after_results_simp <;> rfl

/-- The block each window is at. -/
theorem idx : ∀ t : Fin cfg0.N, win0_0.index t = ![t.val, 0] ∧ win0_1.index t = ![0, 0] ∧ win0_2.index t = ![t.val, 0] :=
  (by decide +kernel : ∀ t : Fin grid0.N, _)

/-- The bound on the number of grid points. -/
theorem lt32 (t : Fin cfg0.N) : t.val < 32 := t.isLt

/-- Row `r` of a point's block. -/
abbrev row (t : Fin cfg0.N) (r : Fin 256) : Fin 8192 := ⟨t.val * 256 + r.val, by have := lt32 t; omega⟩

/-- What block 0 of a point holds, in terms of the arguments. -/
theorem blk0 (t : Fin cfg0.N) (i : Fin 256) (d : Fin 2048) :
    (iblk m c 0 t : Vec Ideal S256x2048 .bf16) (ix2 i d) = va m c (ix2 (row t i) d) := by blk_ext [iblk, idx t]
/-- What block 1 of a point holds, in terms of the arguments. -/
theorem blk1 (t : Fin cfg0.N) (j : Fin 3200) (d : Fin 2048) :
    (iblk m c 1 t : Vec Ideal S3200x2048 .bf16) (ix2 j d) = vb m c (ix2 j d) := by blk_ext [iblk, idx t]

/-- The point of a row. -/
abbrev pt (i : Fin 8192) : Fin cfg0.N := ⟨i.val / 256, by show _ < 32; omega⟩

/-- The call's array. -/
theorem arr (i : Fin 8192) (j : Fin 3200) :
    ((dats m 0 c).arrAt 2 cfg0.N : Vec Ideal S8192x3200 .f32) (ix2 i j)
      = ∑ d : Fin 2048, va m c (ix2 i d) * vb m c (ix2 j d) := by
  have hb := congrFun (Value.blocks2 m c (pt i) (flush0_2 (pt i))) (ix2 (⟨i.val % 256, Nat.mod_lt _ (by decide)⟩ : Fin 256) j)
  rw [Value.flushed2, out] at hb
  have hi : row (pt i) ⟨i.val % 256, Nat.mod_lt _ (by decide)⟩ = i := Fin.ext (by show i.val / 256 * 256 + i.val % 256 = i.val; omega)
  have ho := pay (iblk m c 0 (pt i)) (iblk m c 1 (pt i)) ⟨i.val % 256, Nat.mod_lt _ (by decide)⟩ j
  simp only [blk0, blk1, hi] at ho
  rw [← ho]
  refine Eq.trans ?_ hb
  blk_ext [idx (pt i)]

/-- The call's array is the reference's. -/
theorem res : ((dats m 0 c).arrAt 2 cfg0.N : Vec Ideal S8192x3200 .f32) = Cert.Reference6Ideal.Read.val_main_v5 (x m c) (w m c) := by
  refine funext fun y => ?_
  obtain ⟨i, j, rfl⟩ : ∃ (i : Fin 8192) (j : Fin 3200), y = ix2 i j := ⟨y 0, y 1, by funext a; fin_cases a <;> rfl⟩
  rw [arr, V6, V7]
  unfold Cert.Reference6Ideal.Read.val_main_v5 Cert.Reference6Ideal.Read.val_main_v4 Cert.Reference6Ideal.Read.val_main_cst Cert.Reference6Ideal.Read.val_main_v3 Cert.Reference6Ideal.Read.val_main_v2 Cert.Reference6Ideal.Read.val_main_v1 Cert.Reference6Ideal.Read.val_main_v0 wt
  generalize x m c = a
  generalize w m c = b
  pointwise
  split_ifs <;> first | rfl | exact Finset.sum_eq_zero (M := EReal) fun s _ => mul_zero (M₀ := EReal) _

/-- From arguments that agree, the call and the reference both run and return one array. -/
theorem algebraic : @Cert.algebraic_Kernel6Ideal_Reference6Ideal Cert.Kernel6Ideal.Gen.facts Cert.Reference6Ideal.Gen.facts := by
  intro m g m' g' _ ha
  refine ⟨fun c => (dats m 0 c).arrAt 2 cfg0.N, Value.run_blocks m g, ?_⟩
  refine (θ_run _ _ _).mono (fun r h c => ?_) (Cert.Reference6Ideal.Value.run m' g')
  obtain ⟨h0, hk⟩ := h c
  obtain ⟨e0, e1⟩ := ha c
  refine ⟨h0.trans ?_, hk⟩
  rw [Cert.Reference6Ideal.Read.val_main_v5_eq, e0, e1]
  exact (res m c).symm

/-- The reference keeps its arguments and leaves its counters at zero: it has none. -/
theorem reference_frame : @Cert.quiescent_Reference6Ideal Cert.Reference6Ideal.Gen.facts := by
  intro m ρ _
  exact (θ_run _ _ _).mono (fun r h => ⟨fun c => (h c).2, sem_eq_zero_of_no_sems (by decide) r.2⟩) (Cert.Reference6Ideal.Value.run m ρ)

end Cert.Kernel6Ideal.InProj

end
-- ==== Proof.WgIn.lean ====
module

public import proofs.«01_k».proof.Proof.Gen.Kernel7Ideal.Value
public import proofs.«01_k».proof.Defs
public import proofs.«01_k».proof.Proof.Gen.Reference7Ideal.Run
public import proofs.«01_k».proof.Proof.Gen.Reference7Ideal.Read
public import Idealize.ShloMosaic.Adequacy
public import Idealize.ShloMosaic.Init
public import Idealize.ShloMosaic.Lib.Pipeline.ValueKit
public import Idealize.ShloMosaic.Lib.Pipeline.ReadBack
public import Idealize.ShloMosaic.Lib.Pointwise
public import Idealize.ShloMosaic.Lib.ValueIdx

@[expose] public section

set_option maxRecDepth 16384

noncomputable section

/-! The gradient of the input weights, transposed: the call's array and the reference's, at an index. -/

namespace Cert.Kernel7Ideal.Wg

open Cert.Kernel7Ideal Cert.Kernel7Ideal.Gen Idealize.ShloMosaic Idealize.ShloMosaic.TcCoe Idealize.SL.Sem

/-- A block's first product. -/
theorem pay1 (a : Vec Ideal S2048x640 .bf16) (b : Vec Ideal S2048x1024 .bf16) (i : Fin 640) (j : Fin 1024) :
    k0_pay1 a b (ix3 0 i j) = ∑ s : Fin 2048, a (ix2 s i) * b (ix2 s j) := by
  unfold k0_pay1
  pointwise

/-- A block's later product, added to what is there. -/
theorem pay2 (w : Vec Ideal S1x640x1024 .f32) (a : Vec Ideal S2048x640 .bf16) (b : Vec Ideal S2048x1024 .bf16) (i : Fin 640) (j : Fin 1024) :
    k0_pay2 w a b (ix3 0 i j) = w (ix3 0 i j) + ∑ s : Fin 2048, a (ix2 s i) * b (ix2 s j) := by
  unfold k0_pay2
  pointwise

variable (m : (ℓ : Loc nD τ sig) → Buf (Elt Ideal) ℓ) (c : Dev nD)

/-- What the first point of a sum leaves in the output's block. -/
theorem outA (t : Fin cfg0.N) (h0 : t.val % 4 = 0) : outsAt0 m c t.val t.isLt = k0_pay1 (iblk m c 0 t) (iblk m c 1 t) := by
  rw [outsAt0_A m c t h0 (by omega)]
  frame_out

/-- What a later point of a sum leaves in the output's block: what was there, and its own term. -/
theorem outB (t : Fin cfg0.N) (h0 : ¬t.val % 4 = 0) :
    outsAt0 m c t.val t.isLt = k0_pay2 (outsAt0 m c (t.val - 1) (Nat.lt_of_le_of_lt (Nat.sub_le _ _) t.isLt)) (iblk m c 0 t) (iblk m c 1 t) := by
  rw [outsAt0_B m c t h0 (by omega)]
  frame_out

/-- The input. -/
abbrev x : (⟨S8192x2048, .f32⟩ : BufTy).Contents (Elt Ideal) := m ((c.tc : Thread nD τ).loc main_arg0)
/-- The output's gradient. -/
abbrev ct : (⟨S8192x3136, .f32⟩ : BufTy).Contents (Elt Ideal) := m ((c.tc : Thread nD τ).loc main_arg2)

/-- The call's first argument. -/
abbrev va : Vec Ideal S8192x3200 .bf16 := V m c main_v5
/-- The call's second argument. -/
abbrev vb : Vec Ideal S8192x2048 .bf16 := V m c main_v6

/-- The gradient's three parts in the call's order, then zeros. -/
theorem V_v5 : va m c = truncf (F := Ideal) (φ := .f32) .bf16
    (concatenate S8192x3200 1 [⟨S8192x1024, extractStridedSlice S8192x1024 ![0, 0] (ct m c) slices_S8192x3136_S8192x1024_0_0⟩,
      ⟨S8192x2048, extractStridedSlice S8192x2048 ![0, 1088] (ct m c) slices_S8192x3136_S8192x2048_0_1088⟩,
      ⟨S8192x64, extractStridedSlice S8192x64 ![0, 1024] (ct m c) slices_S8192x3136_S8192x64_0_1024⟩,
      ⟨S8192x64, broadcastInDim S8192x64 ![] bcast_S_S8192x64 (constant (F := Ideal) S_ .f32 0x00000000#32)⟩] concatenates_S8192x1024_S8192x2048_S8192x64_S8192x64_S8192x3200_d1) bitsLt_bf16_f32 := by
  show StableHlo.after hostOps0 _ main_v5 = _
  after_results_simp <;> rfl
/-- What the array that goes into the call holds after the host's lines. -/
theorem V_v6 : vb m c = truncf (F := Ideal) (φ := .f32) .bf16 (x m c) bitsLt_bf16_f32 := by
  show StableHlo.after hostOps0 _ main_v6 = _
  after_results_simp <;> rfl

/-- The block each window is at. -/
theorem idx : ∀ t : Fin cfg0.N, win0_0.index t = ![t.val % 4, t.val / 8] ∧ win0_1.index t = ![t.val % 4, t.val / 4 % 2] ∧ win0_2.index t = ![0, t.val / 8, t.val / 4 % 2] :=
  (by decide +kernel : ∀ t : Fin grid0.N, _)

/-- The bound on the number of grid points. -/
theorem ltN (t : Fin cfg0.N) : t.val < 40 := t.isLt

/-- Row `r` of a point's block of the result. -/
abbrev row (t : Fin cfg0.N) (r : Fin 640) : Fin 3200 := ⟨t.val / 8 * 640 + r.val, by have := ltN t; omega⟩
/-- Position `s` of a point's block. -/
abbrev pos (t : Fin cfg0.N) (s : Fin 2048) : Fin 8192 := ⟨t.val % 4 * 2048 + s.val, by omega⟩
/-- Column `j` of a point's block. -/
abbrev clm (t : Fin cfg0.N) (j : Fin 1024) : Fin 2048 := ⟨t.val / 4 % 2 * 1024 + j.val, by have := ltN t; omega⟩

/-- What block 0 of a point holds, in terms of the arguments. -/
theorem blk0 (t : Fin cfg0.N) (s : Fin 2048) (i : Fin 640) :
    (iblk m c 0 t : Vec Ideal S2048x640 .bf16) (ix2 s i) = va m c (ix2 (pos t s) (row t i)) := by blk_ext [iblk, idx t]
/-- What block 1 of a point holds, in terms of the arguments. -/
theorem blk1 (t : Fin cfg0.N) (s : Fin 2048) (j : Fin 1024) :
    (iblk m c 1 t : Vec Ideal S2048x1024 .bf16) (ix2 s j) = vb m c (ix2 (pos t s) (clm t j)) := by blk_ext [iblk, idx t]

/-- What a point adds. -/
def term (t : Fin cfg0.N) (y : S1x640x1024.Idx) : EReal :=
  ∑ s : Fin 2048, va m c (ix2 (pos t s) (row t (y 1))) * vb m c (ix2 (pos t s) (clm t (y 2)))

/-- An index in terms of its coordinates. -/
theorem exists_ix (y : S1x640x1024.Idx) : ∃ (i : Fin 640) (j : Fin 1024), y = ix3 0 i j :=
  ⟨y 1, y 2, by funext a; fin_cases a; exacts [Subsingleton.elim (α := Fin 1) _ _, rfl, rfl]⟩

/-- The block after its last product. -/
theorem outs (t : Fin cfg0.N) (hr : t.val % 4 = 4 - 1) (y : S1x640x1024.Idx) :
    outsAt0 m c t.val t.isLt y = ∑ s : Fin 4, term m c ⟨4 * (t.val / 4) + s.val, by have := ltN t; show _ < 40; omega⟩ y := by
  rw [Pipeline.eq_sum_fin_of_reset_step_apply_of_flush (fun n h => outsAt0 m c n h) 4 (fun _ => 0) (term m c)
    (fun t h j => by
      obtain ⟨i, j, rfl⟩ := exists_ix j
      rw [outA m c t h, pay1, zero_add]
      exact Finset.sum_congr rfl fun s _ => by rw [blk0, blk1]; rfl)
    (fun t h j => by
      obtain ⟨i, j, rfl⟩ := exists_ix j
      rw [outB m c t h, pay2]
      exact congrArg (_ + ·) (Finset.sum_congr rfl fun s _ => by rw [blk0, blk1]; rfl)) t hr y]
  exact zero_add _

/-- Two points that write back are of different blocks. -/
theorem disjoint2 : ∀ t t' : Fin cfg0.N, (cfg0.win 2).flush t = true → (cfg0.win 2).flush t' = true → t ≠ t' →
    Disjoint ((cfg0.win 2).blk t).view.set ((cfg0.win 2).blk t').view.set := by
  intro t t' hf hf' hne
  refine (cfg0.win 2).disjoint_blk fun h => hne (Fin.ext ?_)
  have h1 := (flush0_2 t).mp hf
  have h2 := (flush0_2 t').mp hf'
  have l1 := ltN t
  have l2 := ltN t'
  have e : win0_2.index t = win0_2.index t' := h
  rw [(idx t).2.2, (idx t').2.2] at e
  have h3 : t.val / 8 = t'.val / 8 := congrFun e 1
  have h4 : t.val / 4 % 2 = t'.val / 4 % 2 := congrFun e 2
  omega

/-- The last point of an index's block. -/
abbrev pt (i : Fin 3200) (j : Fin 2048) : Fin cfg0.N := ⟨i.val / 640 * 8 + j.val / 1024 * 4 + 3, by show _ < 40; omega⟩

/-- The call's array. -/
theorem arr (i : Fin 3200) (j : Fin 2048) :
    ((dats m 0 c).arrAt 2 cfg0.N : Vec Ideal S1x3200x2048 .f32) (ix3 0 i j) = ∑ s : Fin 8192, va m c (ix2 s i) * vb m c (ix2 s j) := by
  have hr : (pt i j).val % 4 = 4 - 1 := by show (i.val / 640 * 8 + j.val / 1024 * 4 + 3) % 4 = 4 - 1; omega
  have hb := congrFun ((dats m 0 c).read_blk_arrAt_eq_flushed 2 disjoint2 cfg0.N (pt i j) (pt i j).isLt ((flush0_2 (pt i j)).mpr hr)) (ix3 0 (⟨i.val % 640, Nat.mod_lt _ (by decide)⟩ : Fin 640) (⟨j.val % 1024, by omega⟩ : Fin 1024))
  rw [Value.flushed2] at hb
  have ho := outs m c (pt i j) hr (ix3 0 (⟨i.val % 640, Nat.mod_lt _ (by decide)⟩ : Fin 640) (⟨j.val % 1024, by omega⟩ : Fin 1024))
  have hs : ∀ s : Fin 4, term m c ⟨4 * ((pt i j).val / 4) + s.val, by have := ltN (pt i j); show _ < 40; omega⟩ (ix3 0 (⟨i.val % 640, Nat.mod_lt _ (by decide)⟩ : Fin 640) (⟨j.val % 1024, by omega⟩ : Fin 1024))
      = ∑ k : Fin 2048, (fun k : Fin 8192 => va m c (ix2 k i) * vb m c (ix2 k j)) ⟨s.val * 2048 + k.val, by omega⟩ := by
    intro s
    refine Finset.sum_congr rfl fun k _ => ?_
    have h1 : row ⟨4 * ((pt i j).val / 4) + s.val, by have := ltN (pt i j); show _ < 40; omega⟩ ⟨i.val % 640, Nat.mod_lt _ (by decide)⟩ = i :=
      Fin.ext (by show (4 * ((i.val / 640 * 8 + j.val / 1024 * 4 + 3) / 4) + s.val) / 8 * 640 + i.val % 640 = i.val; omega)
    have h2 : pos ⟨4 * ((pt i j).val / 4) + s.val, by have := ltN (pt i j); show _ < 40; omega⟩ k = ⟨s.val * 2048 + k.val, by omega⟩ :=
      Fin.ext (by show (4 * ((i.val / 640 * 8 + j.val / 1024 * 4 + 3) / 4) + s.val) % 4 * 2048 + k.val = s.val * 2048 + k.val; omega)
    have h3 : clm ⟨4 * ((pt i j).val / 4) + s.val, by have := ltN (pt i j); show _ < 40; omega⟩ (⟨j.val % 1024, by omega⟩ : Fin 1024) = j :=
      Fin.ext (by show (4 * ((i.val / 640 * 8 + j.val / 1024 * 4 + 3) / 4) + s.val) / 4 % 2 * 1024 + j.val % 1024 = j.val; omega)
    show va m c (ix2 (pos _ k) (row _ ⟨i.val % 640, Nat.mod_lt _ (by decide)⟩)) * vb m c (ix2 (pos _ k) (clm _ (⟨j.val % 1024, by omega⟩ : Fin 1024))) = _
    rw [h1, h2, h3]
  rw [Finset.sum_congr rfl fun s _ => hs s, Fin.sum_mul_add_fin 4 2048 (fun k : Fin 8192 => va m c (ix2 k i) * vb m c (ix2 k j))] at ho
  rw [← ho]
  refine Eq.trans ?_ hb
  blk_ext [idx (pt i j)]

/-- The call's array is the reference's. -/
theorem res : ((dats m 0 c).arrAt 2 cfg0.N : Vec Ideal S1x3200x2048 .f32) = Cert.Reference7Ideal.Read.val_main_v10 (x m c) (ct m c) := by
  refine funext fun y => ?_
  obtain ⟨i, j, rfl⟩ : ∃ (i : Fin 3200) (j : Fin 2048), y = ix3 0 i j :=
    ⟨y 1, y 2, by funext a; fin_cases a; exacts [Subsingleton.elim (α := Fin 1) _ _, rfl, rfl]⟩
  rw [arr, V_v5, V_v6]
  unfold Cert.Reference7Ideal.Read.val_main_v10 Cert.Reference7Ideal.Read.val_main_v9 Cert.Reference7Ideal.Read.val_main_v8 Cert.Reference7Ideal.Read.val_main_cst Cert.Reference7Ideal.Read.val_main_v7 Cert.Reference7Ideal.Read.val_main_v6 Cert.Reference7Ideal.Read.val_main_v5 Cert.Reference7Ideal.Read.val_main_v4 Cert.Reference7Ideal.Read.val_main_v2 Cert.Reference7Ideal.Read.val_main_v1
  generalize x m c = a
  generalize ct m c = b
  pointwise
  split_ifs <;> first | rfl | exact Finset.sum_eq_zero (M := EReal) fun s _ => zero_mul (M₀ := EReal) _

/-- From arguments that agree, the call and the reference both run and return one array. -/
theorem algebraic : @Cert.algebraic_Kernel7Ideal_Reference7Ideal Cert.Kernel7Ideal.Gen.facts Cert.Reference7Ideal.Gen.facts := by
  intro m g m' g' _ ha
  refine ⟨fun c => (dats m 0 c).arrAt 2 cfg0.N, Value.run_blocks m g, ?_⟩
  refine (θ_run _ _ _).mono (fun r h c => ?_) (Cert.Reference7Ideal.Value.run m' g')
  obtain ⟨h0, hk⟩ := h c
  obtain ⟨e0, e1, e2⟩ := ha c
  refine ⟨h0.trans ?_, hk⟩
  rw [Cert.Reference7Ideal.Read.val_main_v10_eq, e0, e2]
  exact (res m c).symm

/-- The reference keeps its arguments and leaves its counters at zero: it has none. -/
theorem reference_frame : @Cert.quiescent_Reference7Ideal Cert.Reference7Ideal.Gen.facts := by
  intro m ρ _
  exact (θ_run _ _ _).mono (fun r h => ⟨fun c => (h c).2, sem_eq_zero_of_no_sems (by decide) r.2⟩) (Cert.Reference7Ideal.Value.run m ρ)

end Cert.Kernel7Ideal.Wg

end
-- ==== Proof.WgOut.lean ====
module

public import proofs.«01_k».proof.Proof.Gen.Kernel8Ideal.Value
public import proofs.«01_k».proof.Defs
public import proofs.«01_k».proof.Proof.Gen.Reference8Ideal.Run
public import proofs.«01_k».proof.Proof.Gen.Reference8Ideal.Read
public import Idealize.ShloMosaic.Adequacy
public import Idealize.ShloMosaic.Init
public import Idealize.ShloMosaic.Lib.Pipeline.ValueKit
public import Idealize.ShloMosaic.Lib.Pipeline.ReadBack
public import Idealize.ShloMosaic.Lib.Pointwise
public import Idealize.ShloMosaic.Lib.ValueIdx

@[expose] public section

set_option maxRecDepth 16384

noncomputable section

/-! The gradient of half of the output weights: the call's array and the reference's, at an index. -/

namespace Cert.Kernel8Ideal.Wg

open Cert.Kernel8Ideal Cert.Kernel8Ideal.Gen Idealize.ShloMosaic Idealize.ShloMosaic.TcCoe Idealize.SL.Sem

/-- A block's first product. -/
theorem pay1 (a : Vec Ideal S2048x1024 .bf16) (b : Vec Ideal S2048x1024 .bf16) (i : Fin 1024) (j : Fin 1024) :
    k0_pay1 a b (ix3 0 i j) = ∑ s : Fin 2048, a (ix2 s i) * b (ix2 s j) := by
  unfold k0_pay1
  pointwise

/-- A block's later product, added to what is there. -/
theorem pay2 (w : Vec Ideal S1x1024x1024 .f32) (a : Vec Ideal S2048x1024 .bf16) (b : Vec Ideal S2048x1024 .bf16) (i : Fin 1024) (j : Fin 1024) :
    k0_pay2 w a b (ix3 0 i j) = w (ix3 0 i j) + ∑ s : Fin 2048, a (ix2 s i) * b (ix2 s j) := by
  unfold k0_pay2
  pointwise

variable (m : (ℓ : Loc nD τ sig) → Buf (Elt Ideal) ℓ) (c : Dev nD)

/-- What the first point of a sum leaves in the output's block. -/
theorem outA (t : Fin cfg0.N) (h0 : t.val % 4 = 0) : outsAt0 m c t.val t.isLt = k0_pay1 (iblk m c 0 t) (iblk m c 1 t) := by
  rw [outsAt0_A m c t h0 (by omega)]
  frame_out

/-- What a later point of a sum leaves in the output's block: what was there, and its own term. -/
theorem outB (t : Fin cfg0.N) (h0 : ¬t.val % 4 = 0) :
    outsAt0 m c t.val t.isLt = k0_pay2 (outsAt0 m c (t.val - 1) (Nat.lt_of_le_of_lt (Nat.sub_le _ _) t.isLt)) (iblk m c 0 t) (iblk m c 1 t) := by
  rw [outsAt0_B m c t h0 (by omega)]
  frame_out

/-- The input. -/
abbrev x : (⟨S8192x1024, .f32⟩ : BufTy).Contents (Elt Ideal) := m ((c.tc : Thread nD τ).loc main_arg0)
/-- The output's gradient. -/
abbrev ct : (⟨S8192x2048, .f32⟩ : BufTy).Contents (Elt Ideal) := m ((c.tc : Thread nD τ).loc main_arg2)

/-- The call's first argument. -/
abbrev va : Vec Ideal S8192x1024 .bf16 := V m c main_v0
/-- The call's second argument. -/
abbrev vb : Vec Ideal S8192x2048 .bf16 := V m c main_v1

/-- What the array that goes into the call holds after the host's lines. -/
theorem V_v0 : va m c = truncf (F := Ideal) (φ := .f32) .bf16 (x m c) bitsLt_bf16_f32 := by
  show StableHlo.after hostOps0 _ main_v0 = _
  after_results_simp <;> rfl
/-- What the array that goes into the call holds after the host's lines. -/
theorem V_v1 : vb m c = truncf (F := Ideal) (φ := .f32) .bf16 (ct m c) bitsLt_bf16_f32 := by
  show StableHlo.after hostOps0 _ main_v1 = _
  after_results_simp <;> rfl

/-- The block each window is at. -/
theorem idx : ∀ t : Fin cfg0.N, win0_0.index t = ![t.val % 4, 0] ∧ win0_1.index t = ![t.val % 4, t.val / 4] ∧ win0_2.index t = ![0, 0, t.val / 4] :=
  (by decide +kernel : ∀ t : Fin grid0.N, _)

/-- The bound on the number of grid points. -/
theorem ltN (t : Fin cfg0.N) : t.val < 8 := t.isLt

/-- Row `r` of a point's block of the result. -/
abbrev row (t : Fin cfg0.N) (r : Fin 1024) : Fin 1024 := ⟨0 * 1024 + r.val, by have := ltN t; omega⟩
/-- Position `s` of a point's block. -/
abbrev pos (t : Fin cfg0.N) (s : Fin 2048) : Fin 8192 := ⟨t.val % 4 * 2048 + s.val, by omega⟩
/-- Column `j` of a point's block. -/
abbrev clm (t : Fin cfg0.N) (j : Fin 1024) : Fin 2048 := ⟨t.val / 4 * 1024 + j.val, by have := ltN t; omega⟩

/-- What block 0 of a point holds, in terms of the arguments. -/
theorem blk0 (t : Fin cfg0.N) (s : Fin 2048) (i : Fin 1024) :
    (iblk m c 0 t : Vec Ideal S2048x1024 .bf16) (ix2 s i) = va m c (ix2 (pos t s) (row t i)) := by blk_ext [iblk, idx t]
/-- What block 1 of a point holds, in terms of the arguments. -/
theorem blk1 (t : Fin cfg0.N) (s : Fin 2048) (j : Fin 1024) :
    (iblk m c 1 t : Vec Ideal S2048x1024 .bf16) (ix2 s j) = vb m c (ix2 (pos t s) (clm t j)) := by blk_ext [iblk, idx t]

/-- What a point adds. -/
def term (t : Fin cfg0.N) (y : S1x1024x1024.Idx) : EReal :=
  ∑ s : Fin 2048, va m c (ix2 (pos t s) (row t (y 1))) * vb m c (ix2 (pos t s) (clm t (y 2)))

/-- An index in terms of its coordinates. -/
theorem exists_ix (y : S1x1024x1024.Idx) : ∃ (i : Fin 1024) (j : Fin 1024), y = ix3 0 i j :=
  ⟨y 1, y 2, by funext a; fin_cases a; exacts [Subsingleton.elim (α := Fin 1) _ _, rfl, rfl]⟩

/-- The block after its last product. -/
theorem outs (t : Fin cfg0.N) (hr : t.val % 4 = 4 - 1) (y : S1x1024x1024.Idx) :
    outsAt0 m c t.val t.isLt y = ∑ s : Fin 4, term m c ⟨4 * (t.val / 4) + s.val, by have := ltN t; show _ < 8; omega⟩ y := by
  rw [Pipeline.eq_sum_fin_of_reset_step_apply_of_flush (fun n h => outsAt0 m c n h) 4 (fun _ => 0) (term m c)
    (fun t h j => by
      obtain ⟨i, j, rfl⟩ := exists_ix j
      rw [outA m c t h, pay1, zero_add]
      exact Finset.sum_congr rfl fun s _ => by rw [blk0, blk1]; rfl)
    (fun t h j => by
      obtain ⟨i, j, rfl⟩ := exists_ix j
      rw [outB m c t h, pay2]
      exact congrArg (_ + ·) (Finset.sum_congr rfl fun s _ => by rw [blk0, blk1]; rfl)) t hr y]
  exact zero_add _

/-- Two points that write back are of different blocks. -/
theorem disjoint2 : ∀ t t' : Fin cfg0.N, (cfg0.win 2).flush t = true → (cfg0.win 2).flush t' = true → t ≠ t' →
    Disjoint ((cfg0.win 2).blk t).view.set ((cfg0.win 2).blk t').view.set := by
  intro t t' hf hf' hne
  refine (cfg0.win 2).disjoint_blk fun h => hne (Fin.ext ?_)
  have h1 := (flush0_2 t).mp hf
  have h2 := (flush0_2 t').mp hf'
  have l1 := ltN t
  have l2 := ltN t'
  have e : win0_2.index t = win0_2.index t' := h
  rw [(idx t).2.2, (idx t').2.2] at e
  have h4 : t.val / 4 = t'.val / 4 := congrFun e 2
  omega

/-- The last point of an index's block. -/
abbrev pt (i : Fin 1024) (j : Fin 2048) : Fin cfg0.N := ⟨j.val / 1024 * 4 + 3, by show _ < 8; omega⟩

/-- The call's array. -/
theorem arr (i : Fin 1024) (j : Fin 2048) :
    ((dats m 0 c).arrAt 2 cfg0.N : Vec Ideal S1x1024x2048 .f32) (ix3 0 i j) = ∑ s : Fin 8192, va m c (ix2 s i) * vb m c (ix2 s j) := by
  have hr : (pt i j).val % 4 = 4 - 1 := by show (j.val / 1024 * 4 + 3) % 4 = 4 - 1; omega
  have hb := congrFun ((dats m 0 c).read_blk_arrAt_eq_flushed 2 disjoint2 cfg0.N (pt i j) (pt i j).isLt ((flush0_2 (pt i j)).mpr hr)) (ix3 0 (⟨i.val % 1024, Nat.mod_lt _ (by decide)⟩ : Fin 1024) (⟨j.val % 1024, by omega⟩ : Fin 1024))
  rw [Value.flushed2] at hb
  have ho := outs m c (pt i j) hr (ix3 0 (⟨i.val % 1024, Nat.mod_lt _ (by decide)⟩ : Fin 1024) (⟨j.val % 1024, by omega⟩ : Fin 1024))
  have hs : ∀ s : Fin 4, term m c ⟨4 * ((pt i j).val / 4) + s.val, by have := ltN (pt i j); show _ < 8; omega⟩ (ix3 0 (⟨i.val % 1024, Nat.mod_lt _ (by decide)⟩ : Fin 1024) (⟨j.val % 1024, by omega⟩ : Fin 1024))
      = ∑ k : Fin 2048, (fun k : Fin 8192 => va m c (ix2 k i) * vb m c (ix2 k j)) ⟨s.val * 2048 + k.val, by omega⟩ := by
    intro s
    refine Finset.sum_congr rfl fun k _ => ?_
    have h1 : row ⟨4 * ((pt i j).val / 4) + s.val, by have := ltN (pt i j); show _ < 8; omega⟩ ⟨i.val % 1024, Nat.mod_lt _ (by decide)⟩ = i :=
      Fin.ext (by show 0 * 1024 + i.val % 1024 = i.val; omega)
    have h2 : pos ⟨4 * ((pt i j).val / 4) + s.val, by have := ltN (pt i j); show _ < 8; omega⟩ k = ⟨s.val * 2048 + k.val, by omega⟩ :=
      Fin.ext (by show (4 * ((j.val / 1024 * 4 + 3) / 4) + s.val) % 4 * 2048 + k.val = s.val * 2048 + k.val; omega)
    have h3 : clm ⟨4 * ((pt i j).val / 4) + s.val, by have := ltN (pt i j); show _ < 8; omega⟩ (⟨j.val % 1024, by omega⟩ : Fin 1024) = j :=
      Fin.ext (by show (4 * ((j.val / 1024 * 4 + 3) / 4) + s.val) / 4 * 1024 + j.val % 1024 = j.val; omega)
    show va m c (ix2 (pos _ k) (row _ ⟨i.val % 1024, Nat.mod_lt _ (by decide)⟩)) * vb m c (ix2 (pos _ k) (clm _ (⟨j.val % 1024, by omega⟩ : Fin 1024))) = _
    rw [h1, h2, h3]
  rw [Finset.sum_congr rfl fun s _ => hs s, Fin.sum_mul_add_fin 4 2048 (fun k : Fin 8192 => va m c (ix2 k i) * vb m c (ix2 k j))] at ho
  rw [← ho]
  refine Eq.trans ?_ hb
  blk_ext [idx (pt i j)]

/-- The call's array is the reference's. -/
theorem res : ((dats m 0 c).arrAt 2 cfg0.N : Vec Ideal S1x1024x2048 .f32) = Cert.Reference8Ideal.Read.val_main_v4 (x m c) (ct m c) := by
  refine funext fun y => ?_
  obtain ⟨i, j, rfl⟩ : ∃ (i : Fin 1024) (j : Fin 2048), y = ix3 0 i j :=
    ⟨y 1, y 2, by funext a; fin_cases a; exacts [Subsingleton.elim (α := Fin 1) _ _, rfl, rfl]⟩
  rw [arr, V_v0, V_v1]
  unfold Cert.Reference8Ideal.Read.val_main_v4 Cert.Reference8Ideal.Read.val_main_v2 Cert.Reference8Ideal.Read.val_main_v1
  generalize x m c = a
  generalize ct m c = b
  pointwise
  exact Finset.sum_congr (M := EReal) rfl fun s _ => EReal.mul_comm _ _

/-- From arguments that agree, the call and the reference both run and return one array. -/
theorem algebraic : @Cert.algebraic_Kernel8Ideal_Reference8Ideal Cert.Kernel8Ideal.Gen.facts Cert.Reference8Ideal.Gen.facts := by
  intro m g m' g' _ ha
  refine ⟨fun c => (dats m 0 c).arrAt 2 cfg0.N, Value.run_blocks m g, ?_⟩
  refine (θ_run _ _ _).mono (fun r h c => ?_) (Cert.Reference8Ideal.Value.run m' g')
  obtain ⟨h0, hk⟩ := h c
  obtain ⟨e0, e1, e2⟩ := ha c
  refine ⟨h0.trans ?_, hk⟩
  rw [Cert.Reference8Ideal.Read.val_main_v4_eq, e0, e2]
  exact (res m c).symm

/-- The reference keeps its arguments and leaves its counters at zero: it has none. -/
theorem reference_frame : @Cert.quiescent_Reference8Ideal Cert.Reference8Ideal.Gen.facts := by
  intro m ρ _
  exact (θ_run _ _ _).mono (fun r h => ⟨fun c => (h c).2, sem_eq_zero_of_no_sems (by decide) r.2⟩) (Cert.Reference8Ideal.Value.run m ρ)

end Cert.Kernel8Ideal.Wg

end
-- ==== Proof.WgUq.lean ====
module

public import proofs.«01_k».proof.Proof.Gen.Kernel9Ideal.Value
public import proofs.«01_k».proof.Defs
public import proofs.«01_k».proof.Proof.Gen.Reference9Ideal.Run
public import proofs.«01_k».proof.Proof.Gen.Reference9Ideal.Read
public import Idealize.ShloMosaic.Adequacy
public import Idealize.ShloMosaic.Init
public import Idealize.ShloMosaic.Lib.Pipeline.ValueKit
public import Idealize.ShloMosaic.Lib.Pipeline.ReadBack
public import Idealize.ShloMosaic.Lib.Pointwise
public import Idealize.ShloMosaic.Lib.ValueIdx

@[expose] public section

set_option maxRecDepth 16384

noncomputable section

/-! The gradient of the queries' weights: the call's array and the reference's, at an index. -/

namespace Cert.Kernel9Ideal.Wg

open Cert.Kernel9Ideal Cert.Kernel9Ideal.Gen Idealize.ShloMosaic Idealize.ShloMosaic.TcCoe Idealize.SL.Sem

/-- A block's first product. -/
theorem pay1 (a : Vec Ideal S2048x512 .bf16) (b : Vec Ideal S2048x1024 .bf16) (i : Fin 512) (j : Fin 1024) :
    k0_pay1 a b (ix3 0 i j) = ∑ s : Fin 2048, a (ix2 s i) * b (ix2 s j) := by
  unfold k0_pay1
  pointwise

/-- A block's later product, added to what is there. -/
theorem pay2 (w : Vec Ideal S1x512x1024 .f32) (a : Vec Ideal S2048x512 .bf16) (b : Vec Ideal S2048x1024 .bf16) (i : Fin 512) (j : Fin 1024) :
    k0_pay2 w a b (ix3 0 i j) = w (ix3 0 i j) + ∑ s : Fin 2048, a (ix2 s i) * b (ix2 s j) := by
  unfold k0_pay2
  pointwise

variable (m : (ℓ : Loc nD τ sig) → Buf (Elt Ideal) ℓ) (c : Dev nD)

/-- What the first point of a sum leaves in the output's block. -/
theorem outA (t : Fin cfg0.N) (h0 : t.val % 4 = 0) : outsAt0 m c t.val t.isLt = k0_pay1 (iblk m c 0 t) (iblk m c 1 t) := by
  rw [outsAt0_A m c t h0 (by omega)]
  frame_out

/-- What a later point of a sum leaves in the output's block: what was there, and its own term. -/
theorem outB (t : Fin cfg0.N) (h0 : ¬t.val % 4 = 0) :
    outsAt0 m c t.val t.isLt = k0_pay2 (outsAt0 m c (t.val - 1) (Nat.lt_of_le_of_lt (Nat.sub_le _ _) t.isLt)) (iblk m c 0 t) (iblk m c 1 t) := by
  rw [outsAt0_B m c t h0 (by omega)]
  frame_out

/-- The input. -/
abbrev x : (⟨S8192x512, .f32⟩ : BufTy).Contents (Elt Ideal) := m ((c.tc : Thread nD τ).loc main_arg0)
/-- The output's gradient. -/
abbrev ct : (⟨S8192x1536, .f32⟩ : BufTy).Contents (Elt Ideal) := m ((c.tc : Thread nD τ).loc main_arg2)

/-- The call's second argument. -/
abbrev vb : Vec Ideal S8192x2048 .bf16 := V m c main_v8
/-- The call's first argument. -/
abbrev va : Vec Ideal S8192x512 .bf16 := V m c main_v7

/-- The gradient's columns: all heads' without position, then all heads' with position, zeros after each. -/
theorem V_v8 : vb m c = truncf (F := Ideal) (φ := .f32) .bf16
    (concatenate S8192x2048 1 [⟨S8192x1024, shapeCast S8192x1024 (extractStridedSlice S8192x8x128 ![0, 0, 0] (shapeCast S8192x8x192 (ct m c) shapeCasts_S8192x1536_S8192x8x192) slices_S8192x8x192_S8192x8x128_0_0_0) shapeCasts_S8192x8x128_S8192x1024⟩,
      ⟨S8192x1024, shapeCast S8192x1024 (pad S8192x8x128 ![0, 0, 0] ![0, 0, 64] ![0, 0, 0] (extractStridedSlice S8192x8x64 ![0, 0, 128] (shapeCast S8192x8x192 (ct m c) shapeCasts_S8192x1536_S8192x8x192) slices_S8192x8x192_S8192x8x64_0_0_128) (sitofp (F := Ideal) .f32 (constantI S_ 32 0#32)) pads_S8192x8x64_S8192x8x128_000_000_0640 h_S_) shapeCasts_S8192x8x128_S8192x1024⟩] concatenates_S8192x1024_S8192x1024_S8192x2048_d1) bitsLt_bf16_f32 := by
  show StableHlo.after (List.flatten [hostOps0, hostOps0_1, hostOps0_2]) _ main_v8 = _
  after_results_simp <;> rfl
/-- What the array that goes into the call holds after the host's lines. -/
theorem V_v7 : va m c = truncf (F := Ideal) (φ := .f32) .bf16 (x m c) bitsLt_bf16_f32 := by
  show StableHlo.after (List.flatten [hostOps0, hostOps0_1, hostOps0_2]) _ main_v7 = _
  after_results_simp <;> rfl

/-- The block each window is at. -/
theorem idx : ∀ t : Fin cfg0.N, win0_0.index t = ![t.val % 4, 0] ∧ win0_1.index t = ![t.val % 4, t.val / 4] ∧ win0_2.index t = ![0, 0, t.val / 4] :=
  (by decide +kernel : ∀ t : Fin grid0.N, _)

/-- The bound on the number of grid points. -/
theorem ltN (t : Fin cfg0.N) : t.val < 8 := t.isLt

/-- Row `r` of a point's block of the result. -/
abbrev row (t : Fin cfg0.N) (r : Fin 512) : Fin 512 := ⟨0 * 512 + r.val, by have := ltN t; omega⟩
/-- Position `s` of a point's block. -/
abbrev pos (t : Fin cfg0.N) (s : Fin 2048) : Fin 8192 := ⟨t.val % 4 * 2048 + s.val, by omega⟩
/-- Column `j` of a point's block. -/
abbrev clm (t : Fin cfg0.N) (j : Fin 1024) : Fin 2048 := ⟨t.val / 4 * 1024 + j.val, by have := ltN t; omega⟩

/-- What block 0 of a point holds, in terms of the arguments. -/
theorem blk0 (t : Fin cfg0.N) (s : Fin 2048) (i : Fin 512) :
    (iblk m c 0 t : Vec Ideal S2048x512 .bf16) (ix2 s i) = va m c (ix2 (pos t s) (row t i)) := by blk_ext [iblk, idx t]
/-- What block 1 of a point holds, in terms of the arguments. -/
theorem blk1 (t : Fin cfg0.N) (s : Fin 2048) (j : Fin 1024) :
    (iblk m c 1 t : Vec Ideal S2048x1024 .bf16) (ix2 s j) = vb m c (ix2 (pos t s) (clm t j)) := by blk_ext [iblk, idx t]

/-- What a point adds. -/
def term (t : Fin cfg0.N) (y : S1x512x1024.Idx) : EReal :=
  ∑ s : Fin 2048, va m c (ix2 (pos t s) (row t (y 1))) * vb m c (ix2 (pos t s) (clm t (y 2)))

/-- An index in terms of its coordinates. -/
theorem exists_ix (y : S1x512x1024.Idx) : ∃ (i : Fin 512) (j : Fin 1024), y = ix3 0 i j :=
  ⟨y 1, y 2, by funext a; fin_cases a; exacts [Subsingleton.elim (α := Fin 1) _ _, rfl, rfl]⟩

/-- The block after its last product. -/
theorem outs (t : Fin cfg0.N) (hr : t.val % 4 = 4 - 1) (y : S1x512x1024.Idx) :
    outsAt0 m c t.val t.isLt y = ∑ s : Fin 4, term m c ⟨4 * (t.val / 4) + s.val, by have := ltN t; show _ < 8; omega⟩ y := by
  rw [Pipeline.eq_sum_fin_of_reset_step_apply_of_flush (fun n h => outsAt0 m c n h) 4 (fun _ => 0) (term m c)
    (fun t h j => by
      obtain ⟨i, j, rfl⟩ := exists_ix j
      rw [outA m c t h, pay1, zero_add]
      exact Finset.sum_congr rfl fun s _ => by rw [blk0, blk1]; rfl)
    (fun t h j => by
      obtain ⟨i, j, rfl⟩ := exists_ix j
      rw [outB m c t h, pay2]
      exact congrArg (_ + ·) (Finset.sum_congr rfl fun s _ => by rw [blk0, blk1]; rfl)) t hr y]
  exact zero_add _

/-- Two points that write back are of different blocks. -/
theorem disjoint2 : ∀ t t' : Fin cfg0.N, (cfg0.win 2).flush t = true → (cfg0.win 2).flush t' = true → t ≠ t' →
    Disjoint ((cfg0.win 2).blk t).view.set ((cfg0.win 2).blk t').view.set := by
  intro t t' hf hf' hne
  refine (cfg0.win 2).disjoint_blk fun h => hne (Fin.ext ?_)
  have h1 := (flush0_2 t).mp hf
  have h2 := (flush0_2 t').mp hf'
  have l1 := ltN t
  have l2 := ltN t'
  have e : win0_2.index t = win0_2.index t' := h
  rw [(idx t).2.2, (idx t').2.2] at e
  have h4 : t.val / 4 = t'.val / 4 := congrFun e 2
  omega

/-- The last point of an index's block. -/
abbrev pt (i : Fin 512) (j : Fin 2048) : Fin cfg0.N := ⟨j.val / 1024 * 4 + 3, by show _ < 8; omega⟩

/-- The call's array. -/
theorem arr (i : Fin 512) (j : Fin 2048) :
    ((dats m 0 c).arrAt 2 cfg0.N : Vec Ideal S1x512x2048 .f32) (ix3 0 i j) = ∑ s : Fin 8192, va m c (ix2 s i) * vb m c (ix2 s j) := by
  have hr : (pt i j).val % 4 = 4 - 1 := by show (j.val / 1024 * 4 + 3) % 4 = 4 - 1; omega
  have hb := congrFun ((dats m 0 c).read_blk_arrAt_eq_flushed 2 disjoint2 cfg0.N (pt i j) (pt i j).isLt ((flush0_2 (pt i j)).mpr hr)) (ix3 0 (⟨i.val % 512, Nat.mod_lt _ (by decide)⟩ : Fin 512) (⟨j.val % 1024, by omega⟩ : Fin 1024))
  rw [Value.flushed2] at hb
  have ho := outs m c (pt i j) hr (ix3 0 (⟨i.val % 512, Nat.mod_lt _ (by decide)⟩ : Fin 512) (⟨j.val % 1024, by omega⟩ : Fin 1024))
  have hs : ∀ s : Fin 4, term m c ⟨4 * ((pt i j).val / 4) + s.val, by have := ltN (pt i j); show _ < 8; omega⟩ (ix3 0 (⟨i.val % 512, Nat.mod_lt _ (by decide)⟩ : Fin 512) (⟨j.val % 1024, by omega⟩ : Fin 1024))
      = ∑ k : Fin 2048, (fun k : Fin 8192 => va m c (ix2 k i) * vb m c (ix2 k j)) ⟨s.val * 2048 + k.val, by omega⟩ := by
    intro s
    refine Finset.sum_congr rfl fun k _ => ?_
    have h1 : row ⟨4 * ((pt i j).val / 4) + s.val, by have := ltN (pt i j); show _ < 8; omega⟩ ⟨i.val % 512, Nat.mod_lt _ (by decide)⟩ = i :=
      Fin.ext (by show 0 * 512 + i.val % 512 = i.val; omega)
    have h2 : pos ⟨4 * ((pt i j).val / 4) + s.val, by have := ltN (pt i j); show _ < 8; omega⟩ k = ⟨s.val * 2048 + k.val, by omega⟩ :=
      Fin.ext (by show (4 * ((j.val / 1024 * 4 + 3) / 4) + s.val) % 4 * 2048 + k.val = s.val * 2048 + k.val; omega)
    have h3 : clm ⟨4 * ((pt i j).val / 4) + s.val, by have := ltN (pt i j); show _ < 8; omega⟩ (⟨j.val % 1024, by omega⟩ : Fin 1024) = j :=
      Fin.ext (by show (4 * ((j.val / 1024 * 4 + 3) / 4) + s.val) / 4 * 1024 + j.val % 1024 = j.val; omega)
    show va m c (ix2 (pos _ k) (row _ ⟨i.val % 512, Nat.mod_lt _ (by decide)⟩)) * vb m c (ix2 (pos _ k) (clm _ (⟨j.val % 1024, by omega⟩ : Fin 1024))) = _
    rw [h1, h2, h3]
  rw [Finset.sum_congr rfl fun s _ => hs s, Fin.sum_mul_add_fin 4 2048 (fun k : Fin 8192 => va m c (ix2 k i) * vb m c (ix2 k j))] at ho
  rw [← ho]
  refine Eq.trans ?_ hb
  blk_ext [idx (pt i j)]

/-- The call's array is the reference's. -/
theorem res : ((dats m 0 c).arrAt 2 cfg0.N : Vec Ideal S1x512x2048 .f32) = Cert.Reference9Ideal.Read.val_main_v12 (x m c) (ct m c) := by
  refine funext fun y => ?_
  obtain ⟨i, j, rfl⟩ : ∃ (i : Fin 512) (j : Fin 2048), y = ix3 0 i j :=
    ⟨y 1, y 2, by funext a; fin_cases a; exacts [Subsingleton.elim (α := Fin 1) _ _, rfl, rfl]⟩
  rw [arr, V_v7, V_v8]
  unfold Cert.Reference9Ideal.Read.val_main_v12 Cert.Reference9Ideal.Read.val_main_v11 Cert.Reference9Ideal.Read.val_main_v10 Cert.Reference9Ideal.Read.val_main_v9 Cert.Reference9Ideal.Read.val_main_v8 Cert.Reference9Ideal.Read.val_main_v7 Cert.Reference9Ideal.Read.val_main_cst Cert.Reference9Ideal.Read.val_main_v6 Cert.Reference9Ideal.Read.val_main_v5 Cert.Reference9Ideal.Read.val_main_v4 Cert.Reference9Ideal.Read.val_main_v2 Cert.Reference9Ideal.Read.val_main_v1
  generalize x m c = a
  generalize ct m c = b
  pointwise
  have hq : (j.val - 1024) / 128 < 8 := by omega
  have h0 : FloatOps.sitofp (F := Ideal) FTy.f32 0#32 = (0 : EReal) := by simp [FloatOps.sitofp]
  simp only [hq, true_and, h0]
  split_ifs <;> first
    | exact Finset.sum_congr (M := EReal) rfl fun s _ => EReal.mul_comm _ _
    | exact Finset.sum_eq_zero (M := EReal) fun s _ => mul_zero (M₀ := EReal) _

/-- From arguments that agree, the call and the reference both run and return one array. -/
theorem algebraic : @Cert.algebraic_Kernel9Ideal_Reference9Ideal Cert.Kernel9Ideal.Gen.facts Cert.Reference9Ideal.Gen.facts := by
  intro m g m' g' _ ha
  refine ⟨fun c => (dats m 0 c).arrAt 2 cfg0.N, Value.run_blocks m g, ?_⟩
  refine (θ_run _ _ _).mono (fun r h c => ?_) (Cert.Reference9Ideal.Value.run m' g')
  obtain ⟨h0, hk⟩ := h c
  obtain ⟨e0, e1, e2⟩ := ha c
  refine ⟨h0.trans ?_, hk⟩
  rw [Cert.Reference9Ideal.Read.val_main_v12_eq, e0, e2]
  exact (res m c).symm

/-- The reference keeps its arguments and leaves its counters at zero: it has none. -/
theorem reference_frame : @Cert.quiescent_Reference9Ideal Cert.Reference9Ideal.Gen.facts := by
  intro m ρ _
  exact (θ_run _ _ _).mono (fun r h => ⟨fun c => (h c).2, sem_eq_zero_of_no_sems (by decide) r.2⟩) (Cert.Reference9Ideal.Value.run m ρ)

end Cert.Kernel9Ideal.Wg

end
-- ==== Proof.WgUk.lean ====
module

public import proofs.«01_k».proof.Proof.Gen.Kernel10Ideal.Value
public import proofs.«01_k».proof.Defs
public import proofs.«01_k».proof.Proof.Gen.Reference10Ideal.Run
public import proofs.«01_k».proof.Proof.Gen.Reference10Ideal.Read
public import Idealize.ShloMosaic.Adequacy
public import Idealize.ShloMosaic.Init
public import Idealize.ShloMosaic.Lib.Pipeline.ValueKit
public import Idealize.ShloMosaic.Lib.Pipeline.ReadBack
public import Idealize.ShloMosaic.Lib.Pointwise
public import Idealize.ShloMosaic.Lib.ValueIdx

@[expose] public section

set_option maxRecDepth 16384

noncomputable section

/-! The gradient of the keys' weights: the call's array and the reference's, at an index. -/

namespace Cert.Kernel10Ideal.Wg

open Cert.Kernel10Ideal Cert.Kernel10Ideal.Gen Idealize.ShloMosaic Idealize.ShloMosaic.TcCoe Idealize.SL.Sem

/-- A block's first product. -/
theorem pay1 (a : Vec Ideal S2048x512 .bf16) (b : Vec Ideal S2048x256 .bf16) (i : Fin 512) (j : Fin 256) :
    k0_pay1 a b (ix3 0 i j) = ∑ s : Fin 2048, a (ix2 s i) * b (ix2 s j) := by
  unfold k0_pay1
  pointwise

/-- A block's later product, added to what is there. -/
theorem pay2 (w : Vec Ideal S1x512x256 .f32) (a : Vec Ideal S2048x512 .bf16) (b : Vec Ideal S2048x256 .bf16) (i : Fin 512) (j : Fin 256) :
    k0_pay2 w a b (ix3 0 i j) = w (ix3 0 i j) + ∑ s : Fin 2048, a (ix2 s i) * b (ix2 s j) := by
  unfold k0_pay2
  pointwise

variable (m : (ℓ : Loc nD τ sig) → Buf (Elt Ideal) ℓ) (c : Dev nD)

/-- What the first point of a sum leaves in the output's block. -/
theorem outA (t : Fin cfg0.N) (h0 : t.val % 4 = 0) : outsAt0 m c t.val t.isLt = k0_pay1 (iblk m c 0 t) (iblk m c 1 t) := by
  rw [outsAt0_A m c t h0 (by omega)]
  frame_out

/-- What a later point of a sum leaves in the output's block: what was there, and its own term. -/
theorem outB (t : Fin cfg0.N) (h0 : ¬t.val % 4 = 0) :
    outsAt0 m c t.val t.isLt = k0_pay2 (outsAt0 m c (t.val - 1) (Nat.lt_of_le_of_lt (Nat.sub_le _ _) t.isLt)) (iblk m c 0 t) (iblk m c 1 t) := by
  rw [outsAt0_B m c t h0 (by omega)]
  frame_out

/-- The input. -/
abbrev x : (⟨S8192x512, .f32⟩ : BufTy).Contents (Elt Ideal) := m ((c.tc : Thread nD τ).loc main_arg0)
/-- The output's gradient. -/
abbrev ct : (⟨S8192x1024, .f32⟩ : BufTy).Contents (Elt Ideal) := m ((c.tc : Thread nD τ).loc main_arg2)

/-- The call's first argument. -/
abbrev va : Vec Ideal S8192x512 .bf16 := V m c main_v0
/-- The call's second argument. -/
abbrev vb : Vec Ideal S8192x1024 .bf16 := V m c main_v1

/-- What the array that goes into the call holds after the host's lines. -/
theorem V_v0 : va m c = truncf (F := Ideal) (φ := .f32) .bf16 (x m c) bitsLt_bf16_f32 := by
  show StableHlo.after hostOps0 _ main_v0 = _
  after_results_simp <;> rfl
/-- What the array that goes into the call holds after the host's lines. -/
theorem V_v1 : vb m c = truncf (F := Ideal) (φ := .f32) .bf16 (ct m c) bitsLt_bf16_f32 := by
  show StableHlo.after hostOps0 _ main_v1 = _
  after_results_simp <;> rfl

/-- The block each window is at. -/
theorem idx : ∀ t : Fin cfg0.N, win0_0.index t = ![t.val % 4, 0] ∧ win0_1.index t = ![t.val % 4, t.val / 4] ∧ win0_2.index t = ![t.val / 4, 0, 0] :=
  (by decide +kernel : ∀ t : Fin grid0.N, _)

/-- The bound on the number of grid points. -/
theorem ltN (t : Fin cfg0.N) : t.val < 16 := t.isLt

/-- Row `r` of a point's block of the result. -/
abbrev row (t : Fin cfg0.N) (r : Fin 512) : Fin 512 := ⟨0 * 512 + r.val, by have := ltN t; omega⟩
/-- Position `s` of a point's block. -/
abbrev pos (t : Fin cfg0.N) (s : Fin 2048) : Fin 8192 := ⟨t.val % 4 * 2048 + s.val, by omega⟩
/-- Column `j` of a point's block. -/
abbrev clm (t : Fin cfg0.N) (j : Fin 256) : Fin 1024 := ⟨t.val / 4 * 256 + j.val, by have := ltN t; omega⟩

/-- What block 0 of a point holds, in terms of the arguments. -/
theorem blk0 (t : Fin cfg0.N) (s : Fin 2048) (i : Fin 512) :
    (iblk m c 0 t : Vec Ideal S2048x512 .bf16) (ix2 s i) = va m c (ix2 (pos t s) (row t i)) := by blk_ext [iblk, idx t]
/-- What block 1 of a point holds, in terms of the arguments. -/
theorem blk1 (t : Fin cfg0.N) (s : Fin 2048) (j : Fin 256) :
    (iblk m c 1 t : Vec Ideal S2048x256 .bf16) (ix2 s j) = vb m c (ix2 (pos t s) (clm t j)) := by blk_ext [iblk, idx t]

/-- What a point adds. -/
def term (t : Fin cfg0.N) (y : S1x512x256.Idx) : EReal :=
  ∑ s : Fin 2048, va m c (ix2 (pos t s) (row t (y 1))) * vb m c (ix2 (pos t s) (clm t (y 2)))

/-- An index in terms of its coordinates. -/
theorem exists_ix (y : S1x512x256.Idx) : ∃ (i : Fin 512) (j : Fin 256), y = ix3 0 i j :=
  ⟨y 1, y 2, by funext a; fin_cases a; exacts [Subsingleton.elim (α := Fin 1) _ _, rfl, rfl]⟩

/-- The block after its last product. -/
theorem outs (t : Fin cfg0.N) (hr : t.val % 4 = 4 - 1) (y : S1x512x256.Idx) :
    outsAt0 m c t.val t.isLt y = ∑ s : Fin 4, term m c ⟨4 * (t.val / 4) + s.val, by have := ltN t; show _ < 16; omega⟩ y := by
  rw [Pipeline.eq_sum_fin_of_reset_step_apply_of_flush (fun n h => outsAt0 m c n h) 4 (fun _ => 0) (term m c)
    (fun t h j => by
      obtain ⟨i, j, rfl⟩ := exists_ix j
      rw [outA m c t h, pay1, zero_add]
      exact Finset.sum_congr rfl fun s _ => by rw [blk0, blk1]; rfl)
    (fun t h j => by
      obtain ⟨i, j, rfl⟩ := exists_ix j
      rw [outB m c t h, pay2]
      exact congrArg (_ + ·) (Finset.sum_congr rfl fun s _ => by rw [blk0, blk1]; rfl)) t hr y]
  exact zero_add _

/-- Two points that write back are of different blocks. -/
theorem disjoint2 : ∀ t t' : Fin cfg0.N, (cfg0.win 2).flush t = true → (cfg0.win 2).flush t' = true → t ≠ t' →
    Disjoint ((cfg0.win 2).blk t).view.set ((cfg0.win 2).blk t').view.set := by
  intro t t' hf hf' hne
  refine (cfg0.win 2).disjoint_blk fun h => hne (Fin.ext ?_)
  have h1 := (flush0_2 t).mp hf
  have h2 := (flush0_2 t').mp hf'
  have l1 := ltN t
  have l2 := ltN t'
  have e : win0_2.index t = win0_2.index t' := h
  rw [(idx t).2.2, (idx t').2.2] at e
  have h4 : t.val / 4 = t'.val / 4 := congrFun e 0
  omega

/-- The last point of an index's block. -/
abbrev pt (l : Fin 4) (i : Fin 512) (j : Fin 256) : Fin cfg0.N := ⟨l.val * 4 + 3, by show _ < 16; omega⟩

/-- The call's array. -/
theorem arr (l : Fin 4) (i : Fin 512) (j : Fin 256) :
    ((dats m 0 c).arrAt 2 cfg0.N : Vec Ideal S4x512x256 .f32) (ix3 l i j) = ∑ s : Fin 8192, va m c (ix2 s i) * vb m c (ix2 s ⟨l.val * 256 + j.val, by omega⟩) := by
  have hr : (pt l i j).val % 4 = 4 - 1 := by show (l.val * 4 + 3) % 4 = 4 - 1; omega
  have hb := congrFun ((dats m 0 c).read_blk_arrAt_eq_flushed 2 disjoint2 cfg0.N (pt l i j) (pt l i j).isLt ((flush0_2 (pt l i j)).mpr hr)) (ix3 0 (⟨i.val % 512, Nat.mod_lt _ (by decide)⟩ : Fin 512) j)
  rw [Value.flushed2] at hb
  have ho := outs m c (pt l i j) hr (ix3 0 (⟨i.val % 512, Nat.mod_lt _ (by decide)⟩ : Fin 512) j)
  have hs : ∀ s : Fin 4, term m c ⟨4 * ((pt l i j).val / 4) + s.val, by have := ltN (pt l i j); show _ < 16; omega⟩ (ix3 0 (⟨i.val % 512, Nat.mod_lt _ (by decide)⟩ : Fin 512) j)
      = ∑ k : Fin 2048, (fun k : Fin 8192 => va m c (ix2 k i) * vb m c (ix2 k ⟨l.val * 256 + j.val, by omega⟩)) ⟨s.val * 2048 + k.val, by omega⟩ := by
    intro s
    refine Finset.sum_congr rfl fun k _ => ?_
    have h1 : row ⟨4 * ((pt l i j).val / 4) + s.val, by have := ltN (pt l i j); show _ < 16; omega⟩ ⟨i.val % 512, Nat.mod_lt _ (by decide)⟩ = i :=
      Fin.ext (by show 0 * 512 + i.val % 512 = i.val; omega)
    have h2 : pos ⟨4 * ((pt l i j).val / 4) + s.val, by have := ltN (pt l i j); show _ < 16; omega⟩ k = ⟨s.val * 2048 + k.val, by omega⟩ :=
      Fin.ext (by show (4 * ((l.val * 4 + 3) / 4) + s.val) % 4 * 2048 + k.val = s.val * 2048 + k.val; omega)
    have h3 : clm ⟨4 * ((pt l i j).val / 4) + s.val, by have := ltN (pt l i j); show _ < 16; omega⟩ j = ⟨l.val * 256 + j.val, by omega⟩ :=
      Fin.ext (by show (4 * ((l.val * 4 + 3) / 4) + s.val) / 4 * 256 + j.val = l.val * 256 + j.val; omega)
    show va m c (ix2 (pos _ k) (row _ ⟨i.val % 512, Nat.mod_lt _ (by decide)⟩)) * vb m c (ix2 (pos _ k) (clm _ j)) = _
    rw [h1, h2, h3]
  rw [Finset.sum_congr rfl fun s _ => hs s, Fin.sum_mul_add_fin 4 2048 (fun k : Fin 8192 => va m c (ix2 k i) * vb m c (ix2 k ⟨l.val * 256 + j.val, by omega⟩))] at ho
  rw [← ho]
  refine Eq.trans ?_ hb
  blk_ext [idx (pt l i j)]

/-- The call's array is the reference's. -/
theorem res : ((dats m 0 c).arrAt 2 cfg0.N : Vec Ideal S4x512x256 .f32) = Cert.Reference10Ideal.Read.val_main_v5 (x m c) (ct m c) := by
  refine funext fun y => ?_
  obtain ⟨l, i, j, rfl⟩ : ∃ (l : Fin 4) (i : Fin 512) (j : Fin 256), y = ix3 l i j :=
    ⟨y 0, y 1, y 2, by funext a; fin_cases a <;> rfl⟩
  rw [arr, V_v0, V_v1]
  unfold Cert.Reference10Ideal.Read.val_main_v5 Cert.Reference10Ideal.Read.val_main_v4 Cert.Reference10Ideal.Read.val_main_v2 Cert.Reference10Ideal.Read.val_main_v1
  generalize x m c = a
  generalize ct m c = b
  pointwise
  exact Finset.sum_congr (M := EReal) rfl fun s _ => EReal.mul_comm _ _

/-- From arguments that agree, the call and the reference both run and return one array. -/
theorem algebraic : @Cert.algebraic_Kernel10Ideal_Reference10Ideal Cert.Kernel10Ideal.Gen.facts Cert.Reference10Ideal.Gen.facts := by
  intro m g m' g' _ ha
  refine ⟨fun c => (dats m 0 c).arrAt 2 cfg0.N, Value.run_blocks m g, ?_⟩
  refine (θ_run _ _ _).mono (fun r h c => ?_) (Cert.Reference10Ideal.Value.run m' g')
  obtain ⟨h0, hk⟩ := h c
  obtain ⟨e0, e1, e2⟩ := ha c
  refine ⟨h0.trans ?_, hk⟩
  rw [Cert.Reference10Ideal.Read.val_main_v5_eq, e0, e2]
  exact (res m c).symm

/-- The reference keeps its arguments and leaves its counters at zero: it has none. -/
theorem reference_frame : @Cert.quiescent_Reference10Ideal Cert.Reference10Ideal.Gen.facts := by
  intro m ρ _
  exact (θ_run _ _ _).mono (fun r h => ⟨fun c => (h c).2, sem_eq_zero_of_no_sems (by decide) r.2⟩) (Cert.Reference10Ideal.Value.run m ρ)

end Cert.Kernel10Ideal.Wg

end
-- ==== Proof.Adam11.lean ====
module

public import proofs.«01_k».proof.Proof.Gen.Kernel11Ideal.Value
public import proofs.«01_k».proof.Defs
public import proofs.«01_k».proof.Proof.Gen.Reference11Ideal.Run
public import proofs.«01_k».proof.Proof.Gen.Reference11Ideal.Read
public import Idealize.ShloMosaic.Adequacy
public import Idealize.ShloMosaic.Init
public import Idealize.ShloMosaic.Lib.Pipeline.ValueKit
public import Idealize.ShloMosaic.Lib.Pipeline.ReadBack
public import Idealize.ShloMosaic.Lib.Pointwise
public import Idealize.ShloMosaic.Lib.ValueIdx

@[expose] public section

set_option maxRecDepth 16384

noncomputable section

/-! The optimiser's step of w_ff1: the call's arrays and the reference's, at an index. -/

namespace Cert.Kernel11Ideal.Adam

open Cert.Kernel11Ideal Cert.Kernel11Ideal.Gen Idealize.ShloMosaic Idealize.ShloMosaic.TcCoe Idealize.SL.Sem

/-- A block's entry is the reference's, where the arguments' entries agree. -/
theorem pay5 (b c : Vec Ideal S256x2048 .f32) (B C : (⟨S2048x2048, .f32⟩ : BufTy).Contents (Elt Ideal)) (r : Fin 256) (i : Fin 2048) (j : Fin 2048)
    (h1 : b (ix2 r j) = B (ix2 i j)) (h2 : c (ix2 r j) = C (ix2 i j)) :
    k0_pay1 b c (ix2 r j) = Cert.Reference11Ideal.Read.val_main_v4 B C (ix2 i j) := by
  unfold k0_pay1 Cert.Reference11Ideal.Read.val_main_v4
  unfold Cert.Reference11Ideal.Read.val_main_v3 Cert.Reference11Ideal.Read.val_main_v2 Cert.Reference11Ideal.Read.val_main_cst_0 Cert.Reference11Ideal.Read.val_main_v1 Cert.Reference11Ideal.Read.val_main_v0 Cert.Reference11Ideal.Read.val_main_cst
  pointwise
  rw [h1, h2]

/-- What a point leaves. -/
theorem out5 (a b c d : Vec Ideal S256x2048 .f32) : out0_5 a b c d = k0_pay1 b c := by
  frame_out

/-- A block's entry is the reference's, where the arguments' entries agree. -/
theorem pay6 (b d : Vec Ideal S256x2048 .f32) (B D : (⟨S2048x2048, .f32⟩ : BufTy).Contents (Elt Ideal)) (r : Fin 256) (i : Fin 2048) (j : Fin 2048)
    (h1 : b (ix2 r j) = B (ix2 i j)) (h3 : d (ix2 r j) = D (ix2 i j)) :
    k0_pay2 b d (ix2 r j) = Cert.Reference11Ideal.Read.val_main_v10 B D (ix2 i j) := by
  unfold k0_pay2 Cert.Reference11Ideal.Read.val_main_v10
  unfold Cert.Reference11Ideal.Read.val_main_v9 Cert.Reference11Ideal.Read.val_main_v8 Cert.Reference11Ideal.Read.val_main_cst_2 Cert.Reference11Ideal.Read.val_main_v7 Cert.Reference11Ideal.Read.val_main_v6 Cert.Reference11Ideal.Read.val_main_v5 Cert.Reference11Ideal.Read.val_main_cst_1
  pointwise
  rw [h1, h3]

/-- What a point leaves. -/
theorem out6 (a b c d : Vec Ideal S256x2048 .f32) : out0_6 a b c d = k0_pay2 b d := by
  frame_out

/-- A block's entry is the reference's, where the arguments' entries agree. -/
theorem pay4 (a b c d : Vec Ideal S256x2048 .f32) (A B C D : (⟨S2048x2048, .f32⟩ : BufTy).Contents (Elt Ideal)) (r : Fin 256) (i : Fin 2048) (j : Fin 2048)
    (h0 : a (ix2 r j) = A (ix2 i j)) (h1 : b (ix2 r j) = B (ix2 i j)) (h2 : c (ix2 r j) = C (ix2 i j)) (h3 : d (ix2 r j) = D (ix2 i j)) :
    k0_pay3 a b c d (ix2 r j) = Cert.Reference11Ideal.Read.val_main_v23 A B C D (ix2 i j) := by
  unfold k0_pay3 k0_pay1 k0_pay2 Cert.Reference11Ideal.Read.val_main_v23
  unfold Cert.Reference11Ideal.Read.val_main_v22 Cert.Reference11Ideal.Read.val_main_cst_7 Cert.Reference11Ideal.Read.val_main_v21 Cert.Reference11Ideal.Read.val_main_v20 Cert.Reference11Ideal.Read.val_main_v19 Cert.Reference11Ideal.Read.val_main_cst_6 Cert.Reference11Ideal.Read.val_main_v18 Cert.Reference11Ideal.Read.val_main_v17 Cert.Reference11Ideal.Read.val_main_v16 Cert.Reference11Ideal.Read.val_main_cst_5 Cert.Reference11Ideal.Read.val_main_v15 Cert.Reference11Ideal.Read.val_main_v14 Cert.Reference11Ideal.Read.val_main_v13 Cert.Reference11Ideal.Read.val_main_cst_4 Cert.Reference11Ideal.Read.val_main_v12 Cert.Reference11Ideal.Read.val_main_v11 Cert.Reference11Ideal.Read.val_main_cst_3 Cert.Reference11Ideal.Read.val_main_v10 Cert.Reference11Ideal.Read.val_main_v9 Cert.Reference11Ideal.Read.val_main_v8 Cert.Reference11Ideal.Read.val_main_cst_2 Cert.Reference11Ideal.Read.val_main_v7 Cert.Reference11Ideal.Read.val_main_v6 Cert.Reference11Ideal.Read.val_main_v5 Cert.Reference11Ideal.Read.val_main_cst_1 Cert.Reference11Ideal.Read.val_main_v4 Cert.Reference11Ideal.Read.val_main_v3 Cert.Reference11Ideal.Read.val_main_v2 Cert.Reference11Ideal.Read.val_main_cst_0 Cert.Reference11Ideal.Read.val_main_v1 Cert.Reference11Ideal.Read.val_main_v0 Cert.Reference11Ideal.Read.val_main_cst
  pointwise
  rw [h0, h1, h2, h3]

/-- What a point leaves. -/
theorem out4 (a b c d : Vec Ideal S256x2048 .f32) : out0_4 a b c d = k0_pay3 a b c d := by
  frame_out

variable (m : (ℓ : Loc nD τ sig) → Buf (Elt Ideal) ℓ) (c : Dev nD)

/-- The weights. -/
abbrev a0 : (⟨S2048x2048, .f32⟩ : BufTy).Contents (Elt Ideal) := m ((c.tc : Thread nD τ).loc main_arg0)
/-- Their gradient. -/
abbrev a1 : (⟨S2048x2048, .f32⟩ : BufTy).Contents (Elt Ideal) := m ((c.tc : Thread nD τ).loc main_arg1)
/-- The first moment. -/
abbrev a2 : (⟨S2048x2048, .f32⟩ : BufTy).Contents (Elt Ideal) := m ((c.tc : Thread nD τ).loc main_arg2)
/-- The second moment. -/
abbrev a3 : (⟨S2048x2048, .f32⟩ : BufTy).Contents (Elt Ideal) := m ((c.tc : Thread nD τ).loc main_arg3)

/-- The block each window is at. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The bound on the number of grid points. -/
theorem ltN (t : Fin cfg0.N) : t.val < 8 := t.isLt

/-- Row `r` of a point's block. -/
abbrev row (t : Fin cfg0.N) (r : Fin 256) : Fin 2048 := ⟨t.val * 256 + r.val, by have := ltN t; omega⟩

/-- What block 0 of a point holds, in terms of the arguments. -/
theorem blk0 (t : Fin cfg0.N) (r : Fin 256) (j : Fin 2048) : (iblk m c 0 t : Vec Ideal S256x2048 .f32) (ix2 r j) = a0 m c (ix2 (row t r) j) := by
  blk_ext [iblk, idx t]
/-- What block 1 of a point holds, in terms of the arguments. -/
theorem blk1 (t : Fin cfg0.N) (r : Fin 256) (j : Fin 2048) : (iblk m c 1 t : Vec Ideal S256x2048 .f32) (ix2 r j) = a1 m c (ix2 (row t r) j) := by
  blk_ext [iblk, idx t]
/-- What block 2 of a point holds, in terms of the arguments. -/
theorem blk2 (t : Fin cfg0.N) (r : Fin 256) (j : Fin 2048) : (iblk m c 2 t : Vec Ideal S256x2048 .f32) (ix2 r j) = a2 m c (ix2 (row t r) j) := by
  blk_ext [iblk, idx t]
/-- What block 3 of a point holds, in terms of the arguments. -/
theorem blk3 (t : Fin cfg0.N) (r : Fin 256) (j : Fin 2048) : (iblk m c 3 t : Vec Ideal S256x2048 .f32) (ix2 r j) = a3 m c (ix2 (row t r) j) := by
  blk_ext [iblk, idx t]

/-- The point of a row. -/
abbrev pt (i : Fin 2048) : Fin cfg0.N := ⟨i.val / 256, by show _ < 8; omega⟩

/-- The call's array is the reference's. -/
theorem res4 : ((dats m 0 c).arrAt 4 cfg0.N : Vec Ideal S2048x2048 .f32) = Cert.Reference11Ideal.Read.val_main_v23 (a0 m c) (a1 m c) (a2 m c) (a3 m c) := by
  refine funext fun y => ?_
  obtain ⟨i, j, rfl⟩ : ∃ (i : Fin 2048) (j : Fin 2048), y = ix2 i j := ⟨y 0, y 1, by funext a; fin_cases a <;> rfl⟩
  have hb := congrFun (Value.blocks4 m c (pt i) (flush0_4 (pt i))) (ix2 (⟨i.val % 256, Nat.mod_lt _ (by decide)⟩ : Fin 256) j)
  rw [Value.flushed4, out4] at hb
  have hi : row (pt i) ⟨i.val % 256, Nat.mod_lt _ (by decide)⟩ = i := Fin.ext (by show i.val / 256 * 256 + i.val % 256 = i.val; omega)
  have ho := pay4 (iblk m c 0 (pt i)) (iblk m c 1 (pt i)) (iblk m c 2 (pt i)) (iblk m c 3 (pt i)) (a0 m c) (a1 m c) (a2 m c) (a3 m c) ⟨i.val % 256, Nat.mod_lt _ (by decide)⟩ i j
    ((blk0 m c _ _ _).trans (by rw [hi])) ((blk1 m c _ _ _).trans (by rw [hi])) ((blk2 m c _ _ _).trans (by rw [hi])) ((blk3 m c _ _ _).trans (by rw [hi]))
  rw [← ho]
  refine Eq.trans ?_ hb
  blk_ext [idx (pt i)]

/-- The call's array is the reference's. -/
theorem res5 : ((dats m 0 c).arrAt 5 cfg0.N : Vec Ideal S2048x2048 .f32) = Cert.Reference11Ideal.Read.val_main_v4 (a1 m c) (a2 m c) := by
  refine funext fun y => ?_
  obtain ⟨i, j, rfl⟩ : ∃ (i : Fin 2048) (j : Fin 2048), y = ix2 i j := ⟨y 0, y 1, by funext a; fin_cases a <;> rfl⟩
  have hb := congrFun (Value.blocks5 m c (pt i) (flush0_5 (pt i))) (ix2 (⟨i.val % 256, Nat.mod_lt _ (by decide)⟩ : Fin 256) j)
  rw [Value.flushed5, out5] at hb
  have hi : row (pt i) ⟨i.val % 256, Nat.mod_lt _ (by decide)⟩ = i := Fin.ext (by show i.val / 256 * 256 + i.val % 256 = i.val; omega)
  have ho := pay5 (iblk m c 1 (pt i)) (iblk m c 2 (pt i)) (a1 m c) (a2 m c) ⟨i.val % 256, Nat.mod_lt _ (by decide)⟩ i j
    ((blk1 m c _ _ _).trans (by rw [hi])) ((blk2 m c _ _ _).trans (by rw [hi]))
  rw [← ho]
  refine Eq.trans ?_ hb
  blk_ext [idx (pt i)]

/-- The call's array is the reference's. -/
theorem res6 : ((dats m 0 c).arrAt 6 cfg0.N : Vec Ideal S2048x2048 .f32) = Cert.Reference11Ideal.Read.val_main_v10 (a1 m c) (a3 m c) := by
  refine funext fun y => ?_
  obtain ⟨i, j, rfl⟩ : ∃ (i : Fin 2048) (j : Fin 2048), y = ix2 i j := ⟨y 0, y 1, by funext a; fin_cases a <;> rfl⟩
  have hb := congrFun (Value.blocks6 m c (pt i) (flush0_6 (pt i))) (ix2 (⟨i.val % 256, Nat.mod_lt _ (by decide)⟩ : Fin 256) j)
  rw [Value.flushed6, out6] at hb
  have hi : row (pt i) ⟨i.val % 256, Nat.mod_lt _ (by decide)⟩ = i := Fin.ext (by show i.val / 256 * 256 + i.val % 256 = i.val; omega)
  have ho := pay6 (iblk m c 1 (pt i)) (iblk m c 3 (pt i)) (a1 m c) (a3 m c) ⟨i.val % 256, Nat.mod_lt _ (by decide)⟩ i j
    ((blk1 m c _ _ _).trans (by rw [hi])) ((blk3 m c _ _ _).trans (by rw [hi]))
  rw [← ho]
  refine Eq.trans ?_ hb
  blk_ext [idx (pt i)]

/-- From arguments that agree, the call and the reference both run and return the same arrays. -/
theorem algebraic : @Cert.algebraic_Kernel11Ideal_Reference11Ideal Cert.Kernel11Ideal.Gen.facts Cert.Reference11Ideal.Gen.facts := by
  intro m g m' g' _ ha
  refine ⟨fun c => (dats m 0 c).arrAt 4 cfg0.N, fun c => (dats m 0 c).arrAt 5 cfg0.N, fun c => (dats m 0 c).arrAt 6 cfg0.N, Value.run_blocks m g, ?_⟩
  refine (θ_run _ _ _).mono (fun r h c => ?_) (Cert.Reference11Ideal.Value.run m' g')
  obtain ⟨h0, h1, h2, hk⟩ := h c
  obtain ⟨e0, e1, e2, e3⟩ := ha c
  refine ⟨h0.trans ?_, h1.trans ?_, h2.trans ?_, hk⟩
  · rw [Cert.Reference11Ideal.Read.val_main_v23_eq, e0, e1, e2, e3]
    exact (res4 m c).symm
  · rw [Cert.Reference11Ideal.Read.val_main_v4_eq, e1, e2]
    exact (res5 m c).symm
  · rw [Cert.Reference11Ideal.Read.val_main_v10_eq, e1, e3]
    exact (res6 m c).symm

/-- The reference keeps its arguments and leaves its counters at zero: it has none. -/
theorem reference_frame : @Cert.quiescent_Reference11Ideal Cert.Reference11Ideal.Gen.facts := by
  intro m ρ _
  exact (θ_run _ _ _).mono (fun r h => ⟨fun c => (h c).2.2.2, sem_eq_zero_of_no_sems (by decide) r.2⟩) (Cert.Reference11Ideal.Value.run m ρ)

end Cert.Kernel11Ideal.Adam

end
-- ==== Proof.Adam12.lean ====
module

public import proofs.«01_k».proof.Proof.Gen.Kernel12Ideal.Value
public import proofs.«01_k».proof.Defs
public import proofs.«01_k».proof.Proof.Gen.Reference12Ideal.Run
public import proofs.«01_k».proof.Proof.Gen.Reference12Ideal.Read
public import Idealize.ShloMosaic.Adequacy
public import Idealize.ShloMosaic.Init
public import Idealize.ShloMosaic.Lib.Pipeline.ValueKit
public import Idealize.ShloMosaic.Lib.Pipeline.ReadBack
public import Idealize.ShloMosaic.Lib.Pointwise
public import Idealize.ShloMosaic.Lib.ValueIdx

@[expose] public section

set_option maxRecDepth 16384

noncomputable section

/-! The optimiser's step of w_out: the call's arrays and the reference's, at an index. -/

namespace Cert.Kernel12Ideal.Adam

open Cert.Kernel12Ideal Cert.Kernel12Ideal.Gen Idealize.ShloMosaic Idealize.ShloMosaic.TcCoe Idealize.SL.Sem

/-- A block's entry is the reference's, where the arguments' entries agree. -/
theorem pay5 (b c : Vec Ideal S256x2048 .f32) (B C : (⟨S512x2048, .f32⟩ : BufTy).Contents (Elt Ideal)) (r : Fin 256) (i : Fin 512) (j : Fin 2048)
    (h1 : b (ix2 r j) = B (ix2 i j)) (h2 : c (ix2 r j) = C (ix2 i j)) :
    k0_pay1 b c (ix2 r j) = Cert.Reference12Ideal.Read.val_main_v4 B C (ix2 i j) := by
  unfold k0_pay1 Cert.Reference12Ideal.Read.val_main_v4
  unfold Cert.Reference12Ideal.Read.val_main_v3 Cert.Reference12Ideal.Read.val_main_v2 Cert.Reference12Ideal.Read.val_main_cst_0 Cert.Reference12Ideal.Read.val_main_v1 Cert.Reference12Ideal.Read.val_main_v0 Cert.Reference12Ideal.Read.val_main_cst
  pointwise
  rw [h1, h2]

/-- What a point leaves. -/
theorem out5 (a b c d : Vec Ideal S256x2048 .f32) : out0_5 a b c d = k0_pay1 b c := by
  frame_out

/-- A block's entry is the reference's, where the arguments' entries agree. -/
theorem pay6 (b d : Vec Ideal S256x2048 .f32) (B D : (⟨S512x2048, .f32⟩ : BufTy).Contents (Elt Ideal)) (r : Fin 256) (i : Fin 512) (j : Fin 2048)
    (h1 : b (ix2 r j) = B (ix2 i j)) (h3 : d (ix2 r j) = D (ix2 i j)) :
    k0_pay2 b d (ix2 r j) = Cert.Reference12Ideal.Read.val_main_v10 B D (ix2 i j) := by
  unfold k0_pay2 Cert.Reference12Ideal.Read.val_main_v10
  unfold Cert.Reference12Ideal.Read.val_main_v9 Cert.Reference12Ideal.Read.val_main_v8 Cert.Reference12Ideal.Read.val_main_cst_2 Cert.Reference12Ideal.Read.val_main_v7 Cert.Reference12Ideal.Read.val_main_v6 Cert.Reference12Ideal.Read.val_main_v5 Cert.Reference12Ideal.Read.val_main_cst_1
  pointwise
  rw [h1, h3]

/-- What a point leaves. -/
theorem out6 (a b c d : Vec Ideal S256x2048 .f32) : out0_6 a b c d = k0_pay2 b d := by
  frame_out

/-- A block's entry is the reference's, where the arguments' entries agree. -/
theorem pay4 (a b c d : Vec Ideal S256x2048 .f32) (A B C D : (⟨S512x2048, .f32⟩ : BufTy).Contents (Elt Ideal)) (r : Fin 256) (i : Fin 512) (j : Fin 2048)
    (h0 : a (ix2 r j) = A (ix2 i j)) (h1 : b (ix2 r j) = B (ix2 i j)) (h2 : c (ix2 r j) = C (ix2 i j)) (h3 : d (ix2 r j) = D (ix2 i j)) :
    k0_pay3 a b c d (ix2 r j) = Cert.Reference12Ideal.Read.val_main_v23 A B C D (ix2 i j) := by
  unfold k0_pay3 k0_pay1 k0_pay2 Cert.Reference12Ideal.Read.val_main_v23
  unfold Cert.Reference12Ideal.Read.val_main_v22 Cert.Reference12Ideal.Read.val_main_cst_7 Cert.Reference12Ideal.Read.val_main_v21 Cert.Reference12Ideal.Read.val_main_v20 Cert.Reference12Ideal.Read.val_main_v19 Cert.Reference12Ideal.Read.val_main_cst_6 Cert.Reference12Ideal.Read.val_main_v18 Cert.Reference12Ideal.Read.val_main_v17 Cert.Reference12Ideal.Read.val_main_v16 Cert.Reference12Ideal.Read.val_main_cst_5 Cert.Reference12Ideal.Read.val_main_v15 Cert.Reference12Ideal.Read.val_main_v14 Cert.Reference12Ideal.Read.val_main_v13 Cert.Reference12Ideal.Read.val_main_cst_4 Cert.Reference12Ideal.Read.val_main_v12 Cert.Reference12Ideal.Read.val_main_v11 Cert.Reference12Ideal.Read.val_main_cst_3 Cert.Reference12Ideal.Read.val_main_v10 Cert.Reference12Ideal.Read.val_main_v9 Cert.Reference12Ideal.Read.val_main_v8 Cert.Reference12Ideal.Read.val_main_cst_2 Cert.Reference12Ideal.Read.val_main_v7 Cert.Reference12Ideal.Read.val_main_v6 Cert.Reference12Ideal.Read.val_main_v5 Cert.Reference12Ideal.Read.val_main_cst_1 Cert.Reference12Ideal.Read.val_main_v4 Cert.Reference12Ideal.Read.val_main_v3 Cert.Reference12Ideal.Read.val_main_v2 Cert.Reference12Ideal.Read.val_main_cst_0 Cert.Reference12Ideal.Read.val_main_v1 Cert.Reference12Ideal.Read.val_main_v0 Cert.Reference12Ideal.Read.val_main_cst
  pointwise
  rw [h0, h1, h2, h3]

/-- What a point leaves. -/
theorem out4 (a b c d : Vec Ideal S256x2048 .f32) : out0_4 a b c d = k0_pay3 a b c d := by
  frame_out

variable (m : (ℓ : Loc nD τ sig) → Buf (Elt Ideal) ℓ) (c : Dev nD)

/-- The weights. -/
abbrev a0 : (⟨S512x2048, .f32⟩ : BufTy).Contents (Elt Ideal) := m ((c.tc : Thread nD τ).loc main_arg0)
/-- Their gradient. -/
abbrev a1 : (⟨S512x2048, .f32⟩ : BufTy).Contents (Elt Ideal) := m ((c.tc : Thread nD τ).loc main_arg1)
/-- The first moment. -/
abbrev a2 : (⟨S512x2048, .f32⟩ : BufTy).Contents (Elt Ideal) := m ((c.tc : Thread nD τ).loc main_arg2)
/-- The second moment. -/
abbrev a3 : (⟨S512x2048, .f32⟩ : BufTy).Contents (Elt Ideal) := m ((c.tc : Thread nD τ).loc main_arg3)

/-- The block each window is at. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The bound on the number of grid points. -/
theorem ltN (t : Fin cfg0.N) : t.val < 2 := t.isLt

/-- Row `r` of a point's block. -/
abbrev row (t : Fin cfg0.N) (r : Fin 256) : Fin 512 := ⟨t.val * 256 + r.val, by have := ltN t; omega⟩

/-- What block 0 of a point holds, in terms of the arguments. -/
theorem blk0 (t : Fin cfg0.N) (r : Fin 256) (j : Fin 2048) : (iblk m c 0 t : Vec Ideal S256x2048 .f32) (ix2 r j) = a0 m c (ix2 (row t r) j) := by
  blk_ext [iblk, idx t]
/-- What block 1 of a point holds, in terms of the arguments. -/
theorem blk1 (t : Fin cfg0.N) (r : Fin 256) (j : Fin 2048) : (iblk m c 1 t : Vec Ideal S256x2048 .f32) (ix2 r j) = a1 m c (ix2 (row t r) j) := by
  blk_ext [iblk, idx t]
/-- What block 2 of a point holds, in terms of the arguments. -/
theorem blk2 (t : Fin cfg0.N) (r : Fin 256) (j : Fin 2048) : (iblk m c 2 t : Vec Ideal S256x2048 .f32) (ix2 r j) = a2 m c (ix2 (row t r) j) := by
  blk_ext [iblk, idx t]
/-- What block 3 of a point holds, in terms of the arguments. -/
theorem blk3 (t : Fin cfg0.N) (r : Fin 256) (j : Fin 2048) : (iblk m c 3 t : Vec Ideal S256x2048 .f32) (ix2 r j) = a3 m c (ix2 (row t r) j) := by
  blk_ext [iblk, idx t]

/-- The point of a row. -/
abbrev pt (i : Fin 512) : Fin cfg0.N := ⟨i.val / 256, by show _ < 2; omega⟩

/-- The call's array is the reference's. -/
theorem res4 : ((dats m 0 c).arrAt 4 cfg0.N : Vec Ideal S512x2048 .f32) = Cert.Reference12Ideal.Read.val_main_v23 (a0 m c) (a1 m c) (a2 m c) (a3 m c) := by
  refine funext fun y => ?_
  obtain ⟨i, j, rfl⟩ : ∃ (i : Fin 512) (j : Fin 2048), y = ix2 i j := ⟨y 0, y 1, by funext a; fin_cases a <;> rfl⟩
  have hb := congrFun (Value.blocks4 m c (pt i) (flush0_4 (pt i))) (ix2 (⟨i.val % 256, Nat.mod_lt _ (by decide)⟩ : Fin 256) j)
  rw [Value.flushed4, out4] at hb
  have hi : row (pt i) ⟨i.val % 256, Nat.mod_lt _ (by decide)⟩ = i := Fin.ext (by show i.val / 256 * 256 + i.val % 256 = i.val; omega)
  have ho := pay4 (iblk m c 0 (pt i)) (iblk m c 1 (pt i)) (iblk m c 2 (pt i)) (iblk m c 3 (pt i)) (a0 m c) (a1 m c) (a2 m c) (a3 m c) ⟨i.val % 256, Nat.mod_lt _ (by decide)⟩ i j
    ((blk0 m c _ _ _).trans (by rw [hi])) ((blk1 m c _ _ _).trans (by rw [hi])) ((blk2 m c _ _ _).trans (by rw [hi])) ((blk3 m c _ _ _).trans (by rw [hi]))
  rw [← ho]
  refine Eq.trans ?_ hb
  blk_ext [idx (pt i)]

/-- The call's array is the reference's. -/
theorem res5 : ((dats m 0 c).arrAt 5 cfg0.N : Vec Ideal S512x2048 .f32) = Cert.Reference12Ideal.Read.val_main_v4 (a1 m c) (a2 m c) := by
  refine funext fun y => ?_
  obtain ⟨i, j, rfl⟩ : ∃ (i : Fin 512) (j : Fin 2048), y = ix2 i j := ⟨y 0, y 1, by funext a; fin_cases a <;> rfl⟩
  have hb := congrFun (Value.blocks5 m c (pt i) (flush0_5 (pt i))) (ix2 (⟨i.val % 256, Nat.mod_lt _ (by decide)⟩ : Fin 256) j)
  rw [Value.flushed5, out5] at hb
  have hi : row (pt i) ⟨i.val % 256, Nat.mod_lt _ (by decide)⟩ = i := Fin.ext (by show i.val / 256 * 256 + i.val % 256 = i.val; omega)
  have ho := pay5 (iblk m c 1 (pt i)) (iblk m c 2 (pt i)) (a1 m c) (a2 m c) ⟨i.val % 256, Nat.mod_lt _ (by decide)⟩ i j
    ((blk1 m c _ _ _).trans (by rw [hi])) ((blk2 m c _ _ _).trans (by rw [hi]))
  rw [← ho]
  refine Eq.trans ?_ hb
  blk_ext [idx (pt i)]

/-- The call's array is the reference's. -/
theorem res6 : ((dats m 0 c).arrAt 6 cfg0.N : Vec Ideal S512x2048 .f32) = Cert.Reference12Ideal.Read.val_main_v10 (a1 m c) (a3 m c) := by
  refine funext fun y => ?_
  obtain ⟨i, j, rfl⟩ : ∃ (i : Fin 512) (j : Fin 2048), y = ix2 i j := ⟨y 0, y 1, by funext a; fin_cases a <;> rfl⟩
  have hb := congrFun (Value.blocks6 m c (pt i) (flush0_6 (pt i))) (ix2 (⟨i.val % 256, Nat.mod_lt _ (by decide)⟩ : Fin 256) j)
  rw [Value.flushed6, out6] at hb
  have hi : row (pt i) ⟨i.val % 256, Nat.mod_lt _ (by decide)⟩ = i := Fin.ext (by show i.val / 256 * 256 + i.val % 256 = i.val; omega)
  have ho := pay6 (iblk m c 1 (pt i)) (iblk m c 3 (pt i)) (a1 m c) (a3 m c) ⟨i.val % 256, Nat.mod_lt _ (by decide)⟩ i j
    ((blk1 m c _ _ _).trans (by rw [hi])) ((blk3 m c _ _ _).trans (by rw [hi]))
  rw [← ho]
  refine Eq.trans ?_ hb
  blk_ext [idx (pt i)]

/-- From arguments that agree, the call and the reference both run and return the same arrays. -/
theorem algebraic : @Cert.algebraic_Kernel12Ideal_Reference12Ideal Cert.Kernel12Ideal.Gen.facts Cert.Reference12Ideal.Gen.facts := by
  intro m g m' g' _ ha
  refine ⟨fun c => (dats m 0 c).arrAt 4 cfg0.N, fun c => (dats m 0 c).arrAt 5 cfg0.N, fun c => (dats m 0 c).arrAt 6 cfg0.N, Value.run_blocks m g, ?_⟩
  refine (θ_run _ _ _).mono (fun r h c => ?_) (Cert.Reference12Ideal.Value.run m' g')
  obtain ⟨h0, h1, h2, hk⟩ := h c
  obtain ⟨e0, e1, e2, e3⟩ := ha c
  refine ⟨h0.trans ?_, h1.trans ?_, h2.trans ?_, hk⟩
  · rw [Cert.Reference12Ideal.Read.val_main_v23_eq, e0, e1, e2, e3]
    exact (res4 m c).symm
  · rw [Cert.Reference12Ideal.Read.val_main_v4_eq, e1, e2]
    exact (res5 m c).symm
  · rw [Cert.Reference12Ideal.Read.val_main_v10_eq, e1, e3]
    exact (res6 m c).symm

/-- The reference keeps its arguments and leaves its counters at zero: it has none. -/
theorem reference_frame : @Cert.quiescent_Reference12Ideal Cert.Reference12Ideal.Gen.facts := by
  intro m ρ _
  exact (θ_run _ _ _).mono (fun r h => ⟨fun c => (h c).2.2.2, sem_eq_zero_of_no_sems (by decide) r.2⟩) (Cert.Reference12Ideal.Value.run m ρ)

end Cert.Kernel12Ideal.Adam

end
-- ==== Proof.Adam13.lean ====
module

public import proofs.«01_k».proof.Proof.Gen.Kernel13Ideal.Value
public import proofs.«01_k».proof.Defs
public import proofs.«01_k».proof.Proof.Gen.Reference13Ideal.Run
public import proofs.«01_k».proof.Proof.Gen.Reference13Ideal.Read
public import Idealize.ShloMosaic.Adequacy
public import Idealize.ShloMosaic.Init
public import Idealize.ShloMosaic.Lib.Pipeline.ValueKit
public import Idealize.ShloMosaic.Lib.Pipeline.ReadBack
public import Idealize.ShloMosaic.Lib.Pointwise
public import Idealize.ShloMosaic.Lib.ValueIdx

@[expose] public section

set_option maxRecDepth 16384

noncomputable section

/-! The optimiser's step of w_in: the call's arrays and the reference's, at an index. -/

namespace Cert.Kernel13Ideal.Adam

open Cert.Kernel13Ideal Cert.Kernel13Ideal.Gen Idealize.ShloMosaic Idealize.ShloMosaic.TcCoe Idealize.SL.Sem

/-- A block's entry is the reference's, where the arguments' entries agree. -/
theorem pay5 (b c : Vec Ideal S112x2048 .f32) (B C : (⟨S2048x784, .f32⟩ : BufTy).Contents (Elt Ideal)) (r : Fin 112) (i : Fin 784) (j : Fin 2048)
    (h1 : b (ix2 r j) = B (ix2 j i)) (h2 : c (ix2 r j) = C (ix2 j i)) :
    k0_pay2 b c (ix2 r j) = Cert.Reference13Ideal.Read.val_main_v25 B C (ix2 i j) := by
  unfold k0_pay2 k0_pay1 Cert.Reference13Ideal.Read.val_main_v25
  unfold Cert.Reference13Ideal.Read.val_main_v4 Cert.Reference13Ideal.Read.val_main_v3 Cert.Reference13Ideal.Read.val_main_v2 Cert.Reference13Ideal.Read.val_main_cst_0 Cert.Reference13Ideal.Read.val_main_v1 Cert.Reference13Ideal.Read.val_main_v0 Cert.Reference13Ideal.Read.val_main_cst
  pointwise
  rw [h1, h2]

/-- What a point leaves. -/
theorem out5 (a b c d : Vec Ideal S112x2048 .f32) : out0_5 a b c d = k0_pay2 b c := by
  frame_out

/-- A block's entry is the reference's, where the arguments' entries agree. -/
theorem pay6 (b d : Vec Ideal S112x2048 .f32) (B D : (⟨S2048x784, .f32⟩ : BufTy).Contents (Elt Ideal)) (r : Fin 112) (i : Fin 784) (j : Fin 2048)
    (h1 : b (ix2 r j) = B (ix2 j i)) (h3 : d (ix2 r j) = D (ix2 j i)) :
    k0_pay3 b d (ix2 r j) = Cert.Reference13Ideal.Read.val_main_v26 B D (ix2 i j) := by
  unfold k0_pay3 k0_pay1 Cert.Reference13Ideal.Read.val_main_v26
  unfold Cert.Reference13Ideal.Read.val_main_v10 Cert.Reference13Ideal.Read.val_main_v9 Cert.Reference13Ideal.Read.val_main_v8 Cert.Reference13Ideal.Read.val_main_cst_2 Cert.Reference13Ideal.Read.val_main_v7 Cert.Reference13Ideal.Read.val_main_v6 Cert.Reference13Ideal.Read.val_main_v5 Cert.Reference13Ideal.Read.val_main_cst_1
  pointwise
  rw [h1, h3]

/-- What a point leaves. -/
theorem out6 (a b c d : Vec Ideal S112x2048 .f32) : out0_6 a b c d = k0_pay3 b d := by
  frame_out

/-- A block's entry is the reference's, where the arguments' entries agree. -/
theorem pay4 (a b c d : Vec Ideal S112x2048 .f32) (A B C D : (⟨S2048x784, .f32⟩ : BufTy).Contents (Elt Ideal)) (r : Fin 112) (i : Fin 784) (j : Fin 2048)
    (h0 : a (ix2 r j) = A (ix2 j i)) (h1 : b (ix2 r j) = B (ix2 j i)) (h2 : c (ix2 r j) = C (ix2 j i)) (h3 : d (ix2 r j) = D (ix2 j i)) :
    k0_pay4 a b c d (ix2 r j) = Cert.Reference13Ideal.Read.val_main_v24 A B C D (ix2 i j) := by
  unfold k0_pay4 k0_pay3 k0_pay2 k0_pay1 Cert.Reference13Ideal.Read.val_main_v24
  unfold Cert.Reference13Ideal.Read.val_main_v23 Cert.Reference13Ideal.Read.val_main_v22 Cert.Reference13Ideal.Read.val_main_cst_7 Cert.Reference13Ideal.Read.val_main_v21 Cert.Reference13Ideal.Read.val_main_v20 Cert.Reference13Ideal.Read.val_main_v19 Cert.Reference13Ideal.Read.val_main_cst_6 Cert.Reference13Ideal.Read.val_main_v18 Cert.Reference13Ideal.Read.val_main_v17 Cert.Reference13Ideal.Read.val_main_v16 Cert.Reference13Ideal.Read.val_main_cst_5 Cert.Reference13Ideal.Read.val_main_v15 Cert.Reference13Ideal.Read.val_main_v14 Cert.Reference13Ideal.Read.val_main_v13 Cert.Reference13Ideal.Read.val_main_cst_4 Cert.Reference13Ideal.Read.val_main_v12 Cert.Reference13Ideal.Read.val_main_v11 Cert.Reference13Ideal.Read.val_main_cst_3 Cert.Reference13Ideal.Read.val_main_v10 Cert.Reference13Ideal.Read.val_main_v9 Cert.Reference13Ideal.Read.val_main_v8 Cert.Reference13Ideal.Read.val_main_cst_2 Cert.Reference13Ideal.Read.val_main_v7 Cert.Reference13Ideal.Read.val_main_v6 Cert.Reference13Ideal.Read.val_main_v5 Cert.Reference13Ideal.Read.val_main_cst_1 Cert.Reference13Ideal.Read.val_main_v4 Cert.Reference13Ideal.Read.val_main_v3 Cert.Reference13Ideal.Read.val_main_v2 Cert.Reference13Ideal.Read.val_main_cst_0 Cert.Reference13Ideal.Read.val_main_v1 Cert.Reference13Ideal.Read.val_main_v0 Cert.Reference13Ideal.Read.val_main_cst
  pointwise
  rw [h0, h1, h2, h3]

/-- What a point leaves. -/
theorem out4 (a b c d : Vec Ideal S112x2048 .f32) : out0_4 a b c d = k0_pay4 a b c d := by
  frame_out

variable (m : (ℓ : Loc nD τ sig) → Buf (Elt Ideal) ℓ) (c : Dev nD)

/-- The weights. -/
abbrev a0 : (⟨S2048x784, .f32⟩ : BufTy).Contents (Elt Ideal) := m ((c.tc : Thread nD τ).loc main_arg0)
/-- Their gradient. -/
abbrev a1 : (⟨S2048x784, .f32⟩ : BufTy).Contents (Elt Ideal) := m ((c.tc : Thread nD τ).loc main_arg1)
/-- The first moment. -/
abbrev a2 : (⟨S2048x784, .f32⟩ : BufTy).Contents (Elt Ideal) := m ((c.tc : Thread nD τ).loc main_arg2)
/-- The second moment. -/
abbrev a3 : (⟨S2048x784, .f32⟩ : BufTy).Contents (Elt Ideal) := m ((c.tc : Thread nD τ).loc main_arg3)
/-- What the array that goes into the call holds after the host's lines. -/
theorem V0 : (V m c main_v0 : Vec Ideal S784x2048 .f32) = transpose S784x2048 [1, 0] (a0 m c) transposes_S2048x784_S784x2048_1_0 := by
  show StableHlo.after hostOps0 _ main_v0 = _
  after_results_simp <;> rfl
/-- What the array that goes into the call holds after the host's lines. -/
theorem V1 : (V m c main_v1 : Vec Ideal S784x2048 .f32) = transpose S784x2048 [1, 0] (a1 m c) transposes_S2048x784_S784x2048_1_0 := by
  show StableHlo.after hostOps0 _ main_v1 = _
  after_results_simp <;> rfl
/-- What the array that goes into the call holds after the host's lines. -/
theorem V2 : (V m c main_v2 : Vec Ideal S784x2048 .f32) = transpose S784x2048 [1, 0] (a2 m c) transposes_S2048x784_S784x2048_1_0 := by
  show StableHlo.after hostOps0 _ main_v2 = _
  after_results_simp <;> rfl
/-- What the array that goes into the call holds after the host's lines. -/
theorem V3 : (V m c main_v3 : Vec Ideal S784x2048 .f32) = transpose S784x2048 [1, 0] (a3 m c) transposes_S2048x784_S784x2048_1_0 := by
  show StableHlo.after hostOps0 _ main_v3 = _
  after_results_simp <;> rfl

/-- The block each window is at. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The bound on the number of grid points. -/
theorem ltN (t : Fin cfg0.N) : t.val < 7 := t.isLt

/-- Row `r` of a point's block. -/
abbrev row (t : Fin cfg0.N) (r : Fin 112) : Fin 784 := ⟨t.val * 112 + r.val, by have := ltN t; omega⟩

/-- What block 0 of a point holds, in terms of the arguments. -/
theorem blk0 (t : Fin cfg0.N) (r : Fin 112) (j : Fin 2048) : (iblk m c 0 t : Vec Ideal S112x2048 .f32) (ix2 r j) = a0 m c (ix2 j (row t r)) := by
  have h : (iblk m c 0 t : Vec Ideal S112x2048 .f32) (ix2 r j) = (V m c main_v0 : Vec Ideal S784x2048 .f32) (ix2 (row t r) j) := by blk_ext [iblk, idx t]
  rw [h, V0]
  generalize a0 m c = a
  pointwise
/-- What block 1 of a point holds, in terms of the arguments. -/
theorem blk1 (t : Fin cfg0.N) (r : Fin 112) (j : Fin 2048) : (iblk m c 1 t : Vec Ideal S112x2048 .f32) (ix2 r j) = a1 m c (ix2 j (row t r)) := by
  have h : (iblk m c 1 t : Vec Ideal S112x2048 .f32) (ix2 r j) = (V m c main_v1 : Vec Ideal S784x2048 .f32) (ix2 (row t r) j) := by blk_ext [iblk, idx t]
  rw [h, V1]
  generalize a1 m c = a
  pointwise
/-- What block 2 of a point holds, in terms of the arguments. -/
theorem blk2 (t : Fin cfg0.N) (r : Fin 112) (j : Fin 2048) : (iblk m c 2 t : Vec Ideal S112x2048 .f32) (ix2 r j) = a2 m c (ix2 j (row t r)) := by
  have h : (iblk m c 2 t : Vec Ideal S112x2048 .f32) (ix2 r j) = (V m c main_v2 : Vec Ideal S784x2048 .f32) (ix2 (row t r) j) := by blk_ext [iblk, idx t]
  rw [h, V2]
  generalize a2 m c = a
  pointwise
/-- What block 3 of a point holds, in terms of the arguments. -/
theorem blk3 (t : Fin cfg0.N) (r : Fin 112) (j : Fin 2048) : (iblk m c 3 t : Vec Ideal S112x2048 .f32) (ix2 r j) = a3 m c (ix2 j (row t r)) := by
  have h : (iblk m c 3 t : Vec Ideal S112x2048 .f32) (ix2 r j) = (V m c main_v3 : Vec Ideal S784x2048 .f32) (ix2 (row t r) j) := by blk_ext [iblk, idx t]
  rw [h, V3]
  generalize a3 m c = a
  pointwise

/-- The point of a row. -/
abbrev pt (i : Fin 784) : Fin cfg0.N := ⟨i.val / 112, by show _ < 7; omega⟩

/-- The call's array is the reference's. -/
theorem res4 : ((dats m 0 c).arrAt 4 cfg0.N : Vec Ideal S784x2048 .f32) = Cert.Reference13Ideal.Read.val_main_v24 (a0 m c) (a1 m c) (a2 m c) (a3 m c) := by
  refine funext fun y => ?_
  obtain ⟨i, j, rfl⟩ : ∃ (i : Fin 784) (j : Fin 2048), y = ix2 i j := ⟨y 0, y 1, by funext a; fin_cases a <;> rfl⟩
  have hb := congrFun (Value.blocks4 m c (pt i) (flush0_4 (pt i))) (ix2 (⟨i.val % 112, Nat.mod_lt _ (by decide)⟩ : Fin 112) j)
  rw [Value.flushed4, out4] at hb
  have hi : row (pt i) ⟨i.val % 112, Nat.mod_lt _ (by decide)⟩ = i := Fin.ext (by show i.val / 112 * 112 + i.val % 112 = i.val; omega)
  have ho := pay4 (iblk m c 0 (pt i)) (iblk m c 1 (pt i)) (iblk m c 2 (pt i)) (iblk m c 3 (pt i)) (a0 m c) (a1 m c) (a2 m c) (a3 m c) ⟨i.val % 112, Nat.mod_lt _ (by decide)⟩ i j
    ((blk0 m c _ _ _).trans (by rw [hi])) ((blk1 m c _ _ _).trans (by rw [hi])) ((blk2 m c _ _ _).trans (by rw [hi])) ((blk3 m c _ _ _).trans (by rw [hi]))
  rw [← ho]
  refine Eq.trans ?_ hb
  blk_ext [idx (pt i)]

/-- The call's array is the reference's. -/
theorem res5 : ((dats m 0 c).arrAt 5 cfg0.N : Vec Ideal S784x2048 .f32) = Cert.Reference13Ideal.Read.val_main_v25 (a1 m c) (a2 m c) := by
  refine funext fun y => ?_
  obtain ⟨i, j, rfl⟩ : ∃ (i : Fin 784) (j : Fin 2048), y = ix2 i j := ⟨y 0, y 1, by funext a; fin_cases a <;> rfl⟩
  have hb := congrFun (Value.blocks5 m c (pt i) (flush0_5 (pt i))) (ix2 (⟨i.val % 112, Nat.mod_lt _ (by decide)⟩ : Fin 112) j)
  rw [Value.flushed5, out5] at hb
  have hi : row (pt i) ⟨i.val % 112, Nat.mod_lt _ (by decide)⟩ = i := Fin.ext (by show i.val / 112 * 112 + i.val % 112 = i.val; omega)
  have ho := pay5 (iblk m c 1 (pt i)) (iblk m c 2 (pt i)) (a1 m c) (a2 m c) ⟨i.val % 112, Nat.mod_lt _ (by decide)⟩ i j
    ((blk1 m c _ _ _).trans (by rw [hi])) ((blk2 m c _ _ _).trans (by rw [hi]))
  rw [← ho]
  refine Eq.trans ?_ hb
  blk_ext [idx (pt i)]

/-- The call's array is the reference's. -/
theorem res6 : ((dats m 0 c).arrAt 6 cfg0.N : Vec Ideal S784x2048 .f32) = Cert.Reference13Ideal.Read.val_main_v26 (a1 m c) (a3 m c) := by
  refine funext fun y => ?_
  obtain ⟨i, j, rfl⟩ : ∃ (i : Fin 784) (j : Fin 2048), y = ix2 i j := ⟨y 0, y 1, by funext a; fin_cases a <;> rfl⟩
  have hb := congrFun (Value.blocks6 m c (pt i) (flush0_6 (pt i))) (ix2 (⟨i.val % 112, Nat.mod_lt _ (by decide)⟩ : Fin 112) j)
  rw [Value.flushed6, out6] at hb
  have hi : row (pt i) ⟨i.val % 112, Nat.mod_lt _ (by decide)⟩ = i := Fin.ext (by show i.val / 112 * 112 + i.val % 112 = i.val; omega)
  have ho := pay6 (iblk m c 1 (pt i)) (iblk m c 3 (pt i)) (a1 m c) (a3 m c) ⟨i.val % 112, Nat.mod_lt _ (by decide)⟩ i j
    ((blk1 m c _ _ _).trans (by rw [hi])) ((blk3 m c _ _ _).trans (by rw [hi]))
  rw [← ho]
  refine Eq.trans ?_ hb
  blk_ext [idx (pt i)]

/-- From arguments that agree, the call and the reference both run and return the same arrays. -/
theorem algebraic : @Cert.algebraic_Kernel13Ideal_Reference13Ideal Cert.Kernel13Ideal.Gen.facts Cert.Reference13Ideal.Gen.facts := by
  intro m g m' g' _ ha
  refine ⟨fun c => (dats m 0 c).arrAt 4 cfg0.N, fun c => (dats m 0 c).arrAt 5 cfg0.N, fun c => (dats m 0 c).arrAt 6 cfg0.N, Value.run_blocks m g, ?_⟩
  refine (θ_run _ _ _).mono (fun r h c => ?_) (Cert.Reference13Ideal.Value.run m' g')
  obtain ⟨h0, h1, h2, hk⟩ := h c
  obtain ⟨e0, e1, e2, e3⟩ := ha c
  refine ⟨h0.trans ?_, h1.trans ?_, h2.trans ?_, hk⟩
  · rw [Cert.Reference13Ideal.Read.val_main_v24_eq, e0, e1, e2, e3]
    exact (res4 m c).symm
  · rw [Cert.Reference13Ideal.Read.val_main_v25_eq, e1, e2]
    exact (res5 m c).symm
  · rw [Cert.Reference13Ideal.Read.val_main_v26_eq, e1, e3]
    exact (res6 m c).symm

/-- The reference keeps its arguments and leaves its counters at zero: it has none. -/
theorem reference_frame : @Cert.quiescent_Reference13Ideal Cert.Reference13Ideal.Gen.facts := by
  intro m ρ _
  exact (θ_run _ _ _).mono (fun r h => ⟨fun c => (h c).2.2.2, sem_eq_zero_of_no_sems (by decide) r.2⟩) (Cert.Reference13Ideal.Value.run m ρ)

end Cert.Kernel13Ideal.Adam

end
-- ==== Proof.Adam14.lean ====
module

public import proofs.«01_k».proof.Proof.Gen.Kernel14Ideal.Value
public import proofs.«01_k».proof.Defs
public import proofs.«01_k».proof.Proof.Gen.Reference14Ideal.Run
public import proofs.«01_k».proof.Proof.Gen.Reference14Ideal.Read
public import Idealize.ShloMosaic.Adequacy
public import Idealize.ShloMosaic.Init
public import Idealize.ShloMosaic.Lib.Pipeline.ValueKit
public import Idealize.ShloMosaic.Lib.Pipeline.ReadBack
public import Idealize.ShloMosaic.Lib.Pointwise
public import Idealize.ShloMosaic.Lib.ValueIdx

@[expose] public section

set_option maxRecDepth 16384

noncomputable section

/-! The optimiser's step of w_uq: the call's arrays and the reference's, at an index. -/

namespace Cert.Kernel14Ideal.Adam

open Cert.Kernel14Ideal Cert.Kernel14Ideal.Gen Idealize.ShloMosaic Idealize.ShloMosaic.TcCoe Idealize.SL.Sem

/-- A block's entry is the reference's, where the arguments' entries agree. -/
theorem pay5 (b c : Vec Ideal S512x384 .f32) (B C : (⟨S512x384, .f32⟩ : BufTy).Contents (Elt Ideal)) (r : Fin 512) (i : Fin 512) (j : Fin 384)
    (h1 : b (ix2 r j) = B (ix2 i j)) (h2 : c (ix2 r j) = C (ix2 i j)) :
    k0_pay1 b c (ix2 r j) = Cert.Reference14Ideal.Read.val_main_v4 B C (ix2 i j) := by
  unfold k0_pay1 Cert.Reference14Ideal.Read.val_main_v4
  unfold Cert.Reference14Ideal.Read.val_main_v3 Cert.Reference14Ideal.Read.val_main_v2 Cert.Reference14Ideal.Read.val_main_cst_0 Cert.Reference14Ideal.Read.val_main_v1 Cert.Reference14Ideal.Read.val_main_v0 Cert.Reference14Ideal.Read.val_main_cst
  pointwise
  rw [h1, h2]

/-- What a point leaves. -/
theorem out5 (a b c d : Vec Ideal S512x384 .f32) : out0_5 a b c d = k0_pay1 b c := by
  frame_out

/-- A block's entry is the reference's, where the arguments' entries agree. -/
theorem pay6 (b d : Vec Ideal S512x384 .f32) (B D : (⟨S512x384, .f32⟩ : BufTy).Contents (Elt Ideal)) (r : Fin 512) (i : Fin 512) (j : Fin 384)
    (h1 : b (ix2 r j) = B (ix2 i j)) (h3 : d (ix2 r j) = D (ix2 i j)) :
    k0_pay2 b d (ix2 r j) = Cert.Reference14Ideal.Read.val_main_v10 B D (ix2 i j) := by
  unfold k0_pay2 Cert.Reference14Ideal.Read.val_main_v10
  unfold Cert.Reference14Ideal.Read.val_main_v9 Cert.Reference14Ideal.Read.val_main_v8 Cert.Reference14Ideal.Read.val_main_cst_2 Cert.Reference14Ideal.Read.val_main_v7 Cert.Reference14Ideal.Read.val_main_v6 Cert.Reference14Ideal.Read.val_main_v5 Cert.Reference14Ideal.Read.val_main_cst_1
  pointwise
  rw [h1, h3]

/-- What a point leaves. -/
theorem out6 (a b c d : Vec Ideal S512x384 .f32) : out0_6 a b c d = k0_pay2 b d := by
  frame_out

/-- A block's entry is the reference's, where the arguments' entries agree. -/
theorem pay4 (a b c d : Vec Ideal S512x384 .f32) (A B C D : (⟨S512x384, .f32⟩ : BufTy).Contents (Elt Ideal)) (r : Fin 512) (i : Fin 512) (j : Fin 384)
    (h0 : a (ix2 r j) = A (ix2 i j)) (h1 : b (ix2 r j) = B (ix2 i j)) (h2 : c (ix2 r j) = C (ix2 i j)) (h3 : d (ix2 r j) = D (ix2 i j)) :
    k0_pay3 a b c d (ix2 r j) = Cert.Reference14Ideal.Read.val_main_v23 A B C D (ix2 i j) := by
  unfold k0_pay3 k0_pay1 k0_pay2 Cert.Reference14Ideal.Read.val_main_v23
  unfold Cert.Reference14Ideal.Read.val_main_v22 Cert.Reference14Ideal.Read.val_main_cst_7 Cert.Reference14Ideal.Read.val_main_v21 Cert.Reference14Ideal.Read.val_main_v20 Cert.Reference14Ideal.Read.val_main_v19 Cert.Reference14Ideal.Read.val_main_cst_6 Cert.Reference14Ideal.Read.val_main_v18 Cert.Reference14Ideal.Read.val_main_v17 Cert.Reference14Ideal.Read.val_main_v16 Cert.Reference14Ideal.Read.val_main_cst_5 Cert.Reference14Ideal.Read.val_main_v15 Cert.Reference14Ideal.Read.val_main_v14 Cert.Reference14Ideal.Read.val_main_v13 Cert.Reference14Ideal.Read.val_main_cst_4 Cert.Reference14Ideal.Read.val_main_v12 Cert.Reference14Ideal.Read.val_main_v11 Cert.Reference14Ideal.Read.val_main_cst_3 Cert.Reference14Ideal.Read.val_main_v10 Cert.Reference14Ideal.Read.val_main_v9 Cert.Reference14Ideal.Read.val_main_v8 Cert.Reference14Ideal.Read.val_main_cst_2 Cert.Reference14Ideal.Read.val_main_v7 Cert.Reference14Ideal.Read.val_main_v6 Cert.Reference14Ideal.Read.val_main_v5 Cert.Reference14Ideal.Read.val_main_cst_1 Cert.Reference14Ideal.Read.val_main_v4 Cert.Reference14Ideal.Read.val_main_v3 Cert.Reference14Ideal.Read.val_main_v2 Cert.Reference14Ideal.Read.val_main_cst_0 Cert.Reference14Ideal.Read.val_main_v1 Cert.Reference14Ideal.Read.val_main_v0 Cert.Reference14Ideal.Read.val_main_cst
  pointwise
  rw [h0, h1, h2, h3]

/-- What a point leaves. -/
theorem out4 (a b c d : Vec Ideal S512x384 .f32) : out0_4 a b c d = k0_pay3 a b c d := by
  frame_out

variable (m : (ℓ : Loc nD τ sig) → Buf (Elt Ideal) ℓ) (c : Dev nD)

/-- The weights. -/
abbrev a0 : (⟨S512x384, .f32⟩ : BufTy).Contents (Elt Ideal) := m ((c.tc : Thread nD τ).loc main_arg0)
/-- Their gradient. -/
abbrev a1 : (⟨S512x384, .f32⟩ : BufTy).Contents (Elt Ideal) := m ((c.tc : Thread nD τ).loc main_arg1)
/-- The first moment. -/
abbrev a2 : (⟨S512x384, .f32⟩ : BufTy).Contents (Elt Ideal) := m ((c.tc : Thread nD τ).loc main_arg2)
/-- The second moment. -/
abbrev a3 : (⟨S512x384, .f32⟩ : BufTy).Contents (Elt Ideal) := m ((c.tc : Thread nD τ).loc main_arg3)

/-- The block each window is at. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The bound on the number of grid points. -/
theorem ltN (t : Fin cfg0.N) : t.val < 1 := t.isLt

/-- Row `r` of a point's block. -/
abbrev row (t : Fin cfg0.N) (r : Fin 512) : Fin 512 := ⟨t.val * 512 + r.val, by have := ltN t; omega⟩

/-- What block 0 of a point holds, in terms of the arguments. -/
theorem blk0 (t : Fin cfg0.N) (r : Fin 512) (j : Fin 384) : (iblk m c 0 t : Vec Ideal S512x384 .f32) (ix2 r j) = a0 m c (ix2 (row t r) j) := by
  blk_ext [iblk, idx t]
/-- What block 1 of a point holds, in terms of the arguments. -/
theorem blk1 (t : Fin cfg0.N) (r : Fin 512) (j : Fin 384) : (iblk m c 1 t : Vec Ideal S512x384 .f32) (ix2 r j) = a1 m c (ix2 (row t r) j) := by
  blk_ext [iblk, idx t]
/-- What block 2 of a point holds, in terms of the arguments. -/
theorem blk2 (t : Fin cfg0.N) (r : Fin 512) (j : Fin 384) : (iblk m c 2 t : Vec Ideal S512x384 .f32) (ix2 r j) = a2 m c (ix2 (row t r) j) := by
  blk_ext [iblk, idx t]
/-- What block 3 of a point holds, in terms of the arguments. -/
theorem blk3 (t : Fin cfg0.N) (r : Fin 512) (j : Fin 384) : (iblk m c 3 t : Vec Ideal S512x384 .f32) (ix2 r j) = a3 m c (ix2 (row t r) j) := by
  blk_ext [iblk, idx t]

/-- The point of a row. -/
abbrev pt (i : Fin 512) : Fin cfg0.N := ⟨i.val / 512, by show _ < 1; omega⟩

/-- The call's array is the reference's. -/
theorem res4 : ((dats m 0 c).arrAt 4 cfg0.N : Vec Ideal S512x384 .f32) = Cert.Reference14Ideal.Read.val_main_v23 (a0 m c) (a1 m c) (a2 m c) (a3 m c) := by
  refine funext fun y => ?_
  obtain ⟨i, j, rfl⟩ : ∃ (i : Fin 512) (j : Fin 384), y = ix2 i j := ⟨y 0, y 1, by funext a; fin_cases a <;> rfl⟩
  have hb := congrFun (Value.blocks4 m c (pt i) (flush0_4 (pt i))) (ix2 (⟨i.val % 512, Nat.mod_lt _ (by decide)⟩ : Fin 512) j)
  rw [Value.flushed4, out4] at hb
  have hi : row (pt i) ⟨i.val % 512, Nat.mod_lt _ (by decide)⟩ = i := Fin.ext (by show i.val / 512 * 512 + i.val % 512 = i.val; omega)
  have ho := pay4 (iblk m c 0 (pt i)) (iblk m c 1 (pt i)) (iblk m c 2 (pt i)) (iblk m c 3 (pt i)) (a0 m c) (a1 m c) (a2 m c) (a3 m c) ⟨i.val % 512, Nat.mod_lt _ (by decide)⟩ i j
    ((blk0 m c _ _ _).trans (by rw [hi])) ((blk1 m c _ _ _).trans (by rw [hi])) ((blk2 m c _ _ _).trans (by rw [hi])) ((blk3 m c _ _ _).trans (by rw [hi]))
  rw [← ho]
  refine Eq.trans ?_ hb
  blk_ext [idx (pt i)]

/-- The call's array is the reference's. -/
theorem res5 : ((dats m 0 c).arrAt 5 cfg0.N : Vec Ideal S512x384 .f32) = Cert.Reference14Ideal.Read.val_main_v4 (a1 m c) (a2 m c) := by
  refine funext fun y => ?_
  obtain ⟨i, j, rfl⟩ : ∃ (i : Fin 512) (j : Fin 384), y = ix2 i j := ⟨y 0, y 1, by funext a; fin_cases a <;> rfl⟩
  have hb := congrFun (Value.blocks5 m c (pt i) (flush0_5 (pt i))) (ix2 (⟨i.val % 512, Nat.mod_lt _ (by decide)⟩ : Fin 512) j)
  rw [Value.flushed5, out5] at hb
  have hi : row (pt i) ⟨i.val % 512, Nat.mod_lt _ (by decide)⟩ = i := Fin.ext (by show i.val / 512 * 512 + i.val % 512 = i.val; omega)
  have ho := pay5 (iblk m c 1 (pt i)) (iblk m c 2 (pt i)) (a1 m c) (a2 m c) ⟨i.val % 512, Nat.mod_lt _ (by decide)⟩ i j
    ((blk1 m c _ _ _).trans (by rw [hi])) ((blk2 m c _ _ _).trans (by rw [hi]))
  rw [← ho]
  refine Eq.trans ?_ hb
  blk_ext [idx (pt i)]

/-- The call's array is the reference's. -/
theorem res6 : ((dats m 0 c).arrAt 6 cfg0.N : Vec Ideal S512x384 .f32) = Cert.Reference14Ideal.Read.val_main_v10 (a1 m c) (a3 m c) := by
  refine funext fun y => ?_
  obtain ⟨i, j, rfl⟩ : ∃ (i : Fin 512) (j : Fin 384), y = ix2 i j := ⟨y 0, y 1, by funext a; fin_cases a <;> rfl⟩
  have hb := congrFun (Value.blocks6 m c (pt i) (flush0_6 (pt i))) (ix2 (⟨i.val % 512, Nat.mod_lt _ (by decide)⟩ : Fin 512) j)
  rw [Value.flushed6, out6] at hb
  have hi : row (pt i) ⟨i.val % 512, Nat.mod_lt _ (by decide)⟩ = i := Fin.ext (by show i.val / 512 * 512 + i.val % 512 = i.val; omega)
  have ho := pay6 (iblk m c 1 (pt i)) (iblk m c 3 (pt i)) (a1 m c) (a3 m c) ⟨i.val % 512, Nat.mod_lt _ (by decide)⟩ i j
    ((blk1 m c _ _ _).trans (by rw [hi])) ((blk3 m c _ _ _).trans (by rw [hi]))
  rw [← ho]
  refine Eq.trans ?_ hb
  blk_ext [idx (pt i)]

/-- From arguments that agree, the call and the reference both run and return the same arrays. -/
theorem algebraic : @Cert.algebraic_Kernel14Ideal_Reference14Ideal Cert.Kernel14Ideal.Gen.facts Cert.Reference14Ideal.Gen.facts := by
  intro m g m' g' _ ha
  refine ⟨fun c => (dats m 0 c).arrAt 4 cfg0.N, fun c => (dats m 0 c).arrAt 5 cfg0.N, fun c => (dats m 0 c).arrAt 6 cfg0.N, Value.run_blocks m g, ?_⟩
  refine (θ_run _ _ _).mono (fun r h c => ?_) (Cert.Reference14Ideal.Value.run m' g')
  obtain ⟨h0, h1, h2, hk⟩ := h c
  obtain ⟨e0, e1, e2, e3⟩ := ha c
  refine ⟨h0.trans ?_, h1.trans ?_, h2.trans ?_, hk⟩
  · rw [Cert.Reference14Ideal.Read.val_main_v23_eq, e0, e1, e2, e3]
    exact (res4 m c).symm
  · rw [Cert.Reference14Ideal.Read.val_main_v4_eq, e1, e2]
    exact (res5 m c).symm
  · rw [Cert.Reference14Ideal.Read.val_main_v10_eq, e1, e3]
    exact (res6 m c).symm

/-- The reference keeps its arguments and leaves its counters at zero: it has none. -/
theorem reference_frame : @Cert.quiescent_Reference14Ideal Cert.Reference14Ideal.Gen.facts := by
  intro m ρ _
  exact (θ_run _ _ _).mono (fun r h => ⟨fun c => (h c).2.2.2, sem_eq_zero_of_no_sems (by decide) r.2⟩) (Cert.Reference14Ideal.Value.run m ρ)

end Cert.Kernel14Ideal.Adam

end
-- ==== Proof.Adam15.lean ====
module

public import proofs.«01_k».proof.Proof.Gen.Kernel15Ideal.Value
public import proofs.«01_k».proof.Defs
public import proofs.«01_k».proof.Proof.Gen.Reference15Ideal.Run
public import proofs.«01_k».proof.Proof.Gen.Reference15Ideal.Read
public import Idealize.ShloMosaic.Adequacy
public import Idealize.ShloMosaic.Init
public import Idealize.ShloMosaic.Lib.Pipeline.ValueKit
public import Idealize.ShloMosaic.Lib.Pipeline.ReadBack
public import Idealize.ShloMosaic.Lib.Pointwise
public import Idealize.ShloMosaic.Lib.ValueIdx

@[expose] public section

set_option maxRecDepth 16384

noncomputable section

/-! The optimiser's step of w_uk: the call's arrays and the reference's, at an index. -/

namespace Cert.Kernel15Ideal.Adam

open Cert.Kernel15Ideal Cert.Kernel15Ideal.Gen Idealize.ShloMosaic Idealize.ShloMosaic.TcCoe Idealize.SL.Sem

/-- A block's entry is the reference's, where the arguments' entries agree. -/
theorem pay5 (b c : Vec Ideal S512x256 .f32) (B C : (⟨S512x256, .f32⟩ : BufTy).Contents (Elt Ideal)) (r : Fin 512) (i : Fin 512) (j : Fin 256)
    (h1 : b (ix2 r j) = B (ix2 i j)) (h2 : c (ix2 r j) = C (ix2 i j)) :
    k0_pay1 b c (ix2 r j) = Cert.Reference15Ideal.Read.val_main_v4 B C (ix2 i j) := by
  unfold k0_pay1 Cert.Reference15Ideal.Read.val_main_v4
  unfold Cert.Reference15Ideal.Read.val_main_v3 Cert.Reference15Ideal.Read.val_main_v2 Cert.Reference15Ideal.Read.val_main_cst_0 Cert.Reference15Ideal.Read.val_main_v1 Cert.Reference15Ideal.Read.val_main_v0 Cert.Reference15Ideal.Read.val_main_cst
  pointwise
  rw [h1, h2]

/-- What a point leaves. -/
theorem out5 (a b c d : Vec Ideal S512x256 .f32) : out0_5 a b c d = k0_pay1 b c := by
  frame_out

/-- A block's entry is the reference's, where the arguments' entries agree. -/
theorem pay6 (b d : Vec Ideal S512x256 .f32) (B D : (⟨S512x256, .f32⟩ : BufTy).Contents (Elt Ideal)) (r : Fin 512) (i : Fin 512) (j : Fin 256)
    (h1 : b (ix2 r j) = B (ix2 i j)) (h3 : d (ix2 r j) = D (ix2 i j)) :
    k0_pay2 b d (ix2 r j) = Cert.Reference15Ideal.Read.val_main_v10 B D (ix2 i j) := by
  unfold k0_pay2 Cert.Reference15Ideal.Read.val_main_v10
  unfold Cert.Reference15Ideal.Read.val_main_v9 Cert.Reference15Ideal.Read.val_main_v8 Cert.Reference15Ideal.Read.val_main_cst_2 Cert.Reference15Ideal.Read.val_main_v7 Cert.Reference15Ideal.Read.val_main_v6 Cert.Reference15Ideal.Read.val_main_v5 Cert.Reference15Ideal.Read.val_main_cst_1
  pointwise
  rw [h1, h3]

/-- What a point leaves. -/
theorem out6 (a b c d : Vec Ideal S512x256 .f32) : out0_6 a b c d = k0_pay2 b d := by
  frame_out

/-- A block's entry is the reference's, where the arguments' entries agree. -/
theorem pay4 (a b c d : Vec Ideal S512x256 .f32) (A B C D : (⟨S512x256, .f32⟩ : BufTy).Contents (Elt Ideal)) (r : Fin 512) (i : Fin 512) (j : Fin 256)
    (h0 : a (ix2 r j) = A (ix2 i j)) (h1 : b (ix2 r j) = B (ix2 i j)) (h2 : c (ix2 r j) = C (ix2 i j)) (h3 : d (ix2 r j) = D (ix2 i j)) :
    k0_pay3 a b c d (ix2 r j) = Cert.Reference15Ideal.Read.val_main_v23 A B C D (ix2 i j) := by
  unfold k0_pay3 k0_pay1 k0_pay2 Cert.Reference15Ideal.Read.val_main_v23
  unfold Cert.Reference15Ideal.Read.val_main_v22 Cert.Reference15Ideal.Read.val_main_cst_7 Cert.Reference15Ideal.Read.val_main_v21 Cert.Reference15Ideal.Read.val_main_v20 Cert.Reference15Ideal.Read.val_main_v19 Cert.Reference15Ideal.Read.val_main_cst_6 Cert.Reference15Ideal.Read.val_main_v18 Cert.Reference15Ideal.Read.val_main_v17 Cert.Reference15Ideal.Read.val_main_v16 Cert.Reference15Ideal.Read.val_main_cst_5 Cert.Reference15Ideal.Read.val_main_v15 Cert.Reference15Ideal.Read.val_main_v14 Cert.Reference15Ideal.Read.val_main_v13 Cert.Reference15Ideal.Read.val_main_cst_4 Cert.Reference15Ideal.Read.val_main_v12 Cert.Reference15Ideal.Read.val_main_v11 Cert.Reference15Ideal.Read.val_main_cst_3 Cert.Reference15Ideal.Read.val_main_v10 Cert.Reference15Ideal.Read.val_main_v9 Cert.Reference15Ideal.Read.val_main_v8 Cert.Reference15Ideal.Read.val_main_cst_2 Cert.Reference15Ideal.Read.val_main_v7 Cert.Reference15Ideal.Read.val_main_v6 Cert.Reference15Ideal.Read.val_main_v5 Cert.Reference15Ideal.Read.val_main_cst_1 Cert.Reference15Ideal.Read.val_main_v4 Cert.Reference15Ideal.Read.val_main_v3 Cert.Reference15Ideal.Read.val_main_v2 Cert.Reference15Ideal.Read.val_main_cst_0 Cert.Reference15Ideal.Read.val_main_v1 Cert.Reference15Ideal.Read.val_main_v0 Cert.Reference15Ideal.Read.val_main_cst
  pointwise
  rw [h0, h1, h2, h3]

/-- What a point leaves. -/
theorem out4 (a b c d : Vec Ideal S512x256 .f32) : out0_4 a b c d = k0_pay3 a b c d := by
  frame_out

variable (m : (ℓ : Loc nD τ sig) → Buf (Elt Ideal) ℓ) (c : Dev nD)

/-- The weights. -/
abbrev a0 : (⟨S512x256, .f32⟩ : BufTy).Contents (Elt Ideal) := m ((c.tc : Thread nD τ).loc main_arg0)
/-- Their gradient. -/
abbrev a1 : (⟨S512x256, .f32⟩ : BufTy).Contents (Elt Ideal) := m ((c.tc : Thread nD τ).loc main_arg1)
/-- The first moment. -/
abbrev a2 : (⟨S512x256, .f32⟩ : BufTy).Contents (Elt Ideal) := m ((c.tc : Thread nD τ).loc main_arg2)
/-- The second moment. -/
abbrev a3 : (⟨S512x256, .f32⟩ : BufTy).Contents (Elt Ideal) := m ((c.tc : Thread nD τ).loc main_arg3)

/-- The block each window is at. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The bound on the number of grid points. -/
theorem ltN (t : Fin cfg0.N) : t.val < 1 := t.isLt

/-- Row `r` of a point's block. -/
abbrev row (t : Fin cfg0.N) (r : Fin 512) : Fin 512 := ⟨t.val * 512 + r.val, by have := ltN t; omega⟩

/-- What block 0 of a point holds, in terms of the arguments. -/
theorem blk0 (t : Fin cfg0.N) (r : Fin 512) (j : Fin 256) : (iblk m c 0 t : Vec Ideal S512x256 .f32) (ix2 r j) = a0 m c (ix2 (row t r) j) := by
  blk_ext [iblk, idx t]
/-- What block 1 of a point holds, in terms of the arguments. -/
theorem blk1 (t : Fin cfg0.N) (r : Fin 512) (j : Fin 256) : (iblk m c 1 t : Vec Ideal S512x256 .f32) (ix2 r j) = a1 m c (ix2 (row t r) j) := by
  blk_ext [iblk, idx t]
/-- What block 2 of a point holds, in terms of the arguments. -/
theorem blk2 (t : Fin cfg0.N) (r : Fin 512) (j : Fin 256) : (iblk m c 2 t : Vec Ideal S512x256 .f32) (ix2 r j) = a2 m c (ix2 (row t r) j) := by
  blk_ext [iblk, idx t]
/-- What block 3 of a point holds, in terms of the arguments. -/
theorem blk3 (t : Fin cfg0.N) (r : Fin 512) (j : Fin 256) : (iblk m c 3 t : Vec Ideal S512x256 .f32) (ix2 r j) = a3 m c (ix2 (row t r) j) := by
  blk_ext [iblk, idx t]

/-- The point of a row. -/
abbrev pt (i : Fin 512) : Fin cfg0.N := ⟨i.val / 512, by show _ < 1; omega⟩

/-- The call's array is the reference's. -/
theorem res4 : ((dats m 0 c).arrAt 4 cfg0.N : Vec Ideal S512x256 .f32) = Cert.Reference15Ideal.Read.val_main_v23 (a0 m c) (a1 m c) (a2 m c) (a3 m c) := by
  refine funext fun y => ?_
  obtain ⟨i, j, rfl⟩ : ∃ (i : Fin 512) (j : Fin 256), y = ix2 i j := ⟨y 0, y 1, by funext a; fin_cases a <;> rfl⟩
  have hb := congrFun (Value.blocks4 m c (pt i) (flush0_4 (pt i))) (ix2 (⟨i.val % 512, Nat.mod_lt _ (by decide)⟩ : Fin 512) j)
  rw [Value.flushed4, out4] at hb
  have hi : row (pt i) ⟨i.val % 512, Nat.mod_lt _ (by decide)⟩ = i := Fin.ext (by show i.val / 512 * 512 + i.val % 512 = i.val; omega)
  have ho := pay4 (iblk m c 0 (pt i)) (iblk m c 1 (pt i)) (iblk m c 2 (pt i)) (iblk m c 3 (pt i)) (a0 m c) (a1 m c) (a2 m c) (a3 m c) ⟨i.val % 512, Nat.mod_lt _ (by decide)⟩ i j
    ((blk0 m c _ _ _).trans (by rw [hi])) ((blk1 m c _ _ _).trans (by rw [hi])) ((blk2 m c _ _ _).trans (by rw [hi])) ((blk3 m c _ _ _).trans (by rw [hi]))
  rw [← ho]
  refine Eq.trans ?_ hb
  blk_ext [idx (pt i)]

/-- The call's array is the reference's. -/
theorem res5 : ((dats m 0 c).arrAt 5 cfg0.N : Vec Ideal S512x256 .f32) = Cert.Reference15Ideal.Read.val_main_v4 (a1 m c) (a2 m c) := by
  refine funext fun y => ?_
  obtain ⟨i, j, rfl⟩ : ∃ (i : Fin 512) (j : Fin 256), y = ix2 i j := ⟨y 0, y 1, by funext a; fin_cases a <;> rfl⟩
  have hb := congrFun (Value.blocks5 m c (pt i) (flush0_5 (pt i))) (ix2 (⟨i.val % 512, Nat.mod_lt _ (by decide)⟩ : Fin 512) j)
  rw [Value.flushed5, out5] at hb
  have hi : row (pt i) ⟨i.val % 512, Nat.mod_lt _ (by decide)⟩ = i := Fin.ext (by show i.val / 512 * 512 + i.val % 512 = i.val; omega)
  have ho := pay5 (iblk m c 1 (pt i)) (iblk m c 2 (pt i)) (a1 m c) (a2 m c) ⟨i.val % 512, Nat.mod_lt _ (by decide)⟩ i j
    ((blk1 m c _ _ _).trans (by rw [hi])) ((blk2 m c _ _ _).trans (by rw [hi]))
  rw [← ho]
  refine Eq.trans ?_ hb
  blk_ext [idx (pt i)]

/-- The call's array is the reference's. -/
theorem res6 : ((dats m 0 c).arrAt 6 cfg0.N : Vec Ideal S512x256 .f32) = Cert.Reference15Ideal.Read.val_main_v10 (a1 m c) (a3 m c) := by
  refine funext fun y => ?_
  obtain ⟨i, j, rfl⟩ : ∃ (i : Fin 512) (j : Fin 256), y = ix2 i j := ⟨y 0, y 1, by funext a; fin_cases a <;> rfl⟩
  have hb := congrFun (Value.blocks6 m c (pt i) (flush0_6 (pt i))) (ix2 (⟨i.val % 512, Nat.mod_lt _ (by decide)⟩ : Fin 512) j)
  rw [Value.flushed6, out6] at hb
  have hi : row (pt i) ⟨i.val % 512, Nat.mod_lt _ (by decide)⟩ = i := Fin.ext (by show i.val / 512 * 512 + i.val % 512 = i.val; omega)
  have ho := pay6 (iblk m c 1 (pt i)) (iblk m c 3 (pt i)) (a1 m c) (a3 m c) ⟨i.val % 512, Nat.mod_lt _ (by decide)⟩ i j
    ((blk1 m c _ _ _).trans (by rw [hi])) ((blk3 m c _ _ _).trans (by rw [hi]))
  rw [← ho]
  refine Eq.trans ?_ hb
  blk_ext [idx (pt i)]

/-- From arguments that agree, the call and the reference both run and return the same arrays. -/
theorem algebraic : @Cert.algebraic_Kernel15Ideal_Reference15Ideal Cert.Kernel15Ideal.Gen.facts Cert.Reference15Ideal.Gen.facts := by
  intro m g m' g' _ ha
  refine ⟨fun c => (dats m 0 c).arrAt 4 cfg0.N, fun c => (dats m 0 c).arrAt 5 cfg0.N, fun c => (dats m 0 c).arrAt 6 cfg0.N, Value.run_blocks m g, ?_⟩
  refine (θ_run _ _ _).mono (fun r h c => ?_) (Cert.Reference15Ideal.Value.run m' g')
  obtain ⟨h0, h1, h2, hk⟩ := h c
  obtain ⟨e0, e1, e2, e3⟩ := ha c
  refine ⟨h0.trans ?_, h1.trans ?_, h2.trans ?_, hk⟩
  · rw [Cert.Reference15Ideal.Read.val_main_v23_eq, e0, e1, e2, e3]
    exact (res4 m c).symm
  · rw [Cert.Reference15Ideal.Read.val_main_v4_eq, e1, e2]
    exact (res5 m c).symm
  · rw [Cert.Reference15Ideal.Read.val_main_v10_eq, e1, e3]
    exact (res6 m c).symm

/-- The reference keeps its arguments and leaves its counters at zero: it has none. -/
theorem reference_frame : @Cert.quiescent_Reference15Ideal Cert.Reference15Ideal.Gen.facts := by
  intro m ρ _
  exact (θ_run _ _ _).mono (fun r h => ⟨fun c => (h c).2.2.2, sem_eq_zero_of_no_sems (by decide) r.2⟩) (Cert.Reference15Ideal.Value.run m ρ)

end Cert.Kernel15Ideal.Adam

end
-- ==== Proof.Adam16.lean ====
module

public import proofs.«01_k».proof.Proof.Gen.Kernel16Ideal.Value
public import proofs.«01_k».proof.Defs
public import proofs.«01_k».proof.Proof.Gen.Reference16Ideal.Run
public import proofs.«01_k».proof.Proof.Gen.Reference16Ideal.Read
public import Idealize.ShloMosaic.Adequacy
public import Idealize.ShloMosaic.Init
public import Idealize.ShloMosaic.Lib.Pipeline.ValueKit
public import Idealize.ShloMosaic.Lib.Pipeline.ReadBack
public import Idealize.ShloMosaic.Lib.Pointwise
public import Idealize.ShloMosaic.Lib.ValueIdx

@[expose] public section

set_option maxRecDepth 16384

noncomputable section

/-! The optimiser's step of conv_w: the call's arrays and the reference's, at an index. -/

namespace Cert.Kernel16Ideal.Adam

open Cert.Kernel16Ideal Cert.Kernel16Ideal.Gen Idealize.ShloMosaic Idealize.ShloMosaic.TcCoe Idealize.SL.Sem

/-- A block's entry is the reference's, where the arguments' entries agree. -/
theorem pay5 (b c : Vec Ideal S31x256 .f32) (B C : (⟨S31x256, .f32⟩ : BufTy).Contents (Elt Ideal)) (r : Fin 31) (i : Fin 31) (j : Fin 256)
    (h1 : b (ix2 r j) = B (ix2 i j)) (h2 : c (ix2 r j) = C (ix2 i j)) :
    k0_pay1 b c (ix2 r j) = Cert.Reference16Ideal.Read.val_main_v4 B C (ix2 i j) := by
  unfold k0_pay1 Cert.Reference16Ideal.Read.val_main_v4
  unfold Cert.Reference16Ideal.Read.val_main_v3 Cert.Reference16Ideal.Read.val_main_v2 Cert.Reference16Ideal.Read.val_main_cst_0 Cert.Reference16Ideal.Read.val_main_v1 Cert.Reference16Ideal.Read.val_main_v0 Cert.Reference16Ideal.Read.val_main_cst
  pointwise
  rw [h1, h2]

/-- What a point leaves. -/
theorem out5 (a b c d : Vec Ideal S31x256 .f32) : out0_5 a b c d = k0_pay1 b c := by
  frame_out

/-- A block's entry is the reference's, where the arguments' entries agree. -/
theorem pay6 (b d : Vec Ideal S31x256 .f32) (B D : (⟨S31x256, .f32⟩ : BufTy).Contents (Elt Ideal)) (r : Fin 31) (i : Fin 31) (j : Fin 256)
    (h1 : b (ix2 r j) = B (ix2 i j)) (h3 : d (ix2 r j) = D (ix2 i j)) :
    k0_pay2 b d (ix2 r j) = Cert.Reference16Ideal.Read.val_main_v10 B D (ix2 i j) := by
  unfold k0_pay2 Cert.Reference16Ideal.Read.val_main_v10
  unfold Cert.Reference16Ideal.Read.val_main_v9 Cert.Reference16Ideal.Read.val_main_v8 Cert.Reference16Ideal.Read.val_main_cst_2 Cert.Reference16Ideal.Read.val_main_v7 Cert.Reference16Ideal.Read.val_main_v6 Cert.Reference16Ideal.Read.val_main_v5 Cert.Reference16Ideal.Read.val_main_cst_1
  pointwise
  rw [h1, h3]

/-- What a point leaves. -/
theorem out6 (a b c d : Vec Ideal S31x256 .f32) : out0_6 a b c d = k0_pay2 b d := by
  frame_out

/-- A block's entry is the reference's, where the arguments' entries agree. -/
theorem pay4 (a b c d : Vec Ideal S31x256 .f32) (A B C D : (⟨S31x256, .f32⟩ : BufTy).Contents (Elt Ideal)) (r : Fin 31) (i : Fin 31) (j : Fin 256)
    (h0 : a (ix2 r j) = A (ix2 i j)) (h1 : b (ix2 r j) = B (ix2 i j)) (h2 : c (ix2 r j) = C (ix2 i j)) (h3 : d (ix2 r j) = D (ix2 i j)) :
    k0_pay3 a b c d (ix2 r j) = Cert.Reference16Ideal.Read.val_main_v23 A B C D (ix2 i j) := by
  unfold k0_pay3 k0_pay1 k0_pay2 Cert.Reference16Ideal.Read.val_main_v23
  unfold Cert.Reference16Ideal.Read.val_main_v22 Cert.Reference16Ideal.Read.val_main_cst_7 Cert.Reference16Ideal.Read.val_main_v21 Cert.Reference16Ideal.Read.val_main_v20 Cert.Reference16Ideal.Read.val_main_v19 Cert.Reference16Ideal.Read.val_main_cst_6 Cert.Reference16Ideal.Read.val_main_v18 Cert.Reference16Ideal.Read.val_main_v17 Cert.Reference16Ideal.Read.val_main_v16 Cert.Reference16Ideal.Read.val_main_cst_5 Cert.Reference16Ideal.Read.val_main_v15 Cert.Reference16Ideal.Read.val_main_v14 Cert.Reference16Ideal.Read.val_main_v13 Cert.Reference16Ideal.Read.val_main_cst_4 Cert.Reference16Ideal.Read.val_main_v12 Cert.Reference16Ideal.Read.val_main_v11 Cert.Reference16Ideal.Read.val_main_cst_3 Cert.Reference16Ideal.Read.val_main_v10 Cert.Reference16Ideal.Read.val_main_v9 Cert.Reference16Ideal.Read.val_main_v8 Cert.Reference16Ideal.Read.val_main_cst_2 Cert.Reference16Ideal.Read.val_main_v7 Cert.Reference16Ideal.Read.val_main_v6 Cert.Reference16Ideal.Read.val_main_v5 Cert.Reference16Ideal.Read.val_main_cst_1 Cert.Reference16Ideal.Read.val_main_v4 Cert.Reference16Ideal.Read.val_main_v3 Cert.Reference16Ideal.Read.val_main_v2 Cert.Reference16Ideal.Read.val_main_cst_0 Cert.Reference16Ideal.Read.val_main_v1 Cert.Reference16Ideal.Read.val_main_v0 Cert.Reference16Ideal.Read.val_main_cst
  pointwise
  rw [h0, h1, h2, h3]

/-- What a point leaves. -/
theorem out4 (a b c d : Vec Ideal S31x256 .f32) : out0_4 a b c d = k0_pay3 a b c d := by
  frame_out

variable (m : (ℓ : Loc nD τ sig) → Buf (Elt Ideal) ℓ) (c : Dev nD)

/-- The weights. -/
abbrev a0 : (⟨S31x256, .f32⟩ : BufTy).Contents (Elt Ideal) := m ((c.tc : Thread nD τ).loc main_arg0)
/-- Their gradient. -/
abbrev a1 : (⟨S31x256, .f32⟩ : BufTy).Contents (Elt Ideal) := m ((c.tc : Thread nD τ).loc main_arg1)
/-- The first moment. -/
abbrev a2 : (⟨S31x256, .f32⟩ : BufTy).Contents (Elt Ideal) := m ((c.tc : Thread nD τ).loc main_arg2)
/-- The second moment. -/
abbrev a3 : (⟨S31x256, .f32⟩ : BufTy).Contents (Elt Ideal) := m ((c.tc : Thread nD τ).loc main_arg3)

/-- The block each window is at. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The bound on the number of grid points. -/
theorem ltN (t : Fin cfg0.N) : t.val < 1 := t.isLt

/-- Row `r` of a point's block. -/
abbrev row (t : Fin cfg0.N) (r : Fin 31) : Fin 31 := ⟨t.val * 31 + r.val, by have := ltN t; omega⟩

/-- What block 0 of a point holds, in terms of the arguments. -/
theorem blk0 (t : Fin cfg0.N) (r : Fin 31) (j : Fin 256) : (iblk m c 0 t : Vec Ideal S31x256 .f32) (ix2 r j) = a0 m c (ix2 (row t r) j) := by
  blk_ext [iblk, idx t]
/-- What block 1 of a point holds, in terms of the arguments. -/
theorem blk1 (t : Fin cfg0.N) (r : Fin 31) (j : Fin 256) : (iblk m c 1 t : Vec Ideal S31x256 .f32) (ix2 r j) = a1 m c (ix2 (row t r) j) := by
  blk_ext [iblk, idx t]
/-- What block 2 of a point holds, in terms of the arguments. -/
theorem blk2 (t : Fin cfg0.N) (r : Fin 31) (j : Fin 256) : (iblk m c 2 t : Vec Ideal S31x256 .f32) (ix2 r j) = a2 m c (ix2 (row t r) j) := by
  blk_ext [iblk, idx t]
/-- What block 3 of a point holds, in terms of the arguments. -/
theorem blk3 (t : Fin cfg0.N) (r : Fin 31) (j : Fin 256) : (iblk m c 3 t : Vec Ideal S31x256 .f32) (ix2 r j) = a3 m c (ix2 (row t r) j) := by
  blk_ext [iblk, idx t]

/-- The point of a row. -/
abbrev pt (i : Fin 31) : Fin cfg0.N := ⟨i.val / 31, by show _ < 1; omega⟩

/-- The call's array is the reference's. -/
theorem res4 : ((dats m 0 c).arrAt 4 cfg0.N : Vec Ideal S31x256 .f32) = Cert.Reference16Ideal.Read.val_main_v23 (a0 m c) (a1 m c) (a2 m c) (a3 m c) := by
  refine funext fun y => ?_
  obtain ⟨i, j, rfl⟩ : ∃ (i : Fin 31) (j : Fin 256), y = ix2 i j := ⟨y 0, y 1, by funext a; fin_cases a <;> rfl⟩
  have hb := congrFun (Value.blocks4 m c (pt i) (flush0_4 (pt i))) (ix2 (⟨i.val % 31, Nat.mod_lt _ (by decide)⟩ : Fin 31) j)
  rw [Value.flushed4, out4] at hb
  have hi : row (pt i) ⟨i.val % 31, Nat.mod_lt _ (by decide)⟩ = i := Fin.ext (by show i.val / 31 * 31 + i.val % 31 = i.val; omega)
  have ho := pay4 (iblk m c 0 (pt i)) (iblk m c 1 (pt i)) (iblk m c 2 (pt i)) (iblk m c 3 (pt i)) (a0 m c) (a1 m c) (a2 m c) (a3 m c) ⟨i.val % 31, Nat.mod_lt _ (by decide)⟩ i j
    ((blk0 m c _ _ _).trans (by rw [hi])) ((blk1 m c _ _ _).trans (by rw [hi])) ((blk2 m c _ _ _).trans (by rw [hi])) ((blk3 m c _ _ _).trans (by rw [hi]))
  rw [← ho]
  refine Eq.trans ?_ hb
  blk_ext [idx (pt i)]

/-- The call's array is the reference's. -/
theorem res5 : ((dats m 0 c).arrAt 5 cfg0.N : Vec Ideal S31x256 .f32) = Cert.Reference16Ideal.Read.val_main_v4 (a1 m c) (a2 m c) := by
  refine funext fun y => ?_
  obtain ⟨i, j, rfl⟩ : ∃ (i : Fin 31) (j : Fin 256), y = ix2 i j := ⟨y 0, y 1, by funext a; fin_cases a <;> rfl⟩
  have hb := congrFun (Value.blocks5 m c (pt i) (flush0_5 (pt i))) (ix2 (⟨i.val % 31, Nat.mod_lt _ (by decide)⟩ : Fin 31) j)
  rw [Value.flushed5, out5] at hb
  have hi : row (pt i) ⟨i.val % 31, Nat.mod_lt _ (by decide)⟩ = i := Fin.ext (by show i.val / 31 * 31 + i.val % 31 = i.val; omega)
  have ho := pay5 (iblk m c 1 (pt i)) (iblk m c 2 (pt i)) (a1 m c) (a2 m c) ⟨i.val % 31, Nat.mod_lt _ (by decide)⟩ i j
    ((blk1 m c _ _ _).trans (by rw [hi])) ((blk2 m c _ _ _).trans (by rw [hi]))
  rw [← ho]
  refine Eq.trans ?_ hb
  blk_ext [idx (pt i)]

/-- The call's array is the reference's. -/
theorem res6 : ((dats m 0 c).arrAt 6 cfg0.N : Vec Ideal S31x256 .f32) = Cert.Reference16Ideal.Read.val_main_v10 (a1 m c) (a3 m c) := by
  refine funext fun y => ?_
  obtain ⟨i, j, rfl⟩ : ∃ (i : Fin 31) (j : Fin 256), y = ix2 i j := ⟨y 0, y 1, by funext a; fin_cases a <;> rfl⟩
  have hb := congrFun (Value.blocks6 m c (pt i) (flush0_6 (pt i))) (ix2 (⟨i.val % 31, Nat.mod_lt _ (by decide)⟩ : Fin 31) j)
  rw [Value.flushed6, out6] at hb
  have hi : row (pt i) ⟨i.val % 31, Nat.mod_lt _ (by decide)⟩ = i := Fin.ext (by show i.val / 31 * 31 + i.val % 31 = i.val; omega)
  have ho := pay6 (iblk m c 1 (pt i)) (iblk m c 3 (pt i)) (a1 m c) (a3 m c) ⟨i.val % 31, Nat.mod_lt _ (by decide)⟩ i j
    ((blk1 m c _ _ _).trans (by rw [hi])) ((blk3 m c _ _ _).trans (by rw [hi]))
  rw [← ho]
  refine Eq.trans ?_ hb
  blk_ext [idx (pt i)]

/-- From arguments that agree, the call and the reference both run and return the same arrays. -/
theorem algebraic : @Cert.algebraic_Kernel16Ideal_Reference16Ideal Cert.Kernel16Ideal.Gen.facts Cert.Reference16Ideal.Gen.facts := by
  intro m g m' g' _ ha
  refine ⟨fun c => (dats m 0 c).arrAt 4 cfg0.N, fun c => (dats m 0 c).arrAt 5 cfg0.N, fun c => (dats m 0 c).arrAt 6 cfg0.N, Value.run_blocks m g, ?_⟩
  refine (θ_run _ _ _).mono (fun r h c => ?_) (Cert.Reference16Ideal.Value.run m' g')
  obtain ⟨h0, h1, h2, hk⟩ := h c
  obtain ⟨e0, e1, e2, e3⟩ := ha c
  refine ⟨h0.trans ?_, h1.trans ?_, h2.trans ?_, hk⟩
  · rw [Cert.Reference16Ideal.Read.val_main_v23_eq, e0, e1, e2, e3]
    exact (res4 m c).symm
  · rw [Cert.Reference16Ideal.Read.val_main_v4_eq, e1, e2]
    exact (res5 m c).symm
  · rw [Cert.Reference16Ideal.Read.val_main_v10_eq, e1, e3]
    exact (res6 m c).symm

/-- The reference keeps its arguments and leaves its counters at zero: it has none. -/
theorem reference_frame : @Cert.quiescent_Reference16Ideal Cert.Reference16Ideal.Gen.facts := by
  intro m ρ _
  exact (θ_run _ _ _).mono (fun r h => ⟨fun c => (h c).2.2.2, sem_eq_zero_of_no_sems (by decide) r.2⟩) (Cert.Reference16Ideal.Value.run m ρ)

end Cert.Kernel16Ideal.Adam

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.OutBwd
public import proofs.«01_k».proof.Proof.OutProj
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Values
public import proofs.«01_k».proof.Proof.Finite
public import proofs.«01_k».proof.Proof.Up
public import proofs.«01_k».proof.Proof.Act
public import proofs.«01_k».proof.Proof.Wg2
public import proofs.«01_k».proof.Proof.Wg1
public import proofs.«01_k».proof.Proof.InProj
public import proofs.«01_k».proof.Proof.WgIn
public import proofs.«01_k».proof.Proof.WgOut
public import proofs.«01_k».proof.Proof.WgUq
public import proofs.«01_k».proof.Proof.WgUk
public import proofs.«01_k».proof.Proof.Adam11
public import proofs.«01_k».proof.Proof.Adam12
public import proofs.«01_k».proof.Proof.Adam13
public import proofs.«01_k».proof.Proof.Adam14
public import proofs.«01_k».proof.Proof.Adam15
public import proofs.«01_k».proof.Proof.Adam16
public import Idealize.ShloMosaic.Adequacy
public import Idealize.ShloMosaic.Init

@[expose] public section

noncomputable section

namespace Cert.Proof

open Idealize.ShloMosaic Idealize.SL.Sem Cert.Kernel

/-- Under the precondition the kernel's three results are the reference's. -/
theorem algebraic : @Cert.algebraic_KernelIdeal_ReferenceIdeal_pre_finite Cert.KernelIdeal.Gen.facts Cert.ReferenceIdeal.Gen.facts Cert.Pre_finite.Gen.facts := by
  intro m g m' g' hp ha
  have H := fun c : Dev Cert.KernelIdeal.nD => Cert.Finite.holds _ _ _ _ _ (fun j => congrFun (hp c) j)
  refine ⟨fun c => (Cert.KernelIdeal.Gen.dats m 0 c).arrAt 8 Cert.KernelIdeal.cfg0.N, fun c => (Cert.KernelIdeal.Gen.dats m 0 c).arrAt 9 Cert.KernelIdeal.cfg0.N,
    fun c => (Cert.KernelIdeal.Gen.dats m 0 c).arrAt 10 Cert.KernelIdeal.cfg0.N, Cert.KernelIdeal.Value.run_blocks m g, ?_⟩
  refine (θ_run _ _ _).mono (fun r h c => ?_) (Cert.ReferenceIdeal.Value.run m' g')
  obtain ⟨h0, h1, h2, hk⟩ := h c
  obtain ⟨e0, e1, e2, e3, e4⟩ := ha c
  refine ⟨h0.trans ?_, h1.trans ?_, h2.trans ?_, hk⟩
  · rw [Cert.ReferenceIdeal.Read.val_main_v73_eq, e0, e1, e2, e3, e4]
    exact (Cert.KernelIdeal.Values.res0 m c (H c)).symm
  · rw [Cert.ReferenceIdeal.Read.val_main_v76_eq, e0, e1, e2, e3, e4]
    exact (Cert.KernelIdeal.Values.res1 m c (H c)).symm
  · rw [Cert.ReferenceIdeal.Read.val_main_v77_eq, e0, e1, e2, e4]
    exact (Cert.KernelIdeal.Values.res2 m c (H c)).symm

/-- Each named constant's word rounds its value, so that the two kernels are one program. -/
theorem preserves : Cert.preserves_Kernel_KernelIdeal :=
  ⟨IdealRules.named_const.statement Cert.KernelIdeal.κ "scale_log2e" .f32 0x3DD53B95#32 _ rfl,
    IdealRules.named_const.statement Cert.KernelIdeal.κ "scale" .f32 0x3D93CD3A#32 _ rfl⟩

/-- The reference keeps its arguments and leaves its counters at zero: it has none. -/
theorem reference_frame : @Cert.quiescent_ReferenceIdeal Cert.ReferenceIdeal.Gen.facts := by
  intro m ρ _
  exact (θ_run _ _ _).mono (fun r h => ⟨fun c => (h c).2.2.2, sem_eq_zero_of_no_sems (by decide) r.2⟩) (Cert.ReferenceIdeal.Value.run m ρ)

/-- All claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel19.Gen.facts, Cert.Kernel19Ideal.Gen.facts, Cert.Reference19Ideal.Gen.facts,
  Cert.Pre_finite.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Kernel2.Gen.frame m ρ, fun m ρ _ => Cert.Kernel2Ideal.Gen.frame m ρ, Cert.Kernel2Ideal.Up.reference_frame,
  fun m ρ _ => Cert.Kernel3.Gen.frame m ρ, fun m ρ _ => Cert.Kernel3Ideal.Gen.frame m ρ, Cert.Kernel3Ideal.Act.reference_frame,
  fun m ρ _ => Cert.Kernel4.Gen.frame m ρ, fun m ρ _ => Cert.Kernel4Ideal.Gen.frame m ρ, Cert.Kernel4Ideal.Wg.reference_frame,
  fun m ρ _ => Cert.Kernel5.Gen.frame m ρ, fun m ρ _ => Cert.Kernel5Ideal.Gen.frame m ρ, Cert.Kernel5Ideal.Wg.reference_frame,
  fun m ρ _ => Cert.Kernel6.Gen.frame m ρ, fun m ρ _ => Cert.Kernel6Ideal.Gen.frame m ρ, Cert.Kernel6Ideal.InProj.reference_frame,
  fun m ρ _ => Cert.Kernel7.Gen.frame m ρ, fun m ρ _ => Cert.Kernel7Ideal.Gen.frame m ρ, Cert.Kernel7Ideal.Wg.reference_frame,
  fun m ρ _ => Cert.Kernel8.Gen.frame m ρ, fun m ρ _ => Cert.Kernel8Ideal.Gen.frame m ρ, Cert.Kernel8Ideal.Wg.reference_frame,
  fun m ρ _ => Cert.Kernel9.Gen.frame m ρ, fun m ρ _ => Cert.Kernel9Ideal.Gen.frame m ρ, Cert.Kernel9Ideal.Wg.reference_frame,
  fun m ρ _ => Cert.Kernel10.Gen.frame m ρ, fun m ρ _ => Cert.Kernel10Ideal.Gen.frame m ρ, Cert.Kernel10Ideal.Wg.reference_frame,
  fun m ρ _ => Cert.Kernel11.Gen.frame m ρ, fun m ρ _ => Cert.Kernel11Ideal.Gen.frame m ρ, Cert.Kernel11Ideal.Adam.reference_frame,
  fun m ρ _ => Cert.Kernel12.Gen.frame m ρ, fun m ρ _ => Cert.Kernel12Ideal.Gen.frame m ρ, Cert.Kernel12Ideal.Adam.reference_frame,
  fun m ρ _ => Cert.Kernel13.Gen.frame m ρ, fun m ρ _ => Cert.Kernel13Ideal.Gen.frame m ρ, Cert.Kernel13Ideal.Adam.reference_frame,
  fun m ρ _ => Cert.Kernel14.Gen.frame m ρ, fun m ρ _ => Cert.Kernel14Ideal.Gen.frame m ρ, Cert.Kernel14Ideal.Adam.reference_frame,
  fun m ρ _ => Cert.Kernel15.Gen.frame m ρ, fun m ρ _ => Cert.Kernel15Ideal.Gen.frame m ρ, Cert.Kernel15Ideal.Adam.reference_frame,
  fun m ρ _ => Cert.Kernel16.Gen.frame m ρ, fun m ρ _ => Cert.Kernel16Ideal.Gen.frame m ρ, Cert.Kernel16Ideal.Adam.reference_frame,
  fun m ρ _ => Cert.Kernel17.Gen.frame m ρ, fun m ρ _ => Cert.Kernel17Ideal.Gen.frame m ρ, Cert.Kernel17Ideal.OutBwd.reference_frame,
  fun m ρ _ => Cert.Kernel19.Gen.frame m ρ, fun m ρ _ => Cert.Kernel19Ideal.Gen.frame m ρ, Cert.Kernel19Ideal.OutProj.reference_frame,
  preserves, algebraic,
  trivial, Cert.Kernel2Ideal.Up.algebraic,
  trivial, Cert.Kernel3Ideal.Act.algebraic,
  trivial, Cert.Kernel4Ideal.Wg.algebraic,
  trivial, Cert.Kernel5Ideal.Wg.algebraic,
  trivial, Cert.Kernel6Ideal.InProj.algebraic,
  trivial, Cert.Kernel7Ideal.Wg.algebraic,
  trivial, Cert.Kernel8Ideal.Wg.algebraic,
  trivial, Cert.Kernel9Ideal.Wg.algebraic,
  trivial, Cert.Kernel10Ideal.Wg.algebraic,
  trivial, Cert.Kernel11Ideal.Adam.algebraic,
  trivial, Cert.Kernel12Ideal.Adam.algebraic,
  trivial, Cert.Kernel13Ideal.Adam.algebraic,
  trivial, Cert.Kernel14Ideal.Adam.algebraic,
  trivial, Cert.Kernel15Ideal.Adam.algebraic,
  trivial, Cert.Kernel16Ideal.Adam.algebraic,
  trivial, Cert.Kernel17Ideal.OutBwd.algebraic,
  trivial, Cert.Kernel19Ideal.OutProj.algebraic⟩

end Cert.Proof

end
